-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InRet (m : (ℓ : Loc Cert.InRet.nD Cert.InRet.τ Cert.InRet.sig) → Buf (Elt Bits) ℓ) : Prop :=
  True

def Pre_InRetIdeal (m : (ℓ : Loc Cert.InRetIdeal.nD Cert.InRetIdeal.τ Cert.InRetIdeal.sig) → Buf (Elt Ideal) ℓ) : Prop :=
  True

def Pre_InRetRefIdeal (m : (ℓ : Loc Cert.InRetRefIdeal.nD Cert.InRetRefIdeal.τ Cert.InRetRefIdeal.sig) → Buf (Elt Ideal) ℓ) : Prop :=
  True

def Pre_InSwa (m : (ℓ : Loc Cert.InSwa.nD Cert.InSwa.τ Cert.InSwa.sig) → Buf (Elt Bits) ℓ) : Prop :=
  True

def Pre_InSwaIdeal (m : (ℓ : Loc Cert.InSwaIdeal.nD Cert.InSwaIdeal.τ Cert.InSwaIdeal.sig) → Buf (Elt Ideal) ℓ) : Prop :=
  True

def Pre_InSwaRefIdeal (m : (ℓ : Loc Cert.InSwaRefIdeal.nD Cert.InSwaRefIdeal.τ Cert.InSwaRefIdeal.sig) → Buf (Elt Ideal) ℓ) : Prop :=
  True

def Pre_InRkv (m : (ℓ : Loc Cert.InRkv.nD Cert.InRkv.τ Cert.InRkv.sig) → Buf (Elt Bits) ℓ) : Prop :=
  True

def Pre_InRkvIdeal (m : (ℓ : Loc Cert.InRkvIdeal.nD Cert.InRkvIdeal.τ Cert.InRkvIdeal.sig) → Buf (Elt Ideal) ℓ) : Prop :=
  True

def Pre_InRkvRefIdeal (m : (ℓ : Loc Cert.InRkvRefIdeal.nD Cert.InRkvRefIdeal.τ Cert.InRkvRefIdeal.sig) → Buf (Elt Ideal) ℓ) : Prop :=
  True

def Pre_InSmall (m : (ℓ : Loc Cert.InSmall.nD Cert.InSmall.τ Cert.InSmall.sig) → Buf (Elt Bits) ℓ) : Prop :=
  True

def Pre_InSmallIdeal (m : (ℓ : Loc Cert.InSmallIdeal.nD Cert.InSmallIdeal.τ Cert.InSmallIdeal.sig) → Buf (Elt Ideal) ℓ) : Prop :=
  True

def Pre_InSmallRefIdeal (m : (ℓ : Loc Cert.InSmallRefIdeal.nD Cert.InSmallRefIdeal.τ Cert.InSmallRefIdeal.sig) → Buf (Elt Ideal) ℓ) : Prop :=
  True

def Pre_InGate (m : (ℓ : Loc Cert.InGate.nD Cert.InGate.τ Cert.InGate.sig) → Buf (Elt Bits) ℓ) : Prop :=
  True

def Pre_InGateIdeal (m : (ℓ : Loc Cert.InGateIdeal.nD Cert.InGateIdeal.τ Cert.InGateIdeal.sig) → Buf (Elt Ideal) ℓ) : Prop :=
  True

def Pre_InGateRefIdeal (m : (ℓ : Loc Cert.InGateRefIdeal.nD Cert.InGateRefIdeal.τ Cert.InGateRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InRet [hInRet : Cert.InRet.Facts] : Prop :=
  ∀ (m : (ℓ : Loc Cert.InRet.nD Cert.InRet.τ Cert.InRet.sig) → Buf (Elt Bits) ℓ) (g : Dev Cert.InRet.nD → PrngReg), Pre_InRet m →
    θ_run (Cert.InRet.defs (F := Bits)) (onTc (τ := Cert.InRet.τ) (Cert.InRet.main (F := Bits))) ⟨m, fun _ => 0, g⟩ (fun r => (∀ c : Dev Cert.InRet.nD,
      r.2.mem ((c.tc : Thread Cert.InRet.nD Cert.InRet.τ).loc Cert.InRet.main_arg0) = m ((c.tc : Thread Cert.InRet.nD Cert.InRet.τ).loc Cert.InRet.main_arg0)
      ∧ r.2.mem ((c.tc : Thread Cert.InRet.nD Cert.InRet.τ).loc Cert.InRet.main_arg1) = m ((c.tc : Thread Cert.InRet.nD Cert.InRet.τ).loc Cert.InRet.main_arg1))
      ∧ r.2.sem = fun _ => 0)

def quiescent_InRetIdeal [hInRetIdeal : Cert.InRetIdeal.Facts] : Prop :=
  ∀ (m : (ℓ : Loc Cert.InRetIdeal.nD Cert.InRetIdeal.τ Cert.InRetIdeal.sig) → Buf (Elt Ideal) ℓ) (g : Dev Cert.InRetIdeal.nD → PrngReg), Pre_InRetIdeal m →
    θ_run (Cert.InRetIdeal.defs (F := Ideal)) (onTc (τ := Cert.InRetIdeal.τ) (Cert.InRetIdeal.main (F := Ideal))) ⟨m, fun _ => 0, g⟩ (fun r => (∀ c : Dev Cert.InRetIdeal.nD,
      r.2.mem ((c.tc : Thread Cert.InRetIdeal.nD Cert.InRetIdeal.τ).loc Cert.InRetIdeal.main_arg0) = m ((c.tc : Thread Cert.InRetIdeal.nD Cert.InRetIdeal.τ).loc Cert.InRetIdeal.main_arg0)
      ∧ r.2.mem ((c.tc : Thread Cert.InRetIdeal.nD Cert.InRetIdeal.τ).loc Cert.InRetIdeal.main_arg1) = m ((c.tc : Thread Cert.InRetIdeal.nD Cert.InRetIdeal.τ).loc Cert.InRetIdeal.main_arg1))
      ∧ r.2.sem = fun _ => 0)

def quiescent_InRetRefIdeal [hInRetRefIdeal : Cert.InRetRefIdeal.Facts] : Prop :=
  ∀ (m : (ℓ : Loc Cert.InRetRefIdeal.nD Cert.InRetRefIdeal.τ Cert.InRetRefIdeal.sig) → Buf (Elt Ideal) ℓ) (g : Dev Cert.InRetRefIdeal.nD → PrngReg), Pre_InRetRefIdeal m →
    θ_run (Cert.InRetRefIdeal.defs (F := Ideal)) (onTc (τ := Cert.InRetRefIdeal.τ) (Cert.InRetRefIdeal.main (F := Ideal))) ⟨m, fun _ => 0, g⟩ (fun r => (∀ c : Dev Cert.InRetRefIdeal.nD,
      r.2.mem ((c.tc : Thread Cert.InRetRefIdeal.nD Cert.InRetRefIdeal.τ).loc Cert.InRetRefIdeal.main_arg0) = m ((c.tc : Thread Cert.InRetRefIdeal.nD Cert.InRetRefIdeal.τ).loc Cert.InRetRefIdeal.main_arg0)
      ∧ r.2.mem ((c.tc : Thread Cert.InRetRefIdeal.nD Cert.InRetRefIdeal.τ).loc Cert.InRetRefIdeal.main_arg1) = m ((c.tc : Thread Cert.InRetRefIdeal.nD Cert.InRetRefIdeal.τ).loc Cert.InRetRefIdeal.main_arg1))
      ∧ r.2.sem = fun _ => 0)

def quiescent_InSwa [hInSwa : Cert.InSwa.Facts] : Prop :=
  ∀ (m : (ℓ : Loc Cert.InSwa.nD Cert.InSwa.τ Cert.InSwa.sig) → Buf (Elt Bits) ℓ) (g : Dev Cert.InSwa.nD → PrngReg), Pre_InSwa m →
    θ_run (Cert.InSwa.defs (F := Bits)) (onTc (τ := Cert.InSwa.τ) (Cert.InSwa.main (F := Bits))) ⟨m, fun _ => 0, g⟩ (fun r => (∀ c : Dev Cert.InSwa.nD,
      r.2.mem ((c.tc : Thread Cert.InSwa.nD Cert.InSwa.τ).loc Cert.InSwa.main_arg0) = m ((c.tc : Thread Cert.InSwa.nD Cert.InSwa.τ).loc Cert.InSwa.main_arg0)
      ∧ r.2.mem ((c.tc : Thread Cert.InSwa.nD Cert.InSwa.τ).loc Cert.InSwa.main_arg1) = m ((c.tc : Thread Cert.InSwa.nD Cert.InSwa.τ).loc Cert.InSwa.main_arg1))
      ∧ r.2.sem = fun _ => 0)

def quiescent_InSwaIdeal [hInSwaIdeal : Cert.InSwaIdeal.Facts] : Prop :=
  ∀ (m : (ℓ : Loc Cert.InSwaIdeal.nD Cert.InSwaIdeal.τ Cert.InSwaIdeal.sig) → Buf (Elt Ideal) ℓ) (g : Dev Cert.InSwaIdeal.nD → PrngReg), Pre_InSwaIdeal m →
    θ_run (Cert.InSwaIdeal.defs (F := Ideal)) (onTc (τ := Cert.InSwaIdeal.τ) (Cert.InSwaIdeal.main (F := Ideal))) ⟨m, fun _ => 0, g⟩ (fun r => (∀ c : Dev Cert.InSwaIdeal.nD,
      r.2.mem ((c.tc : Thread Cert.InSwaIdeal.nD Cert.InSwaIdeal.τ).loc Cert.InSwaIdeal.main_arg0) = m ((c.tc : Thread Cert.InSwaIdeal.nD Cert.InSwaIdeal.τ).loc Cert.InSwaIdeal.main_arg0)
      ∧ r.2.mem ((c.tc : Thread Cert.InSwaIdeal.nD Cert.InSwaIdeal.τ).loc Cert.InSwaIdeal.main_arg1) = m ((c.tc : Thread Cert.InSwaIdeal.nD Cert.InSwaIdeal.τ).loc Cert.InSwaIdeal.main_arg1))
      ∧ r.2.sem = fun _ => 0)

def quiescent_InSwaRefIdeal [hInSwaRefIdeal : Cert.InSwaRefIdeal.Facts] : Prop :=
  ∀ (m : (ℓ : Loc Cert.InSwaRefIdeal.nD Cert.InSwaRefIdeal.τ Cert.InSwaRefIdeal.sig) → Buf (Elt Ideal) ℓ) (g : Dev Cert.InSwaRefIdeal.nD → PrngReg), Pre_InSwaRefIdeal m →
    θ_run (Cert.InSwaRefIdeal.defs (F := Ideal)) (onTc (τ := Cert.InSwaRefIdeal.τ) (Cert.InSwaRefIdeal.main (F := Ideal))) ⟨m, fun _ => 0, g⟩ (fun r => (∀ c : Dev Cert.InSwaRefIdeal.nD,
      r.2.mem ((c.tc : Thread Cert.InSwaRefIdeal.nD Cert.InSwaRefIdeal.τ).loc Cert.InSwaRefIdeal.main_arg0) = m ((c.tc : Thread Cert.InSwaRefIdeal.nD Cert.InSwaRefIdeal.τ).loc Cert.InSwaRefIdeal.main_arg0)
      ∧ r.2.mem ((c.tc : Thread Cert.InSwaRefIdeal.nD Cert.InSwaRefIdeal.τ).loc Cert.InSwaRefIdeal.main_arg1) = m ((c.tc : Thread Cert.InSwaRefIdeal.nD Cert.InSwaRefIdeal.τ).loc Cert.InSwaRefIdeal.main_arg1))
      ∧ r.2.sem = fun _ => 0)

def quiescent_InRkv [hInRkv : Cert.InRkv.Facts] : Prop :=
  ∀ (m : (ℓ : Loc Cert.InRkv.nD Cert.InRkv.τ Cert.InRkv.sig) → Buf (Elt Bits) ℓ) (g : Dev Cert.InRkv.nD → PrngReg), Pre_InRkv m →
    θ_run (Cert.InRkv.defs (F := Bits)) (onTc (τ := Cert.InRkv.τ) (Cert.InRkv.main (F := Bits))) ⟨m, fun _ => 0, g⟩ (fun r => (∀ c : Dev Cert.InRkv.nD,
      r.2.mem ((c.tc : Thread Cert.InRkv.nD Cert.InRkv.τ).loc Cert.InRkv.main_arg0) = m ((c.tc : Thread Cert.InRkv.nD Cert.InRkv.τ).loc Cert.InRkv.main_arg0)
      ∧ r.2.mem ((c.tc : Thread Cert.InRkv.nD Cert.InRkv.τ).loc Cert.InRkv.main_arg1) = m ((c.tc : Thread Cert.InRkv.nD Cert.InRkv.τ).loc Cert.InRkv.main_arg1))
      ∧ r.2.sem = fun _ => 0)

def quiescent_InRkvIdeal [hInRkvIdeal : Cert.InRkvIdeal.Facts] : Prop :=
  ∀ (m : (ℓ : Loc Cert.InRkvIdeal.nD Cert.InRkvIdeal.τ Cert.InRkvIdeal.sig) → Buf (Elt Ideal) ℓ) (g : Dev Cert.InRkvIdeal.nD → PrngReg), Pre_InRkvIdeal m →
    θ_run (Cert.InRkvIdeal.defs (F := Ideal)) (onTc (τ := Cert.InRkvIdeal.τ) (Cert.InRkvIdeal.main (F := Ideal))) ⟨m, fun _ => 0, g⟩ (fun r => (∀ c : Dev Cert.InRkvIdeal.nD,
      r.2.mem ((c.tc : Thread Cert.InRkvIdeal.nD Cert.InRkvIdeal.τ).loc Cert.InRkvIdeal.main_arg0) = m ((c.tc : Thread Cert.InRkvIdeal.nD Cert.InRkvIdeal.τ).loc Cert.InRkvIdeal.main_arg0)
      ∧ r.2.mem ((c.tc : Thread Cert.InRkvIdeal.nD Cert.InRkvIdeal.τ).loc Cert.InRkvIdeal.main_arg1) = m ((c.tc : Thread Cert.InRkvIdeal.nD Cert.InRkvIdeal.τ).loc Cert.InRkvIdeal.main_arg1))
      ∧ r.2.sem = fun _ => 0)

def quiescent_InRkvRefIdeal [hInRkvRefIdeal : Cert.InRkvRefIdeal.Facts] : Prop :=
  ∀ (m : (ℓ : Loc Cert.InRkvRefIdeal.nD Cert.InRkvRefIdeal.τ Cert.InRkvRefIdeal.sig) → Buf (Elt Ideal) ℓ) (g : Dev Cert.InRkvRefIdeal.nD → PrngReg), Pre_InRkvRefIdeal m →
    θ_run (Cert.InRkvRefIdeal.defs (F := Ideal)) (onTc (τ := Cert.InRkvRefIdeal.τ) (Cert.InRkvRefIdeal.main (F := Ideal))) ⟨m, fun _ => 0, g⟩ (fun r => (∀ c : Dev Cert.InRkvRefIdeal.nD,
      r.2.mem ((c.tc : Thread Cert.InRkvRefIdeal.nD Cert.InRkvRefIdeal.τ).loc Cert.InRkvRefIdeal.main_arg0) = m ((c.tc : Thread Cert.InRkvRefIdeal.nD Cert.InRkvRefIdeal.τ).loc Cert.InRkvRefIdeal.main_arg0)
      ∧ r.2.mem ((c.tc : Thread Cert.InRkvRefIdeal.nD Cert.InRkvRefIdeal.τ).loc Cert.InRkvRefIdeal.main_arg1) = m ((c.tc : Thread Cert.InRkvRefIdeal.nD Cert.InRkvRefIdeal.τ).loc Cert.InRkvRefIdeal.main_arg1))
      ∧ r.2.sem = fun _ => 0)

def quiescent_InSmall [hInSmall : Cert.InSmall.Facts] : Prop :=
  ∀ (m : (ℓ : Loc Cert.InSmall.nD Cert.InSmall.τ Cert.InSmall.sig) → Buf (Elt Bits) ℓ) (g : Dev Cert.InSmall.nD → PrngReg), Pre_InSmall m →
    θ_run (Cert.InSmall.defs (F := Bits)) (onTc (τ := Cert.InSmall.τ) (Cert.InSmall.main (F := Bits))) ⟨m, fun _ => 0, g⟩ (fun r => (∀ c : Dev Cert.InSmall.nD,
      r.2.mem ((c.tc : Thread Cert.InSmall.nD Cert.InSmall.τ).loc Cert.InSmall.main_arg0) = m ((c.tc : Thread Cert.InSmall.nD Cert.InSmall.τ).loc Cert.InSmall.main_arg0)
      ∧ r.2.mem ((c.tc : Thread Cert.InSmall.nD Cert.InSmall.τ).loc Cert.InSmall.main_arg1) = m ((c.tc : Thread Cert.InSmall.nD Cert.InSmall.τ).loc Cert.InSmall.main_arg1))
      ∧ r.2.sem = fun _ => 0)

def quiescent_InSmallIdeal [hInSmallIdeal : Cert.InSmallIdeal.Facts] : Prop :=
  ∀ (m : (ℓ : Loc Cert.InSmallIdeal.nD Cert.InSmallIdeal.τ Cert.InSmallIdeal.sig) → Buf (Elt Ideal) ℓ) (g : Dev Cert.InSmallIdeal.nD → PrngReg), Pre_InSmallIdeal m →
    θ_run (Cert.InSmallIdeal.defs (F := Ideal)) (onTc (τ := Cert.InSmallIdeal.τ) (Cert.InSmallIdeal.main (F := Ideal))) ⟨m, fun _ => 0, g⟩ (fun r => (∀ c : Dev Cert.InSmallIdeal.nD,
      r.2.mem ((c.tc : Thread Cert.InSmallIdeal.nD Cert.InSmallIdeal.τ).loc Cert.InSmallIdeal.main_arg0) = m ((c.tc : Thread Cert.InSmallIdeal.nD Cert.InSmallIdeal.τ).loc Cert.InSmallIdeal.main_arg0)
      ∧ r.2.mem ((c.tc : Thread Cert.InSmallIdeal.nD Cert.InSmallIdeal.τ).loc Cert.InSmallIdeal.main_arg1) = m ((c.tc : Thread Cert.InSmallIdeal.nD Cert.InSmallIdeal.τ).loc Cert.InSmallIdeal.main_arg1))
      ∧ r.2.sem = fun _ => 0)

def quiescent_InSmallRefIdeal [hInSmallRefIdeal : Cert.InSmallRefIdeal.Facts] : Prop :=
  ∀ (m : (ℓ : Loc Cert.InSmallRefIdeal.nD Cert.InSmallRefIdeal.τ Cert.InSmallRefIdeal.sig) → Buf (Elt Ideal) ℓ) (g : Dev Cert.InSmallRefIdeal.nD → PrngReg), Pre_InSmallRefIdeal m →
    θ_run (Cert.InSmallRefIdeal.defs (F := Ideal)) (onTc (τ := Cert.InSmallRefIdeal.τ) (Cert.InSmallRefIdeal.main (F := Ideal))) ⟨m, fun _ => 0, g⟩ (fun r => (∀ c : Dev Cert.InSmallRefIdeal.nD,
      r.2.mem ((c.tc : Thread Cert.InSmallRefIdeal.nD Cert.InSmallRefIdeal.τ).loc Cert.InSmallRefIdeal.main_arg0) = m ((c.tc : Thread Cert.InSmallRefIdeal.nD Cert.InSmallRefIdeal.τ).loc Cert.InSmallRefIdeal.main_arg0)
      ∧ r.2.mem ((c.tc : Thread Cert.InSmallRefIdeal.nD Cert.InSmallRefIdeal.τ).loc Cert.InSmallRefIdeal.main_arg1) = m ((c.tc : Thread Cert.InSmallRefIdeal.nD Cert.InSmallRefIdeal.τ).loc Cert.InSmallRefIdeal.main_arg1))
      ∧ r.2.sem = fun _ => 0)

def quiescent_InGate [hInGate : Cert.InGate.Facts] : Prop :=
  ∀ (m : (ℓ : Loc Cert.InGate.nD Cert.InGate.τ Cert.InGate.sig) → Buf (Elt Bits) ℓ) (g : Dev Cert.InGate.nD → PrngReg), Pre_InGate m →
    θ_run (Cert.InGate.defs (F := Bits)) (onTc (τ := Cert.InGate.τ) (Cert.InGate.main (F := Bits))) ⟨m, fun _ => 0, g⟩ (fun r => (∀ c : Dev Cert.InGate.nD,
      r.2.mem ((c.tc : Thread Cert.InGate.nD Cert.InGate.τ).loc Cert.InGate.main_arg0) = m ((c.tc : Thread Cert.InGate.nD Cert.InGate.τ).loc Cert.InGate.main_arg0)
      ∧ r.2.mem ((c.tc : Thread Cert.InGate.nD Cert.InGate.τ).loc Cert.InGate.main_arg1) = m ((c.tc : Thread Cert.InGate.nD Cert.InGate.τ).loc Cert.InGate.main_arg1))
      ∧ r.2.sem = fun _ => 0)

def quiescent_InGateIdeal [hInGateIdeal : Cert.InGateIdeal.Facts] : Prop :=
  ∀ (m : (ℓ : Loc Cert.InGateIdeal.nD Cert.InGateIdeal.τ Cert.InGateIdeal.sig) → Buf (Elt Ideal) ℓ) (g : Dev Cert.InGateIdeal.nD → PrngReg), Pre_InGateIdeal m →
    θ_run (Cert.InGateIdeal.defs (F := Ideal)) (onTc (τ := Cert.InGateIdeal.τ) (Cert.InGateIdeal.main (F := Ideal))) ⟨m, fun _ => 0, g⟩ (fun r => (∀ c : Dev Cert.InGateIdeal.nD,
      r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
      ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ r.2.sem = fun _ => 0)

def quiescent_InGateRefIdeal [hInGateRefIdeal : Cert.InGateRefIdeal.Facts] : Prop :=
  ∀ (m : (ℓ : Loc Cert.InGateRefIdeal.nD Cert.InGateRefIdeal.τ Cert.InGateRefIdeal.sig) → Buf (Elt Ideal) ℓ) (g : Dev Cert.InGateRefIdeal.nD → PrngReg), Pre_InGateRefIdeal m →
    θ_run (Cert.InGateRefIdeal.defs (F := Ideal)) (onTc (τ := Cert.InGateRefIdeal.τ) (Cert.InGateRefIdeal.main (F := Ideal))) ⟨m, fun _ => 0, g⟩ (fun r => (∀ c : Dev Cert.InGateRefIdeal.nD,
      r.2.mem ((c.tc : Thread Cert.InGateRefIdeal.nD Cert.InGateRefIdeal.τ).loc Cert.InGateRefIdeal.main_arg0) = m ((c.tc : Thread Cert.InGateRefIdeal.nD Cert.InGateRefIdeal.τ).loc Cert.InGateRefIdeal.main_arg0)
      ∧ r.2.mem ((c.tc : Thread Cert.InGateRefIdeal.nD Cert.InGateRefIdeal.τ).loc Cert.InGateRefIdeal.main_arg1) = m ((c.tc : Thread Cert.InGateRefIdeal.nD Cert.InGateRefIdeal.τ).loc Cert.InGateRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v245) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InRet_InRetIdeal : Prop :=
  True

def algebraic_InRetIdeal_InRetRefIdeal [hInRetIdeal : Cert.InRetIdeal.Facts] [hInRetRefIdeal : Cert.InRetRefIdeal.Facts] : Prop :=
  ∀ (m : (ℓ : Loc Cert.InRetIdeal.nD Cert.InRetIdeal.τ Cert.InRetIdeal.sig) → Buf (Elt Ideal) ℓ) (g : Dev Cert.InRetIdeal.nD → PrngReg)
    (m' : (ℓ : Loc Cert.InRetRefIdeal.nD Cert.InRetRefIdeal.τ Cert.InRetRefIdeal.sig) → Buf (Elt Ideal) ℓ) (g' : Dev Cert.InRetRefIdeal.nD → PrngReg), Pre_InRetIdeal m →
    (∀ c : Dev Cert.InRetIdeal.nD,
      m' ((c.tc : Thread Cert.InRetRefIdeal.nD Cert.InRetRefIdeal.τ).loc Cert.InRetRefIdeal.main_arg0) = m ((c.tc : Thread Cert.InRetIdeal.nD Cert.InRetIdeal.τ).loc Cert.InRetIdeal.main_arg0)
      ∧ m' ((c.tc : Thread Cert.InRetRefIdeal.nD Cert.InRetRefIdeal.τ).loc Cert.InRetRefIdeal.main_arg1) = m ((c.tc : Thread Cert.InRetIdeal.nD Cert.InRetIdeal.τ).loc Cert.InRetIdeal.main_arg1)) →
    ∃ (v0 : (c : Dev Cert.InRetIdeal.nD) → Buf (Elt Ideal) ((c.tc : Thread Cert.InRetIdeal.nD Cert.InRetIdeal.τ).loc Cert.InRetIdeal.main_v2)),
      θ_run (Cert.InRetIdeal.defs (F := Ideal)) (onTc (τ := Cert.InRetIdeal.τ) (Cert.InRetIdeal.main (F := Ideal))) ⟨m, fun _ => 0, g⟩ (fun r => ∀ c : Dev Cert.InRetIdeal.nD,
          r.2.mem ((c.tc : Thread Cert.InRetIdeal.nD Cert.InRetIdeal.τ).loc Cert.InRetIdeal.main_v2) = v0 c
          ∧ r.2.mem ((c.tc : Thread Cert.InRetIdeal.nD Cert.InRetIdeal.τ).loc Cert.InRetIdeal.main_arg0) = m ((c.tc : Thread Cert.InRetIdeal.nD Cert.InRetIdeal.τ).loc Cert.InRetIdeal.main_arg0)
          ∧ r.2.mem ((c.tc : Thread Cert.InRetIdeal.nD Cert.InRetIdeal.τ).loc Cert.InRetIdeal.main_arg1) = m ((c.tc : Thread Cert.InRetIdeal.nD Cert.InRetIdeal.τ).loc Cert.InRetIdeal.main_arg1))
      ∧ θ_run (Cert.InRetRefIdeal.defs (F := Ideal)) (onTc (τ := Cert.InRetRefIdeal.τ) (Cert.InRetRefIdeal.main (F := Ideal))) ⟨m', fun _ => 0, g'⟩ (fun r => ∀ c : Dev Cert.InRetRefIdeal.nD,
          r.2.mem ((c.tc : Thread Cert.InRetRefIdeal.nD Cert.InRetRefIdeal.τ).loc Cert.InRetRefIdeal.main_v2) = v0 c
          ∧ r.2.mem ((c.tc : Thread Cert.InRetRefIdeal.nD Cert.InRetRefIdeal.τ).loc Cert.InRetRefIdeal.main_arg0) = m' ((c.tc : Thread Cert.InRetRefIdeal.nD Cert.InRetRefIdeal.τ).loc Cert.InRetRefIdeal.main_arg0)
          ∧ r.2.mem ((c.tc : Thread Cert.InRetRefIdeal.nD Cert.InRetRefIdeal.τ).loc Cert.InRetRefIdeal.main_arg1) = m' ((c.tc : Thread Cert.InRetRefIdeal.nD Cert.InRetRefIdeal.τ).loc Cert.InRetRefIdeal.main_arg1))

def preserves_InSwa_InSwaIdeal : Prop :=
  True

def algebraic_InSwaIdeal_InSwaRefIdeal [hInSwaIdeal : Cert.InSwaIdeal.Facts] [hInSwaRefIdeal : Cert.InSwaRefIdeal.Facts] : Prop :=
  ∀ (m : (ℓ : Loc Cert.InSwaIdeal.nD Cert.InSwaIdeal.τ Cert.InSwaIdeal.sig) → Buf (Elt Ideal) ℓ) (g : Dev Cert.InSwaIdeal.nD → PrngReg)
    (m' : (ℓ : Loc Cert.InSwaRefIdeal.nD Cert.InSwaRefIdeal.τ Cert.InSwaRefIdeal.sig) → Buf (Elt Ideal) ℓ) (g' : Dev Cert.InSwaRefIdeal.nD → PrngReg), Pre_InSwaIdeal m →
    (∀ c : Dev Cert.InSwaIdeal.nD,
      m' ((c.tc : Thread Cert.InSwaRefIdeal.nD Cert.InSwaRefIdeal.τ).loc Cert.InSwaRefIdeal.main_arg0) = m ((c.tc : Thread Cert.InSwaIdeal.nD Cert.InSwaIdeal.τ).loc Cert.InSwaIdeal.main_arg0)
      ∧ m' ((c.tc : Thread Cert.InSwaRefIdeal.nD Cert.InSwaRefIdeal.τ).loc Cert.InSwaRefIdeal.main_arg1) = m ((c.tc : Thread Cert.InSwaIdeal.nD Cert.InSwaIdeal.τ).loc Cert.InSwaIdeal.main_arg1)) →
    ∃ (v0 : (c : Dev Cert.InSwaIdeal.nD) → Buf (Elt Ideal) ((c.tc : Thread Cert.InSwaIdeal.nD Cert.InSwaIdeal.τ).loc Cert.InSwaIdeal.main_v2)),
      θ_run (Cert.InSwaIdeal.defs (F := Ideal)) (onTc (τ := Cert.InSwaIdeal.τ) (Cert.InSwaIdeal.main (F := Ideal))) ⟨m, fun _ => 0, g⟩ (fun r => ∀ c : Dev Cert.InSwaIdeal.nD,
          r.2.mem ((c.tc : Thread Cert.InSwaIdeal.nD Cert.InSwaIdeal.τ).loc Cert.InSwaIdeal.main_v2) = v0 c
          ∧ r.2.mem ((c.tc : Thread Cert.InSwaIdeal.nD Cert.InSwaIdeal.τ).loc Cert.InSwaIdeal.main_arg0) = m ((c.tc : Thread Cert.InSwaIdeal.nD Cert.InSwaIdeal.τ).loc Cert.InSwaIdeal.main_arg0)
          ∧ r.2.mem ((c.tc : Thread Cert.InSwaIdeal.nD Cert.InSwaIdeal.τ).loc Cert.InSwaIdeal.main_arg1) = m ((c.tc : Thread Cert.InSwaIdeal.nD Cert.InSwaIdeal.τ).loc Cert.InSwaIdeal.main_arg1))
      ∧ θ_run (Cert.InSwaRefIdeal.defs (F := Ideal)) (onTc (τ := Cert.InSwaRefIdeal.τ) (Cert.InSwaRefIdeal.main (F := Ideal))) ⟨m', fun _ => 0, g'⟩ (fun r => ∀ c : Dev Cert.InSwaRefIdeal.nD,
          r.2.mem ((c.tc : Thread Cert.InSwaRefIdeal.nD Cert.InSwaRefIdeal.τ).loc Cert.InSwaRefIdeal.main_v2) = v0 c
          ∧ r.2.mem ((c.tc : Thread Cert.InSwaRefIdeal.nD Cert.InSwaRefIdeal.τ).loc Cert.InSwaRefIdeal.main_arg0) = m' ((c.tc : Thread Cert.InSwaRefIdeal.nD Cert.InSwaRefIdeal.τ).loc Cert.InSwaRefIdeal.main_arg0)
          ∧ r.2.mem ((c.tc : Thread Cert.InSwaRefIdeal.nD Cert.InSwaRefIdeal.τ).loc Cert.InSwaRefIdeal.main_arg1) = m' ((c.tc : Thread Cert.InSwaRefIdeal.nD Cert.InSwaRefIdeal.τ).loc Cert.InSwaRefIdeal.main_arg1))

def preserves_InRkv_InRkvIdeal : Prop :=
  True

def algebraic_InRkvIdeal_InRkvRefIdeal [hInRkvIdeal : Cert.InRkvIdeal.Facts] [hInRkvRefIdeal : Cert.InRkvRefIdeal.Facts] : Prop :=
  ∀ (m : (ℓ : Loc Cert.InRkvIdeal.nD Cert.InRkvIdeal.τ Cert.InRkvIdeal.sig) → Buf (Elt Ideal) ℓ) (g : Dev Cert.InRkvIdeal.nD → PrngReg)
    (m' : (ℓ : Loc Cert.InRkvRefIdeal.nD Cert.InRkvRefIdeal.τ Cert.InRkvRefIdeal.sig) → Buf (Elt Ideal) ℓ) (g' : Dev Cert.InRkvRefIdeal.nD → PrngReg), Pre_InRkvIdeal m →
    (∀ c : Dev Cert.InRkvIdeal.nD,
      m' ((c.tc : Thread Cert.InRkvRefIdeal.nD Cert.InRkvRefIdeal.τ).loc Cert.InRkvRefIdeal.main_arg0) = m ((c.tc : Thread Cert.InRkvIdeal.nD Cert.InRkvIdeal.τ).loc Cert.InRkvIdeal.main_arg0)
      ∧ m' ((c.tc : Thread Cert.InRkvRefIdeal.nD Cert.InRkvRefIdeal.τ).loc Cert.InRkvRefIdeal.main_arg1) = m ((c.tc : Thread Cert.InRkvIdeal.nD Cert.InRkvIdeal.τ).loc Cert.InRkvIdeal.main_arg1)) →
    ∃ (v0 : (c : Dev Cert.InRkvIdeal.nD) → Buf (Elt Ideal) ((c.tc : Thread Cert.InRkvIdeal.nD Cert.InRkvIdeal.τ).loc Cert.InRkvIdeal.main_v2)),
      θ_run (Cert.InRkvIdeal.defs (F := Ideal)) (onTc (τ := Cert.InRkvIdeal.τ) (Cert.InRkvIdeal.main (F := Ideal))) ⟨m, fun _ => 0, g⟩ (fun r => ∀ c : Dev Cert.InRkvIdeal.nD,
          r.2.mem ((c.tc : Thread Cert.InRkvIdeal.nD Cert.InRkvIdeal.τ).loc Cert.InRkvIdeal.main_v2) = v0 c
          ∧ r.2.mem ((c.tc : Thread Cert.InRkvIdeal.nD Cert.InRkvIdeal.τ).loc Cert.InRkvIdeal.main_arg0) = m ((c.tc : Thread Cert.InRkvIdeal.nD Cert.InRkvIdeal.τ).loc Cert.InRkvIdeal.main_arg0)
          ∧ r.2.mem ((c.tc : Thread Cert.InRkvIdeal.nD Cert.InRkvIdeal.τ).loc Cert.InRkvIdeal.main_arg1) = m ((c.tc : Thread Cert.InRkvIdeal.nD Cert.InRkvIdeal.τ).loc Cert.InRkvIdeal.main_arg1))
      ∧ θ_run (Cert.InRkvRefIdeal.defs (F := Ideal)) (onTc (τ := Cert.InRkvRefIdeal.τ) (Cert.InRkvRefIdeal.main (F := Ideal))) ⟨m', fun _ => 0, g'⟩ (fun r => ∀ c : Dev Cert.InRkvRefIdeal.nD,
          r.2.mem ((c.tc : Thread Cert.InRkvRefIdeal.nD Cert.InRkvRefIdeal.τ).loc Cert.InRkvRefIdeal.main_v2) = v0 c
          ∧ r.2.mem ((c.tc : Thread Cert.InRkvRefIdeal.nD Cert.InRkvRefIdeal.τ).loc Cert.InRkvRefIdeal.main_arg0) = m' ((c.tc : Thread Cert.InRkvRefIdeal.nD Cert.InRkvRefIdeal.τ).loc Cert.InRkvRefIdeal.main_arg0)
          ∧ r.2.mem ((c.tc : Thread Cert.InRkvRefIdeal.nD Cert.InRkvRefIdeal.τ).loc Cert.InRkvRefIdeal.main_arg1) = m' ((c.tc : Thread Cert.InRkvRefIdeal.nD Cert.InRkvRefIdeal.τ).loc Cert.InRkvRefIdeal.main_arg1))

def preserves_InSmall_InSmallIdeal : Prop :=
  True

def algebraic_InSmallIdeal_InSmallRefIdeal [hInSmallIdeal : Cert.InSmallIdeal.Facts] [hInSmallRefIdeal : Cert.InSmallRefIdeal.Facts] : Prop :=
  ∀ (m : (ℓ : Loc Cert.InSmallIdeal.nD Cert.InSmallIdeal.τ Cert.InSmallIdeal.sig) → Buf (Elt Ideal) ℓ) (g : Dev Cert.InSmallIdeal.nD → PrngReg)
    (m' : (ℓ : Loc Cert.InSmallRefIdeal.nD Cert.InSmallRefIdeal.τ Cert.InSmallRefIdeal.sig) → Buf (Elt Ideal) ℓ) (g' : Dev Cert.InSmallRefIdeal.nD → PrngReg), Pre_InSmallIdeal m →
    (∀ c : Dev Cert.InSmallIdeal.nD,
      m' ((c.tc : Thread Cert.InSmallRefIdeal.nD Cert.InSmallRefIdeal.τ).loc Cert.InSmallRefIdeal.main_arg0) = m ((c.tc : Thread Cert.InSmallIdeal.nD Cert.InSmallIdeal.τ).loc Cert.InSmallIdeal.main_arg0)
      ∧ m' ((c.tc : Thread Cert.InSmallRefIdeal.nD Cert.InSmallRefIdeal.τ).loc Cert.InSmallRefIdeal.main_arg1) = m ((c.tc : Thread Cert.InSmallIdeal.nD Cert.InSmallIdeal.τ).loc Cert.InSmallIdeal.main_arg1)) →
    ∃ (v0 : (c : Dev Cert.InSmallIdeal.nD) → Buf (Elt Ideal) ((c.tc : Thread Cert.InSmallIdeal.nD Cert.InSmallIdeal.τ).loc Cert.InSmallIdeal.main_v2)),
      θ_run (Cert.InSmallIdeal.defs (F := Ideal)) (onTc (τ := Cert.InSmallIdeal.τ) (Cert.InSmallIdeal.main (F := Ideal))) ⟨m, fun _ => 0, g⟩ (fun r => ∀ c : Dev Cert.InSmallIdeal.nD,
          r.2.mem ((c.tc : Thread Cert.InSmallIdeal.nD Cert.InSmallIdeal.τ).loc Cert.InSmallIdeal.main_v2) = v0 c
          ∧ r.2.mem ((c.tc : Thread Cert.InSmallIdeal.nD Cert.InSmallIdeal.τ).loc Cert.InSmallIdeal.main_arg0) = m ((c.tc : Thread Cert.InSmallIdeal.nD Cert.InSmallIdeal.τ).loc Cert.InSmallIdeal.main_arg0)
          ∧ r.2.mem ((c.tc : Thread Cert.InSmallIdeal.nD Cert.InSmallIdeal.τ).loc Cert.InSmallIdeal.main_arg1) = m ((c.tc : Thread Cert.InSmallIdeal.nD Cert.InSmallIdeal.τ).loc Cert.InSmallIdeal.main_arg1))
      ∧ θ_run (Cert.InSmallRefIdeal.defs (F := Ideal)) (onTc (τ := Cert.InSmallRefIdeal.τ) (Cert.InSmallRefIdeal.main (F := Ideal))) ⟨m', fun _ => 0, g'⟩ (fun r => ∀ c : Dev Cert.InSmallRefIdeal.nD,
          r.2.mem ((c.tc : Thread Cert.InSmallRefIdeal.nD Cert.InSmallRefIdeal.τ).loc Cert.InSmallRefIdeal.main_v2) = v0 c
          ∧ r.2.mem ((c.tc : Thread Cert.InSmallRefIdeal.nD Cert.InSmallRefIdeal.τ).loc Cert.InSmallRefIdeal.main_arg0) = m' ((c.tc : Thread Cert.InSmallRefIdeal.nD Cert.InSmallRefIdeal.τ).loc Cert.InSmallRefIdeal.main_arg0)
          ∧ r.2.mem ((c.tc : Thread Cert.InSmallRefIdeal.nD Cert.InSmallRefIdeal.τ).loc Cert.InSmallRefIdeal.main_arg1) = m' ((c.tc : Thread Cert.InSmallRefIdeal.nD Cert.InSmallRefIdeal.τ).loc Cert.InSmallRefIdeal.main_arg1))

def preserves_InGate_InGateIdeal : Prop :=
  True

def algebraic_InGateIdeal_InGateRefIdeal [hInGateIdeal : Cert.InGateIdeal.Facts] [hInGateRefIdeal : Cert.InGateRefIdeal.Facts] : Prop :=
  ∀ (m : (ℓ : Loc Cert.InGateIdeal.nD Cert.InGateIdeal.τ Cert.InGateIdeal.sig) → Buf (Elt Ideal) ℓ) (g : Dev Cert.InGateIdeal.nD → PrngReg)
    (m' : (ℓ : Loc Cert.InGateRefIdeal.nD Cert.InGateRefIdeal.τ Cert.InGateRefIdeal.sig) → Buf (Elt Ideal) ℓ) (g' : Dev Cert.InGateRefIdeal.nD → PrngReg), Pre_InGateIdeal m →
    (∀ c : Dev Cert.InGateIdeal.nD,
      m' ((c.tc : Thread Cert.InGateRefIdeal.nD Cert.InGateRefIdeal.τ).loc Cert.InGateRefIdeal.main_arg0) = m ((c.tc : Thread Cert.InGateIdeal.nD Cert.InGateIdeal.τ).loc Cert.InGateIdeal.main_arg0)
      ∧ m' ((c.tc : Thread Cert.InGateRefIdeal.nD Cert.InGateRefIdeal.τ).loc Cert.InGateRefIdeal.main_arg1) = m ((c.tc : Thread Cert.InGateIdeal.nD Cert.InGateIdeal.τ).loc Cert.InGateIdeal.main_arg1)) →
    ∃ (v0 : (c : Dev Cert.InGateIdeal.nD) → Buf (Elt Ideal) ((c.tc : Thread Cert.InGateIdeal.nD Cert.InGateIdeal.τ).loc Cert.InGateIdeal.main_v2)),
      θ_run (Cert.InGateIdeal.defs (F := Ideal)) (onTc (τ := Cert.InGateIdeal.τ) (Cert.InGateIdeal.main (F := Ideal))) ⟨m, fun _ => 0, g⟩ (fun r => ∀ c : Dev Cert.InGateIdeal.nD,
          r.2.mem ((c.tc : Thread Cert.InGateIdeal.nD Cert.InGateIdeal.τ).loc Cert.InGateIdeal.main_v2) = v0 c
          ∧ r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
          ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ θ_run (Cert.InGateRefIdeal.defs (F := Ideal)) (onTc (τ := Cert.InGateRefIdeal.τ) (Cert.InGateRefIdeal.main (F := Ideal))) ⟨m', fun _ => 0, g'⟩ (fun r => ∀ c : Dev Cert.InGateRefIdeal.nD,
          r.2.mem ((c.tc : Thread Cert.InGateRefIdeal.nD Cert.InGateRefIdeal.τ).loc Cert.InGateRefIdeal.main_v2) = v0 c
          ∧ r.2.mem ((c.tc : Thread Cert.InGateRefIdeal.nD Cert.InGateRefIdeal.τ).loc Cert.InGateRefIdeal.main_arg0) = m' ((c.tc : Thread Cert.InGateRefIdeal.nD Cert.InGateRefIdeal.τ).loc Cert.InGateRefIdeal.main_arg0)
          ∧ r.2.mem ((c.tc : Thread Cert.InGateRefIdeal.nD Cert.InGateRefIdeal.τ).loc Cert.InGateRefIdeal.main_arg1) = m' ((c.tc : Thread Cert.InGateRefIdeal.nD Cert.InGateRefIdeal.τ).loc Cert.InGateRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v22) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v22) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v18) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def Claim : Prop :=
  ∃ (hKernel : Cert.Kernel.Facts) (hKernelIdeal : Cert.KernelIdeal.Facts) (hReferenceIdeal : Cert.ReferenceIdeal.Facts) (hInRet : Cert.InRet.Facts) (hInRetIdeal : Cert.InRetIdeal.Facts) (hInRetRefIdeal : Cert.InRetRefIdeal.Facts) (hInSwa : Cert.InSwa.Facts) (hInSwaIdeal : Cert.InSwaIdeal.Facts) (hInSwaRefIdeal : Cert.InSwaRefIdeal.Facts) (hInRkv : Cert.InRkv.Facts) (hInRkvIdeal : Cert.InRkvIdeal.Facts) (hInRkvRefIdeal : Cert.InRkvRefIdeal.Facts) (hInSmall : Cert.InSmall.Facts) (hInSmallIdeal : Cert.InSmallIdeal.Facts) (hInSmallRefIdeal : Cert.InSmallRefIdeal.Facts) (hInGate : Cert.InGate.Facts) (hInGateIdeal : Cert.InGateIdeal.Facts) (hInGateRefIdeal : Cert.InGateRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hMerge : Cert.Merge.Facts) (hMergeIdeal : Cert.MergeIdeal.Facts) (hMergeRefIdeal : Cert.MergeRefIdeal.Facts),
    quiescent_Kernel (hKernel := hKernel)
    ∧ quiescent_KernelIdeal (hKernelIdeal := hKernelIdeal)
    ∧ quiescent_ReferenceIdeal (hReferenceIdeal := hReferenceIdeal)
    ∧ quiescent_InRet (hInRet := hInRet)
    ∧ quiescent_InRetIdeal (hInRetIdeal := hInRetIdeal)
    ∧ quiescent_InRetRefIdeal (hInRetRefIdeal := hInRetRefIdeal)
    ∧ quiescent_InSwa (hInSwa := hInSwa)
    ∧ quiescent_InSwaIdeal (hInSwaIdeal := hInSwaIdeal)
    ∧ quiescent_InSwaRefIdeal (hInSwaRefIdeal := hInSwaRefIdeal)
    ∧ quiescent_InRkv (hInRkv := hInRkv)
    ∧ quiescent_InRkvIdeal (hInRkvIdeal := hInRkvIdeal)
    ∧ quiescent_InRkvRefIdeal (hInRkvRefIdeal := hInRkvRefIdeal)
    ∧ quiescent_InSmall (hInSmall := hInSmall)
    ∧ quiescent_InSmallIdeal (hInSmallIdeal := hInSmallIdeal)
    ∧ quiescent_InSmallRefIdeal (hInSmallRefIdeal := hInSmallRefIdeal)
    ∧ quiescent_InGate (hInGate := hInGate)
    ∧ quiescent_InGateIdeal (hInGateIdeal := hInGateIdeal)
    ∧ quiescent_InGateRefIdeal (hInGateRefIdeal := hInGateRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal (hKernelIdeal := hKernelIdeal) (hReferenceIdeal := hReferenceIdeal)
    ∧ preserves_InRet_InRetIdeal
    ∧ algebraic_InRetIdeal_InRetRefIdeal (hInRetIdeal := hInRetIdeal) (hInRetRefIdeal := hInRetRefIdeal)
    ∧ preserves_InSwa_InSwaIdeal
    ∧ algebraic_InSwaIdeal_InSwaRefIdeal (hInSwaIdeal := hInSwaIdeal) (hInSwaRefIdeal := hInSwaRefIdeal)
    ∧ preserves_InRkv_InRkvIdeal
    ∧ algebraic_InRkvIdeal_InRkvRefIdeal (hInRkvIdeal := hInRkvIdeal) (hInRkvRefIdeal := hInRkvRefIdeal)
    ∧ preserves_InSmall_InSmallIdeal
    ∧ algebraic_InSmallIdeal_InSmallRefIdeal (hInSmallIdeal := hInSmallIdeal) (hInSmallRefIdeal := hInSmallRefIdeal)
    ∧ preserves_InGate_InGateIdeal
    ∧ algebraic_InGateIdeal_InGateRefIdeal (hInGateIdeal := hInGateIdeal) (hInGateRefIdeal := hInGateRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Merge_MergeIdeal
    ∧ algebraic_MergeIdeal_MergeRefIdeal (hMergeIdeal := hMergeIdeal) (hMergeRefIdeal := hMergeRefIdeal)
-- ==== Kernel.lean ====
abbrev S9216x4096 : Shape := ⟨2, ![9216, 4096]⟩
abbrev S2x8 : Shape := ⟨2, ![2, 8]⟩
abbrev S9216x1024 : Shape := ⟨2, ![9216, 1024]⟩
abbrev S2304x128 : Shape := ⟨2, ![2304, 128]⟩
abbrev S128x128 : Shape := ⟨2, ![128, 128]⟩
abbrev S1x1 : Shape := ⟨2, ![1, 1]⟩
abbrev S2304 : Shape := ⟨1, ![2304]⟩
abbrev S2304x1 : Shape := ⟨2, ![2304, 1]⟩

abbrev nBuf : Space → Nat
  | .hbm => 3
  | .vmem => 12
  | .smem => 1
  | _ => 0

abbrev bufTy : (tb : Table) → Fin (tcTables nBuf tb) → BufTy
  | .hbm, ⟨0, _⟩ => ⟨S9216x4096, .f32⟩
  | .hbm, ⟨1, _⟩ => ⟨S2x8, .f32⟩
  | .hbm, ⟨2, _⟩ => ⟨S9216x1024, .bf16⟩
  | .local _ .vmem, ⟨0, _⟩ => ⟨S2304x128, .f32⟩
  | .local _ .vmem, ⟨1, _⟩ => ⟨S2304x128, .f32⟩
  | .local _ .vmem, ⟨2, _⟩ => ⟨S2304x128, .f32⟩
  | .local _ .vmem, ⟨3, _⟩ => ⟨S2304x128, .f32⟩
  | .local _ .vmem, ⟨4, _⟩ => ⟨S2304x128, .f32⟩
  | .local _ .vmem, ⟨5, _⟩ => ⟨S2304x128, .f32⟩
  | .local _ .vmem, ⟨6, _⟩ => ⟨S2304x128, .f32⟩
  | .local _ .vmem, ⟨7, _⟩ => ⟨S2304x128, .f32⟩
  | .local _ .vmem, ⟨8, _⟩ => ⟨S2304x128, .bf16⟩
  | .local _ .vmem, ⟨9, _⟩ => ⟨S2304x128, .bf16⟩
  | .local _ .vmem, ⟨10, _⟩ => ⟨S2304x128, .f32⟩
  | .local _ .vmem, ⟨11, _⟩ => ⟨S128x128, .f32⟩
  | .local _ .smem, ⟨0, _⟩ => ⟨S2x8, .f32⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def k0_off1 (i : grid0.Coords) : Fin 2 → Nat :=
  let c0 : Index := 0#32
  let arg1 : BitVec 32 := BitVec.ofNat 32 (i 1).val
  let v4 : Index := Scalar.indexCast arg1
  ![0, v4.toNat]
@[reducible] def k0_t1_loop : Scf.Loop 32 :=
  let c0_i32 : BitVec 32 := 0#32
  let c18_i32 : BitVec 32 := 18#32
  let v41 : BitVec 32 := Scalar.addi c0_i32 c18_i32
  let c1_i32 : BitVec 32 := 1#32
  ⟨c0_i32, v41, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v105 : BitVec 32 := Scalar.muli arg10 c128_i32
  v105
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v105 : BitVec 32 := Scalar.muli arg10 c128_i32
  let v106 : BitVec 32 := v105
  let v107 : Index := Scalar.indexCast v106
  let c0_40 : Index := 0#32
  ![v107.toNat, 0]
def k0_off3 (i : grid0.Coords) : Fin 2 → Nat :=
  let c1 : Index := 1#32
  let arg1 : BitVec 32 := BitVec.ofNat 32 (i 1).val
  let v42 : Index := Scalar.indexCast arg1
  ![1, v42.toNat]
@[reducible] def k0_t2_loop : Scf.Loop 32 :=
  let c0_i32_25 : BitVec 32 := 0#32
  let c18_i32_26 : BitVec 32 := 18#32
  let v81 : BitVec 32 := Scalar.addi c0_i32_25 c18_i32_26
  let c1_i32_27 : BitVec 32 := 1#32
  ⟨c0_i32_25, v81, c1_i32_27⟩
def k0_mult2 (k0_t2 : Fin k0_t2_loop.trips) : BitVec 32 :=
  let c0_i32_25 : BitVec 32 := 0#32
  let c1_i32_27 : BitVec 32 := 1#32
  let arg10 : BitVec 32 := Scf.iv c0_i32_25 c1_i32_27 k0_t2
  let c2_i32 : BitVec 32 := 2#32
  let v105 : BitVec 1 := Scalar.cmpi .slt arg10 c2_i32
  let c1_i32_40 : BitVec 32 := 1#32
  let v106 : BitVec 32 := Scalar.subi c1_i32_40 arg10
  let c19_i32 : BitVec 32 := 19#32
  let v107 : BitVec 32 := Scalar.subi c19_i32 arg10
  let v108 : BitVec 32 := Scalar.select v105 v106 v107
  let c128_i32 : BitVec 32 := 128#32
  let v109 : BitVec 32 := Scalar.muli v108 c128_i32
  v109
def k0_off4 (k0_t2 : Fin k0_t2_loop.trips) : Fin 2 → Nat :=
  let c0_i32_25 : BitVec 32 := 0#32
  let c1_i32_27 : BitVec 32 := 1#32
  let arg10 : BitVec 32 := Scf.iv c0_i32_25 c1_i32_27 k0_t2
  let c2_i32 : BitVec 32 := 2#32
  let v105 : BitVec 1 := Scalar.cmpi .slt arg10 c2_i32
  let c1_i32_40 : BitVec 32 := 1#32
  let v106 : BitVec 32 := Scalar.subi c1_i32_40 arg10
  let c19_i32 : BitVec 32 := 19#32
  let v107 : BitVec 32 := Scalar.subi c19_i32 arg10
  let v108 : BitVec 32 := Scalar.select v105 v106 v107
  let c128_i32 : BitVec 32 := 128#32
  let v109 : BitVec 32 := Scalar.muli v108 c128_i32
  let v110 : BitVec 32 := v109
  let v111 : Index := Scalar.indexCast v110
  let c0_41 : Index := 0#32
  ![v111.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2304x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2304x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2304x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S9216x4096 : Shape := ⟨2, ![9216, 4096]⟩
abbrev S2x8 : Shape := ⟨2, ![2, 8]⟩
abbrev S4x2304x4096 : Shape := ⟨3, ![4, 2304, 4096]⟩
abbrev S_ : Shape := ⟨0, ![]⟩
abbrev S4x2304x1024 : Shape := ⟨3, ![4, 2304, 1024]⟩
abbrev S4x2304x8x128 : Shape := ⟨4, ![4, 2304, 8, 128]⟩
abbrev S4x8x2304x128 : Shape := ⟨4, ![4, 8, 2304, 128]⟩
abbrev S2x4x8x128x128 : Shape := ⟨5, ![2, 4, 8, 128, 128]⟩
abbrev S4x8x256x128 : Shape := ⟨4, ![4, 8, 256, 128]⟩
abbrev S4x8x2048x128 : Shape := ⟨4, ![4, 8, 2048, 128]⟩
abbrev S1x4x8x2304x128 : Shape := ⟨5, ![1, 4, 8, 2304, 128]⟩
abbrev S2x4x8x2304x128 : Shape := ⟨5, ![2, 4, 8, 2304, 128]⟩
abbrev S2x4x8x18x128x128 : Shape := ⟨6, ![2, 4, 8, 18, 128, 128]⟩
abbrev S128 : Shape := ⟨1, ![128]⟩
abbrev S2x8x1 : Shape := ⟨3, ![2, 8, 1]⟩
abbrev S128x1 : Shape := ⟨2, ![128, 1]⟩
abbrev S1x128 : Shape := ⟨2, ![1, 128]⟩
abbrev S128x128 : Shape := ⟨2, ![128, 128]⟩
abbrev S2x8x1x1 : Shape := ⟨4, ![2, 8, 1, 1]⟩
abbrev S1x128x128 : Shape := ⟨3, ![1, 128, 128]⟩
abbrev S1x1x128x128 : Shape := ⟨4, ![1, 1, 128, 128]⟩
abbrev S2x8x128x128 : Shape := ⟨4, ![2, 8, 128, 128]⟩
abbrev S8x128x128 : Shape := ⟨3, ![8, 128, 128]⟩
abbrev S2x1x8x1x128x128 : Shape := ⟨6, ![2, 1, 8, 1, 128, 128]⟩
abbrev S1x1x128 : Shape := ⟨3, ![1, 1, 128]⟩
abbrev S2x8x128 : Shape := ⟨3, ![2, 8, 128]⟩
abbrev S2x1x8x1x128x1 : Shape := ⟨6, ![2, 1, 8, 1, 128, 1]⟩
abbrev S2x18x4x8x128x128 : Shape := ⟨6, ![2, 18, 4, 8, 128, 128]⟩
abbrev S2x1x8x1x1 : Shape := ⟨5, ![2, 1, 8, 1, 1]⟩
abbrev S18x2x4x8x128x128 : Shape := ⟨6, ![18, 2, 4, 8, 128, 128]⟩
abbrev S0x2x4x8x128x128 : Shape := ⟨6, ![0, 2, 4, 8, 128, 128]⟩
abbrev S1x2x4x8x128x128 : Shape := ⟨6, ![1, 2, 4, 8, 128, 128]⟩
abbrev S16x2x4x8x128x128 : Shape := ⟨6, ![16, 2, 4, 8, 128, 128]⟩
abbrev S2x2x4x8x128x128 : Shape := ⟨6, ![2, 2, 4, 8, 128, 128]⟩
abbrev S4x8x2304 : Shape := ⟨3, ![4, 8, 2304]⟩
abbrev S4x8x2304x1 : Shape := ⟨4, ![4, 8, 2304, 1]⟩
abbrev S9216x1024 : Shape := ⟨2, ![9216, 1024]⟩

abbrev nBuf : Space → Nat
  | .hbm => 290
  | .vmem => 0
  | .smem => 0
  | _ => 0

abbrev hbmTy0_0 (i : Nat) : BufTy := match i % 128 with
  | 0 => ⟨S9216x4096, .f32⟩
  | 1 => ⟨S2x8, .f32⟩
  | 2 => ⟨S4x2304x4096, .f32⟩
  | 3 => ⟨S2x8, .f32⟩
  | 4 => ⟨S_, .f32⟩
  | 5 => ⟨S2x8, .f32⟩
  | 6 => ⟨S2x8, .f32⟩
  | 7 => ⟨S2x8, .f32⟩
  | 8 => ⟨S2x8, .f32⟩
  | 9 => ⟨S2x8, .i1⟩
  | 10 => ⟨S2x8, .f32⟩
  | 11 => ⟨S2x8, .f32⟩
  | 12 => ⟨S2x8, .f32⟩
  | 13 => ⟨S2x8, .f32⟩
  | 14 => ⟨S2x8, .f32⟩
  | 15 => ⟨S2x8, .f32⟩
  | 16 => ⟨S2x8, .f32⟩
  | 17 => ⟨S2x8, .f32⟩
  | 18 => ⟨S2x8, .f32⟩
  | 19 => ⟨S4x2304x1024, .f32⟩
  | 20 => ⟨S4x2304x1024, .f32⟩
  | 21 => ⟨S4x2304x1024, .f32⟩
  | 22 => ⟨S4x2304x1024, .f32⟩
  | 23 => ⟨S4x2304x8x128, .f32⟩
  | 24 => ⟨S4x8x2304x128, .f32⟩
  | 25 => ⟨S4x2304x8x128, .f32⟩
  | 26 => ⟨S4x8x2304x128, .f32⟩
  | 27 => ⟨S_, .f32⟩
  | 28 => ⟨S4x8x2304x128, .f32⟩
  | 29 => ⟨S4x8x2304x128, .f32⟩
  | 30 => ⟨S4x2304x8x128, .f32⟩
  | 31 => ⟨S4x8x2304x128, .f32⟩
  | 32 => ⟨S_, .f32⟩
  | 33 => ⟨S2x4x8x128x128, .f32⟩
  | 34 => ⟨S4x8x256x128, .f32⟩
  | 35 => ⟨S4x8x256x128, .f32⟩
  | 36 => ⟨S4x8x2048x128, .f32⟩
  | 37 => ⟨S4x8x2048x128, .f32⟩
  | 38 => ⟨S4x8x2304x128, .f32⟩
  | 39 => ⟨S1x4x8x2304x128, .f32⟩
  | 40 => ⟨S1x4x8x2304x128, .f32⟩
  | 41 => ⟨S2x4x8x2304x128, .f32⟩
  | 42 => ⟨S4x8x256x128, .f32⟩
  | 43 => ⟨S4x8x256x128, .f32⟩
  | 44 => ⟨S4x8x2048x128, .f32⟩
  | 45 => ⟨S4x8x2048x128, .f32⟩
  | 46 => ⟨S4x8x2304x128, .f32⟩
  | 47 => ⟨S1x4x8x2304x128, .f32⟩
  | 48 => ⟨S1x4x8x2304x128, .f32⟩
  | 49 => ⟨S2x4x8x2304x128, .f32⟩
  | 50 => ⟨S4x8x256x128, .f32⟩
  | 51 => ⟨S4x8x256x128, .f32⟩
  | 52 => ⟨S4x8x2048x128, .f32⟩
  | 53 => ⟨S4x8x2048x128, .f32⟩
  | 54 => ⟨S4x8x2304x128, .f32⟩
  | 55 => ⟨S1x4x8x2304x128, .f32⟩
  | 56 => ⟨S1x4x8x2304x128, .f32⟩
  | 57 => ⟨S2x4x8x2304x128, .f32⟩
  | 58 => ⟨S2x4x8x18x128x128, .f32⟩
  | 59 => ⟨S2x4x8x18x128x128, .f32⟩
  | 60 => ⟨S2x4x8x18x128x128, .f32⟩
  | 61 => ⟨S128, .f32⟩
  | 62 => ⟨S2x8x1, .f32⟩
  | 63 => ⟨S128x1, .f32⟩
  | 64 => ⟨S1x128, .f32⟩
  | 65 => ⟨S128x128, .f32⟩
  | 66 => ⟨S128x128, .f32⟩
  | 67 => ⟨S128x128, .f32⟩
  | 68 => ⟨S_, .f32⟩
  | 69 => ⟨S128x128, .f32⟩
  | 70 => ⟨S128x128, .i1⟩
  | 71 => ⟨S2x8x1x1, .f32⟩
  | 72 => ⟨S_, .f32⟩
  | 73 => ⟨S128x128, .f32⟩
  | 74 => ⟨S128x128, .f32⟩
  | 75 => ⟨S1x128x128, .f32⟩
  | 76 => ⟨S1x1x128x128, .f32⟩
  | 77 => ⟨S2x8x128x128, .f32⟩
  | 78 => ⟨S2x8x128x128, .f32⟩
  | 79 => ⟨S2x8x128x128, .f32⟩
  | 80 => ⟨S2x8x128x128, .f32⟩
  | 81 => ⟨S_, .f32⟩
  | 82 => ⟨S_, .f32⟩
  | 83 => ⟨S8x128x128, .i1⟩
  | 84 => ⟨S8x128x128, .f32⟩
  | 85 => ⟨S2x8x128x128, .i1⟩
  | 86 => ⟨S2x8x128x128, .f32⟩
  | 87 => ⟨S2x8x128x128, .f32⟩
  | 88 => ⟨S2x4x8x18x128x128, .f32⟩
  | 89 => ⟨S2x1x8x1x128x128, .f32⟩
  | 90 => ⟨S2x4x8x18x128x128, .f32⟩
  | 91 => ⟨S2x4x8x18x128x128, .f32⟩
  | 92 => ⟨S2x4x8x18x128x128, .f32⟩
  | 93 => ⟨S_, .f32⟩
  | 94 => ⟨S128, .f32⟩
  | 95 => ⟨S128, .f32⟩
  | 96 => ⟨S1x128, .f32⟩
  | 97 => ⟨S1x1x128, .f32⟩
  | 98 => ⟨S2x8x128, .f32⟩
  | 99 => ⟨S2x8x128, .f32⟩
  | 100 => ⟨S2x8x128, .f32⟩
  | 101 => ⟨S2x8x128, .f32⟩
  | 102 => ⟨S_, .f32⟩
  | 103 => ⟨S128, .f32⟩
  | 104 => ⟨S128, .f32⟩
  | 105 => ⟨S1x128, .f32⟩
  | 106 => ⟨S1x1x128, .f32⟩
  | 107 => ⟨S2x8x128, .f32⟩
  | 108 => ⟨S2x8x128, .f32⟩
  | 109 => ⟨S2x8x128, .f32⟩
  | 110 => ⟨S2x8x128, .f32⟩
  | 111 => ⟨S2x1x8x1x128x1, .f32⟩
  | 112 => ⟨S2x4x8x18x128x128, .f32⟩
  | 113 => ⟨S2x4x8x18x128x128, .f32⟩
  | 114 => ⟨S2x18x4x8x128x128, .f32⟩
  | 115 => ⟨S_, .f32⟩
  | 116 => ⟨S2x8, .f32⟩
  | 117 => ⟨S2x8, .f32⟩
  | 118 => ⟨S2x8, .f32⟩
  | 119 => ⟨S2x1x8x1x1, .f32⟩
  | 120 => ⟨S18x2x4x8x128x128, .f32⟩
  | 121 => ⟨S0x2x4x8x128x128, .f32⟩
  | 122 => ⟨S18x2x4x8x128x128, .f32⟩
  | 123 => ⟨S_, .f32⟩
  | 124 => ⟨S0x2x4x8x128x128, .f32⟩
  | 125 => ⟨S1x2x4x8x128x128, .f32⟩
  | 126 => ⟨S2x4x8x128x128, .f32⟩
  | 127 => ⟨S2x4x8x128x128, .f32⟩
  | _ => ⟨S9216x4096, .f32⟩

abbrev hbmTy0_1 (i : Nat) : BufTy := match i % 128 with
  | 0 => ⟨S2x4x8x128x128, .f32⟩
  | 1 => ⟨S2x4x8x128x128, .f32⟩
  | 2 => ⟨S1x2x4x8x128x128, .f32⟩
  | 3 => ⟨S2x4x8x128x128, .f32⟩
  | 4 => ⟨S2x4x8x128x128, .f32⟩
  | 5 => ⟨S2x4x8x128x128, .f32⟩
  | 6 => ⟨S2x4x8x128x128, .f32⟩
  | 7 => ⟨S1x2x4x8x128x128, .f32⟩
  | 8 => ⟨S2x4x8x128x128, .f32⟩
  | 9 => ⟨S2x4x8x128x128, .f32⟩
  | 10 => ⟨S2x4x8x128x128, .f32⟩
  | 11 => ⟨S2x4x8x128x128, .f32⟩
  | 12 => ⟨S1x2x4x8x128x128, .f32⟩
  | 13 => ⟨S2x4x8x128x128, .f32⟩
  | 14 => ⟨S2x4x8x128x128, .f32⟩
  | 15 => ⟨S2x4x8x128x128, .f32⟩
  | 16 => ⟨S2x4x8x128x128, .f32⟩
  | 17 => ⟨S1x2x4x8x128x128, .f32⟩
  | 18 => ⟨S2x4x8x128x128, .f32⟩
  | 19 => ⟨S2x4x8x128x128, .f32⟩
  | 20 => ⟨S2x4x8x128x128, .f32⟩
  | 21 => ⟨S2x4x8x128x128, .f32⟩
  | 22 => ⟨S1x2x4x8x128x128, .f32⟩
  | 23 => ⟨S2x4x8x128x128, .f32⟩
  | 24 => ⟨S2x4x8x128x128, .f32⟩
  | 25 => ⟨S2x4x8x128x128, .f32⟩
  | 26 => ⟨S2x4x8x128x128, .f32⟩
  | 27 => ⟨S1x2x4x8x128x128, .f32⟩
  | 28 => ⟨S2x4x8x128x128, .f32⟩
  | 29 => ⟨S2x4x8x128x128, .f32⟩
  | 30 => ⟨S2x4x8x128x128, .f32⟩
  | 31 => ⟨S2x4x8x128x128, .f32⟩
  | 32 => ⟨S1x2x4x8x128x128, .f32⟩
  | 33 => ⟨S2x4x8x128x128, .f32⟩
  | 34 => ⟨S2x4x8x128x128, .f32⟩
  | 35 => ⟨S2x4x8x128x128, .f32⟩
  | 36 => ⟨S2x4x8x128x128, .f32⟩
  | 37 => ⟨S1x2x4x8x128x128, .f32⟩
  | 38 => ⟨S2x4x8x128x128, .f32⟩
  | 39 => ⟨S2x4x8x128x128, .f32⟩
  | 40 => ⟨S2x4x8x128x128, .f32⟩
  | 41 => ⟨S2x4x8x128x128, .f32⟩
  | 42 => ⟨S1x2x4x8x128x128, .f32⟩
  | 43 => ⟨S2x4x8x128x128, .f32⟩
  | 44 => ⟨S2x4x8x128x128, .f32⟩
  | 45 => ⟨S2x4x8x128x128, .f32⟩
  | 46 => ⟨S2x4x8x128x128, .f32⟩
  | 47 => ⟨S1x2x4x8x128x128, .f32⟩
  | 48 => ⟨S2x4x8x128x128, .f32⟩
  | 49 => ⟨S2x4x8x128x128, .f32⟩
  | 50 => ⟨S2x4x8x128x128, .f32⟩
  | 51 => ⟨S2x4x8x128x128, .f32⟩
  | 52 => ⟨S1x2x4x8x128x128, .f32⟩
  | 53 => ⟨S2x4x8x128x128, .f32⟩
  | 54 => ⟨S2x4x8x128x128, .f32⟩
  | 55 => ⟨S2x4x8x128x128, .f32⟩
  | 56 => ⟨S2x4x8x128x128, .f32⟩
  | 57 => ⟨S1x2x4x8x128x128, .f32⟩
  | 58 => ⟨S2x4x8x128x128, .f32⟩
  | 59 => ⟨S2x4x8x128x128, .f32⟩
  | 60 => ⟨S2x4x8x128x128, .f32⟩
  | 61 => ⟨S2x4x8x128x128, .f32⟩
  | 62 => ⟨S1x2x4x8x128x128, .f32⟩
  | 63 => ⟨S2x4x8x128x128, .f32⟩
  | 64 => ⟨S2x4x8x128x128, .f32⟩
  | 65 => ⟨S2x4x8x128x128, .f32⟩
  | 66 => ⟨S2x4x8x128x128, .f32⟩
  | 67 => ⟨S1x2x4x8x128x128, .f32⟩
  | 68 => ⟨S2x4x8x128x128, .f32⟩
  | 69 => ⟨S2x4x8x128x128, .f32⟩
  | 70 => ⟨S2x4x8x128x128, .f32⟩
  | 71 => ⟨S2x4x8x128x128, .f32⟩
  | 72 => ⟨S1x2x4x8x128x128, .f32⟩
  | 73 => ⟨S2x4x8x128x128, .f32⟩
  | 74 => ⟨S2x4x8x128x128, .f32⟩
  | 75 => ⟨S2x4x8x128x128, .f32⟩
  | 76 => ⟨S2x4x8x128x128, .f32⟩
  | 77 => ⟨S1x2x4x8x128x128, .f32⟩
  | 78 => ⟨S2x4x8x128x128, .f32⟩
  | 79 => ⟨S2x4x8x128x128, .f32⟩
  | 80 => ⟨S2x4x8x128x128, .f32⟩
  | 81 => ⟨S2x4x8x128x128, .f32⟩
  | 82 => ⟨S1x2x4x8x128x128, .f32⟩
  | 83 => ⟨S2x4x8x128x128, .f32⟩
  | 84 => ⟨S2x4x8x128x128, .f32⟩
  | 85 => ⟨S2x4x8x128x128, .f32⟩
  | 86 => ⟨S2x4x8x128x128, .f32⟩
  | 87 => ⟨S1x2x4x8x128x128, .f32⟩
  | 88 => ⟨S1x2x4x8x128x128, .f32⟩
  | 89 => ⟨S1x2x4x8x128x128, .f32⟩
  | 90 => ⟨S1x2x4x8x128x128, .f32⟩
  | 91 => ⟨S1x2x4x8x128x128, .f32⟩
  | 92 => ⟨S1x2x4x8x128x128, .f32⟩
  | 93 => ⟨S1x2x4x8x128x128, .f32⟩
  | 94 => ⟨S1x2x4x8x128x128, .f32⟩
  | 95 => ⟨S1x2x4x8x128x128, .f32⟩
  | 96 => ⟨S1x2x4x8x128x128, .f32⟩
  | 97 => ⟨S1x2x4x8x128x128, .f32⟩
  | 98 => ⟨S1x2x4x8x128x128, .f32⟩
  | 99 => ⟨S1x2x4x8x128x128, .f32⟩
  | 100 => ⟨S1x2x4x8x128x128, .f32⟩
  | 101 => ⟨S1x2x4x8x128x128, .f32⟩
  | 102 => ⟨S1x2x4x8x128x128, .f32⟩
  | 103 => ⟨S1x2x4x8x128x128, .f32⟩
  | 104 => ⟨S1x2x4x8x128x128, .f32⟩
  | 105 => ⟨S16x2x4x8x128x128, .f32⟩
  | 106 => ⟨S2x2x4x8x128x128, .f32⟩
  | 107 => ⟨S18x2x4x8x128x128, .f32⟩
  | 108 => ⟨S18x2x4x8x128x128, .f32⟩
  | 109 => ⟨S2x1x8x1x128x1, .f32⟩
  | 110 => ⟨S2x4x8x18x128x128, .f32⟩
  | 111 => ⟨S2x4x8x18x128x128, .f32⟩
  | 112 => ⟨S2x4x8x18x128x128, .f32⟩
  | 113 => ⟨S2x4x8x18x128x128, .f32⟩
  | 114 => ⟨S2x4x8x2304x128, .f32⟩
  | 115 => ⟨S1x4x8x2304x128, .f32⟩
  | 116 => ⟨S4x8x2304x128, .f32⟩
  | 117 => ⟨S1x4x8x2304x128, .f32⟩
  | 118 => ⟨S4x8x2304x128, .f32⟩
  | 119 => ⟨S4x8x256x128, .f32⟩
  | 120 => ⟨S4x8x256x128, .f32⟩
  | 121 => ⟨S4x8x2048x128, .f32⟩
  | 122 => ⟨S4x8x2048x128, .f32⟩
  | 123 => ⟨S4x8x2304x128, .f32⟩
  | 124 => ⟨S4x8x2304x128, .f32⟩
  | 125 => ⟨S_, .f32⟩
  | 126 => ⟨S4x8x2304, .f32⟩
  | 127 => ⟨S4x8x2304x1, .f32⟩
  | _ => ⟨S9216x4096, .f32⟩

abbrev hbmTy0_2 (i : Nat) : BufTy := match i % 128 with
  | 0 => ⟨S_, .f32⟩
  | 1 => ⟨S4x8x2304x1, .f32⟩
  | 2 => ⟨S4x8x2304x1, .f32⟩
  | 3 => ⟨S4x8x2304x128, .f32⟩
  | 4 => ⟨S4x8x2304x128, .f32⟩
  | 5 => ⟨S4x8x2304x128, .f32⟩
  | 6 => ⟨S_, .f32⟩
  | 7 => ⟨S4x8x2304, .f32⟩
  | 8 => ⟨S4x8x2304x1, .f32⟩
  | 9 => ⟨S_, .f32⟩
  | 10 => ⟨S4x8x2304x1, .f32⟩
  | 11 => ⟨S4x8x2304x1, .f32⟩
  | 12 => ⟨S4x8x2304x128, .f32⟩
  | 13 => ⟨S4x8x2304x128, .f32⟩
  | 14 => ⟨S_, .f32⟩
  | 15 => ⟨S4x8x2304x1, .f32⟩
  | 16 => ⟨S4x8x2304x1, .f32⟩
  | 17 => ⟨S4x8x2304x1, .f32⟩
  | 18 => ⟨S4x8x2304x128, .f32⟩
  | 19 => ⟨S4x8x2304x128, .f32⟩
  | 20 => ⟨S4x2304x8x128, .f32⟩
  | 21 => ⟨S4x2304x1024, .f32⟩
  | 22 => ⟨S4x2304x1024, .f32⟩
  | 23 => ⟨S4x2304x1024, .f32⟩
  | 24 => ⟨S_, .f32⟩
  | 25 => ⟨S4x2304x1024, .f32⟩
  | 26 => ⟨S4x2304x1024, .f32⟩
  | 27 => ⟨S_, .f32⟩
  | 28 => ⟨S4x2304x1024, .f32⟩
  | 29 => ⟨S4x2304x1024, .f32⟩
  | 30 => ⟨S4x2304x1024, .f32⟩
  | 31 => ⟨S4x2304x1024, .f32⟩
  | 32 => ⟨S9216x1024, .f32⟩
  | 33 => ⟨S9216x1024, .bf16⟩
  | _ => ⟨S9216x4096, .f32⟩

abbrev hbmTy (i : Nat) : BufTy := match i / 128 with
  | 0 => hbmTy0_0 i
  | 1 => hbmTy0_1 i
  | 2 => hbmTy0_2 i
  | _ => ⟨S9216x4096, .f32⟩

abbrev bufTy : (tb : Table) → Fin (tcTables nBuf tb) → BufTy
  | .hbm, ⟨i, _⟩ => hbmTy i
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_v8 : Ref sig .tc := ⟨.hbm, 13, rfl⟩
abbrev main_call0_call0_v9 : Ref sig .tc := ⟨.hbm, 14, rfl⟩
abbrev main_call0_call0_v10 : Ref sig .tc := ⟨.hbm, 15, rfl⟩
abbrev main_call0_call0_v11 : Ref sig .tc := ⟨.hbm, 16, rfl⟩
abbrev main_call0_v1 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_1 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_2 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_3 : Ref sig .tc := ⟨.hbm, 81, rfl⟩
abbrev main_call7_v0 : Ref sig .tc := ⟨.hbm, 82, rfl⟩
abbrev main_call7_v1 : Ref sig .tc := ⟨.hbm, 83, rfl⟩
abbrev main_call7_v2 : Ref sig .tc := ⟨.hbm, 84, rfl⟩
abbrev main_call7_v3 : Ref sig .tc := ⟨.hbm, 85, rfl⟩
abbrev main_call7_v4 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_4 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_5 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_6 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_7 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_cst_8 : Ref sig .tc := ⟨.hbm, 253, rfl⟩
abbrev main_v222 : Ref sig .tc := ⟨.hbm, 254, rfl⟩
abbrev main_v223 : Ref sig .tc := ⟨.hbm, 255, rfl⟩
abbrev main_cst_9 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_cst_10 : Ref sig .tc := ⟨.hbm, 262, rfl⟩
abbrev main_v229 : Ref sig .tc := ⟨.hbm, 263, rfl⟩
abbrev main_v230 : Ref sig .tc := ⟨.hbm, 264, rfl⟩
abbrev main_cst_11 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_cst_12 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_call10_v0 : Ref sig .tc := ⟨.hbm, 278, rfl⟩
abbrev main_call10_v1 : Ref sig .tc := ⟨.hbm, 279, rfl⟩
abbrev main_call10_cst : Ref sig .tc := ⟨.hbm, 280, rfl⟩
abbrev main_call10_v2 : Ref sig .tc := ⟨.hbm, 281, rfl⟩
abbrev main_call10_v3 : Ref sig .tc := ⟨.hbm, 282, rfl⟩
abbrev main_call10_cst_0 : Ref sig .tc := ⟨.hbm, 283, rfl⟩
abbrev main_call10_v4 : Ref sig .tc := ⟨.hbm, 284, rfl⟩
abbrev main_call10_v5 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩

abbrev nD : Nat := 1
abbrev τ : Topo := Topo.v7x

variable {F : FTy → Type} [FloatOps F]
-- ==== InRet.lean ====
abbrev S9216x2048 : Shape := ⟨2, ![9216, 2048]⟩
abbrev S2048x15232 : Shape := ⟨2, ![2048, 15232]⟩
abbrev S2048x4096 : Shape := ⟨2, ![2048, 4096]⟩
abbrev S9216x4096 : Shape := ⟨2, ![9216, 4096]⟩
abbrev S1152x2048 : Shape := ⟨2, ![1152, 2048]⟩
abbrev S2048x1024 : Shape := ⟨2, ![2048, 1024]⟩
abbrev S1152x1024 : Shape := ⟨2, ![1152, 1024]⟩

abbrev nBuf : Space → Nat
  | .hbm => 5
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2048x15232, .f32⟩
  | .hbm, ⟨2, _⟩ => ⟨S2048x15232, .bf16⟩
  | .hbm, ⟨3, _⟩ => ⟨S2048x4096, .bf16⟩
  | .hbm, ⟨4, _⟩ => ⟨S9216x4096, .f32⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .f32⟩
  | .local _ .vmem, ⟨5, _⟩ => ⟨S1152x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRetRefIdeal.lean ====
abbrev S9216x2048 : Shape := ⟨2, ![9216, 2048]⟩
abbrev S2048x15232 : Shape := ⟨2, ![2048, 15232]⟩
abbrev S9216x15232 : Shape := ⟨2, ![9216, 15232]⟩
abbrev S9216x4096 : Shape := ⟨2, ![9216, 4096]⟩

abbrev nBuf : Space → Nat
  | .hbm => 5
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x15232, .f32⟩
  | .hbm, ⟨2, _⟩ => ⟨S9216x2048, .f32⟩
  | .hbm, ⟨3, _⟩ => ⟨S9216x15232, .f32⟩
  | .hbm, ⟨4, _⟩ => ⟨S9216x4096, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InSwa.lean ====
abbrev S9216x2048 : Shape := ⟨2, ![9216, 2048]⟩
abbrev S2048x15232 : Shape := ⟨2, ![2048, 15232]⟩
abbrev S2048x1536 : Shape := ⟨2, ![2048, 1536]⟩
abbrev S9216x1536 : Shape := ⟨2, ![9216, 1536]⟩
abbrev S1152x2048 : Shape := ⟨2, ![1152, 2048]⟩
abbrev S2048x768 : Shape := ⟨2, ![2048, 768]⟩
abbrev S1152x768 : Shape := ⟨2, ![1152, 768]⟩

abbrev nBuf : Space → Nat
  | .hbm => 5
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2048x15232, .f32⟩
  | .hbm, ⟨2, _⟩ => ⟨S2048x15232, .bf16⟩
  | .hbm, ⟨3, _⟩ => ⟨S2048x1536, .bf16⟩
  | .hbm, ⟨4, _⟩ => ⟨S9216x1536, .f32⟩
  | .local _ .vmem, ⟨0, _⟩ => ⟨S1152x2048, .bf16⟩
  | .local _ .vmem, ⟨1, _⟩ => ⟨S1152x2048, .bf16⟩
  | .local _ .vmem, ⟨2, _⟩ => ⟨S2048x768, .bf16⟩
  | .local _ .vmem, ⟨3, _⟩ => ⟨S2048x768, .bf16⟩
  | .local _ .vmem, ⟨4, _⟩ => ⟨S1152x768, .f32⟩
  | .local _ .vmem, ⟨5, _⟩ => ⟨S1152x768, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InSwaRefIdeal.lean ====
abbrev S9216x2048 : Shape := ⟨2, ![9216, 2048]⟩
abbrev S2048x15232 : Shape := ⟨2, ![2048, 15232]⟩
abbrev S9216x15232 : Shape := ⟨2, ![9216, 15232]⟩
abbrev S9216x1536 : Shape := ⟨2, ![9216, 1536]⟩

abbrev nBuf : Space → Nat
  | .hbm => 5
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x15232, .f32⟩
  | .hbm, ⟨2, _⟩ => ⟨S9216x2048, .f32⟩
  | .hbm, ⟨3, _⟩ => ⟨S9216x15232, .f32⟩
  | .hbm, ⟨4, _⟩ => ⟨S9216x1536, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InRkv.lean ====
abbrev S9216x2048 : Shape := ⟨2, ![9216, 2048]⟩
abbrev S2048x15232 : Shape := ⟨2, ![2048, 15232]⟩
abbrev S2048x3072 : Shape := ⟨2, ![2048, 3072]⟩
abbrev S9216x3072 : Shape := ⟨2, ![9216, 3072]⟩
abbrev S1152x2048 : Shape := ⟨2, ![1152, 2048]⟩
abbrev S2048x1024 : Shape := ⟨2, ![2048, 1024]⟩
abbrev S1152x1024 : Shape := ⟨2, ![1152, 1024]⟩

abbrev nBuf : Space → Nat
  | .hbm => 5
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2048x15232, .f32⟩
  | .hbm, ⟨2, _⟩ => ⟨S2048x15232, .bf16⟩
  | .hbm, ⟨3, _⟩ => ⟨S2048x3072, .bf16⟩
  | .hbm, ⟨4, _⟩ => ⟨S9216x3072, .f32⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .f32⟩
  | .local _ .vmem, ⟨5, _⟩ => ⟨S1152x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRkvRefIdeal.lean ====
abbrev S9216x2048 : Shape := ⟨2, ![9216, 2048]⟩
abbrev S2048x15232 : Shape := ⟨2, ![2048, 15232]⟩
abbrev S9216x15232 : Shape := ⟨2, ![9216, 15232]⟩
abbrev S9216x3072 : Shape := ⟨2, ![9216, 3072]⟩

abbrev nBuf : Space → Nat
  | .hbm => 5
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x15232, .f32⟩
  | .hbm, ⟨2, _⟩ => ⟨S9216x2048, .f32⟩
  | .hbm, ⟨3, _⟩ => ⟨S9216x15232, .f32⟩
  | .hbm, ⟨4, _⟩ => ⟨S9216x3072, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InSmall.lean ====
abbrev S9216x2048 : Shape := ⟨2, ![9216, 2048]⟩
abbrev S2048x15232 : Shape := ⟨2, ![2048, 15232]⟩
abbrev S2048x384 : Shape := ⟨2, ![2048, 384]⟩
abbrev S9216x384 : Shape := ⟨2, ![9216, 384]⟩
abbrev S1152x2048 : Shape := ⟨2, ![1152, 2048]⟩
abbrev S1152x384 : Shape := ⟨2, ![1152, 384]⟩

abbrev nBuf : Space → Nat
  | .hbm => 5
  | .vmem => 5
  | .smem => 0
  | _ => 0

abbrev bufTy : (tb : Table) → Fin (tcTables nBuf tb) → BufTy
  | .hbm, ⟨0, _⟩ => ⟨S9216x2048, .bf16⟩
  | .hbm, ⟨1, _⟩ => ⟨S2048x15232, .f32⟩
  | .hbm, ⟨2, _⟩ => ⟨S2048x15232, .bf16⟩
  | .hbm, ⟨3, _⟩ => ⟨S2048x384, .bf16⟩
  | .hbm, ⟨4, _⟩ => ⟨S9216x384, .f32⟩
  | .local _ .vmem, ⟨0, _⟩ => ⟨S1152x2048, .bf16⟩
  | .local _ .vmem, ⟨1, _⟩ => ⟨S1152x2048, .bf16⟩
  | .local _ .vmem, ⟨2, _⟩ => ⟨S2048x384, .bf16⟩
  | .local _ .vmem, ⟨3, _⟩ => ⟨S1152x384, .f32⟩
  | .local _ .vmem, ⟨4, _⟩ => ⟨S1152x384, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InSmallRefIdeal.lean ====
abbrev S9216x2048 : Shape := ⟨2, ![9216, 2048]⟩
abbrev S2048x15232 : Shape := ⟨2, ![2048, 15232]⟩
abbrev S9216x15232 : Shape := ⟨2, ![9216, 15232]⟩
abbrev S9216x384 : Shape := ⟨2, ![9216, 384]⟩

abbrev nBuf : Space → Nat
  | .hbm => 5
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x15232, .f32⟩
  | .hbm, ⟨2, _⟩ => ⟨S9216x2048, .f32⟩
  | .hbm, ⟨3, _⟩ => ⟨S9216x15232, .f32⟩
  | .hbm, ⟨4, _⟩ => ⟨S9216x384, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InGate.lean ====
abbrev S9216x2048 : Shape := ⟨2, ![9216, 2048]⟩
abbrev S2048x15232 : Shape := ⟨2, ![2048, 15232]⟩
abbrev S2048x6144 : Shape := ⟨2, ![2048, 6144]⟩
abbrev S9216x6144 : Shape := ⟨2, ![9216, 6144]⟩
abbrev S1152x2048 : Shape := ⟨2, ![1152, 2048]⟩
abbrev S2048x1024 : Shape := ⟨2, ![2048, 1024]⟩
abbrev S1152x1024 : Shape := ⟨2, ![1152, 1024]⟩

abbrev nBuf : Space → Nat
  | .hbm => 5
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2048x15232, .f32⟩
  | .hbm, ⟨2, _⟩ => ⟨S2048x15232, .bf16⟩
  | .hbm, ⟨3, _⟩ => ⟨S2048x6144, .bf16⟩
  | .hbm, ⟨4, _⟩ => ⟨S9216x6144, .f32⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .f32⟩
  | .local _ .vmem, ⟨5, _⟩ => ⟨S1152x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGateRefIdeal.lean ====
abbrev S9216x2048 : Shape := ⟨2, ![9216, 2048]⟩
abbrev S2048x15232 : Shape := ⟨2, ![2048, 15232]⟩
abbrev S9216x15232 : Shape := ⟨2, ![9216, 15232]⟩
abbrev S9216x6144 : Shape := ⟨2, ![9216, 6144]⟩

abbrev nBuf : Space → Nat
  | .hbm => 5
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x15232, .f32⟩
  | .hbm, ⟨2, _⟩ => ⟨S9216x2048, .f32⟩
  | .hbm, ⟨3, _⟩ => ⟨S9216x15232, .f32⟩
  | .hbm, ⟨4, _⟩ => ⟨S9216x6144, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S9216x2048 : Shape := ⟨2, ![9216, 2048]⟩
abbrev S2048x8192 : Shape := ⟨2, ![2048, 8192]⟩
abbrev S9216x8192 : Shape := ⟨2, ![9216, 8192]⟩
abbrev S1152x2048 : Shape := ⟨2, ![1152, 2048]⟩
abbrev S2048x1024 : Shape := ⟨2, ![2048, 1024]⟩
abbrev S1152x1024 : Shape := ⟨2, ![1152, 1024]⟩

abbrev nBuf : Space → Nat
  | .hbm => 4
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2048x8192, .f32⟩
  | .hbm, ⟨2, _⟩ => ⟨S2048x8192, .bf16⟩
  | .hbm, ⟨3, _⟩ => ⟨S9216x8192, .bf16⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S9216x2048 : Shape := ⟨2, ![9216, 2048]⟩
abbrev S2048x8192 : Shape := ⟨2, ![2048, 8192]⟩
abbrev S9216x8192 : Shape := ⟨2, ![9216, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x8192, .f32⟩
  | .hbm, ⟨2, _⟩ => ⟨S9216x2048, .f32⟩
  | .hbm, ⟨3, _⟩ => ⟨S9216x8192, .f32⟩
  | .hbm, ⟨4, _⟩ => ⟨S_, .f32⟩
  | .hbm, ⟨5, _⟩ => ⟨S9216x8192, .f32⟩
  | .hbm, ⟨6, _⟩ => ⟨S9216x8192, .f32⟩
  | .hbm, ⟨7, _⟩ => ⟨S9216x8192, .f32⟩
  | .hbm, ⟨8, _⟩ => ⟨S9216x8192, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Down.lean ====
abbrev S9216x8192 : Shape := ⟨2, ![9216, 8192]⟩
abbrev S8192x2048 : Shape := ⟨2, ![8192, 2048]⟩
abbrev S9216x2048 : Shape := ⟨2, ![9216, 2048]⟩
abbrev S6x8x2048 : Shape := ⟨3, ![6, 8, 2048]⟩
abbrev S1152x2048 : Shape := ⟨2, ![1152, 2048]⟩
abbrev S2048x1024 : Shape := ⟨2, ![2048, 1024]⟩
abbrev S1152x1024 : Shape := ⟨2, ![1152, 1024]⟩
abbrev S1x8x1024 : Shape := ⟨3, ![1, 8, 1024]⟩
abbrev S1x1x1024 : Shape := ⟨3, ![1, 1, 1024]⟩
abbrev S1x1024 : Shape := ⟨2, ![1, 1024]⟩
abbrev S1152x1 : Shape := ⟨2, ![1152, 1]⟩

abbrev nBuf : Space → Nat
  | .hbm => 6
  | .vmem => 11
  | .smem => 0
  | _ => 0

abbrev bufTy : (tb : Table) → Fin (tcTables nBuf tb) → BufTy
  | .hbm, ⟨0, _⟩ => ⟨S9216x8192, .bf16⟩
  | .hbm, ⟨1, _⟩ => ⟨S8192x2048, .f32⟩
  | .hbm, ⟨2, _⟩ => ⟨S9216x2048, .f32⟩
  | .hbm, ⟨3, _⟩ => ⟨S6x8x2048, .f32⟩
  | .hbm, ⟨4, _⟩ => ⟨S8192x2048, .bf16⟩
  | .hbm, ⟨5, _⟩ => ⟨S9216x2048, .f32⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .f32⟩
  | .local _ .vmem, ⟨5, _⟩ => ⟨S1152x1024, .f32⟩
  | .local _ .vmem, ⟨6, _⟩ => ⟨S1x8x1024, .f32⟩
  | .local _ .vmem, ⟨7, _⟩ => ⟨S1x8x1024, .f32⟩
  | .local _ .vmem, ⟨8, _⟩ => ⟨S1152x1024, .f32⟩
  | .local _ .vmem, ⟨9, _⟩ => ⟨S1152x1024, .f32⟩
  | .local _ .vmem, ⟨10, _⟩ => ⟨S1152x1024, .f32⟩
  | _, _ => ⟨S9216x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def k0_off1 (i : grid0.Coords) : Fin 3 → Nat :=
  let c0_15 : Index := 0#32
  let arg0 : BitVec 32 := BitVec.ofNat 32 (i 0).val
  let c0_i32_10 : BitVec 32 := 0#32
  let v18 : BitVec 1 := Scalar.cmpi .sgt arg0 c0_i32_10
  let v19 : BitVec 32 := Scalar.extui v18
  let c0_i32_11 : BitVec 32 := 0#32
  let v20 : BitVec 1 := Scalar.cmpi .slt arg0 c0_i32_11
  let v21 : BitVec 32 := Scalar.extui v20
  let v22 : BitVec 32 := Scalar.subi v19 v21
  let c2_i32 : BitVec 32 := 2#32
  let c0_i32_12 : BitVec 32 := 0#32
  let v23 : BitVec 1 := Scalar.cmpi .sgt c2_i32 c0_i32_12
  let v24 : BitVec 32 := Scalar.extui v23
  let c0_i32_13 : BitVec 32 := 0#32
  let v25 : BitVec 1 := Scalar.cmpi .slt c2_i32 c0_i32_13
  let v26 : BitVec 32 := Scalar.extui v25
  let v27 : BitVec 32 := Scalar.subi v24 v26
  let v28 : BitVec 1 := Scalar.cmpi .ne v22 v27
  let v29 : BitVec 32 := Scalar.remsi arg0 c2_i32
  let c0_i32_14 : BitVec 32 := 0#32
  let v30 : BitVec 1 := Scalar.cmpi .ne v29 c0_i32_14
  let v31 : BitVec 1 := Scalar.andi v28 v30
  let v17 : BitVec 32 := Scalar.divsi arg0 c2_i32
  let c1_i32 : BitVec 32 := 1#32
  let v32 : BitVec 32 := Scalar.subi v17 c1_i32
  let v33 : BitVec 32 := Scalar.select v31 v32 v17
  let v34 : Index := Scalar.indexCast v33
  let c0_16 : Index := 0#32
  ![0, v34.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  let c0_i32_0 : BitVec 32 := 0#32
  ![c5_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1152x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DownRefIdeal.lean ====
abbrev S9216x8192 : Shape := ⟨2, ![9216, 8192]⟩
abbrev S8192x2048 : Shape := ⟨2, ![8192, 2048]⟩
abbrev S9216x2048 : Shape := ⟨2, ![9216, 2048]⟩
abbrev S6x8x2048 : Shape := ⟨3, ![6, 8, 2048]⟩
abbrev S1x8x2048 : Shape := ⟨3, ![1, 8, 2048]⟩
abbrev S8x2048 : Shape := ⟨2, ![8, 2048]⟩
abbrev S4x2304x2048 : Shape := ⟨3, ![4, 2304, 2048]⟩
abbrev S4x256x2048 : Shape := ⟨3, ![4, 256, 2048]⟩
abbrev S1x2048 : Shape := ⟨2, ![1, 2048]⟩
abbrev S2048 : Shape := ⟨1, ![2048]⟩
abbrev S1x1x2048 : Shape := ⟨3, ![1, 1, 2048]⟩
abbrev S4x2048x2048 : Shape := ⟨3, ![4, 2048, 2048]⟩
abbrev S4x2048 : Shape := ⟨2, ![4, 2048]⟩
abbrev S4x1x2048 : Shape := ⟨3, ![4, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S9216x8192, .bf16⟩
  | .hbm, ⟨1, _⟩ => ⟨S8192x2048, .f32⟩
  | .hbm, ⟨2, _⟩ => ⟨S9216x2048, .f32⟩
  | .hbm, ⟨3, _⟩ => ⟨S6x8x2048, .f32⟩
  | .hbm, ⟨4, _⟩ => ⟨S9216x8192, .f32⟩
  | .hbm, ⟨5, _⟩ => ⟨S9216x2048, .f32⟩
  | .hbm, ⟨6, _⟩ => ⟨S1x8x2048, .f32⟩
  | .hbm, ⟨7, _⟩ => ⟨S8x2048, .f32⟩
  | .hbm, ⟨8, _⟩ => ⟨S4x2304x2048, .f32⟩
  | .hbm, ⟨9, _⟩ => ⟨S4x2304x2048, .f32⟩
  | .hbm, ⟨10, _⟩ => ⟨S4x256x2048, .f32⟩
  | .hbm, ⟨11, _⟩ => ⟨S1x2048, .f32⟩
  | .hbm, ⟨12, _⟩ => ⟨S2048, .f32⟩
  | .hbm, ⟨13, _⟩ => ⟨S4x256x2048, .f32⟩
  | .hbm, ⟨14, _⟩ => ⟨S1x1x2048, .f32⟩
  | .hbm, ⟨15, _⟩ => ⟨S4x256x2048, .f32⟩
  | .hbm, ⟨16, _⟩ => ⟨S4x256x2048, .f32⟩
  | .hbm, ⟨17, _⟩ => ⟨S4x256x2048, .f32⟩
  | .hbm, ⟨18, _⟩ => ⟨S4x2048x2048, .f32⟩
  | .hbm, ⟨19, _⟩ => ⟨S4x2048, .f32⟩
  | .hbm, ⟨20, _⟩ => ⟨S4x1x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2304x2048, .f32⟩
  | .hbm, ⟨26, _⟩ => ⟨S9216x2048, .f32⟩
  | _, _ => ⟨S9216x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Out.lean ====
abbrev S9216x2048 : Shape := ⟨2, ![9216, 2048]⟩
abbrev S2048x2048 : Shape := ⟨2, ![2048, 2048]⟩
abbrev S6x8x2048 : Shape := ⟨3, ![6, 8, 2048]⟩
abbrev S1152x2048 : Shape := ⟨2, ![1152, 2048]⟩
abbrev S2048x1024 : Shape := ⟨2, ![2048, 1024]⟩
abbrev S1152x1024 : Shape := ⟨2, ![1152, 1024]⟩
abbrev S1x8x1024 : Shape := ⟨3, ![1, 8, 1024]⟩
abbrev S1x1x1024 : Shape := ⟨3, ![1, 1, 1024]⟩
abbrev S1x1024 : Shape := ⟨2, ![1, 1024]⟩
abbrev S1152x1 : Shape := ⟨2, ![1152, 1]⟩

abbrev nBuf : Space → Nat
  | .hbm => 6
  | .vmem => 10
  | .smem => 0
  | _ => 0

abbrev bufTy : (tb : Table) → Fin (tcTables nBuf tb) → BufTy
  | .hbm, ⟨0, _⟩ => ⟨S9216x2048, .bf16⟩
  | .hbm, ⟨1, _⟩ => ⟨S2048x2048, .f32⟩
  | .hbm, ⟨2, _⟩ => ⟨S9216x2048, .f32⟩
  | .hbm, ⟨3, _⟩ => ⟨S6x8x2048, .f32⟩
  | .hbm, ⟨4, _⟩ => ⟨S2048x2048, .bf16⟩
  | .hbm, ⟨5, _⟩ => ⟨S9216x2048, .f32⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .f32⟩
  | .local _ .vmem, ⟨5, _⟩ => ⟨S1152x1024, .f32⟩
  | .local _ .vmem, ⟨6, _⟩ => ⟨S1x8x1024, .f32⟩
  | .local _ .vmem, ⟨7, _⟩ => ⟨S1x8x1024, .f32⟩
  | .local _ .vmem, ⟨8, _⟩ => ⟨S1152x1024, .f32⟩
  | .local _ .vmem, ⟨9, _⟩ => ⟨S1152x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 1], ![false, false, false]⟩

def k0_off1 (i : grid0.Coords) : Fin 3 → Nat :=
  let c0_7 : Index := 0#32
  let arg0 : BitVec 32 := BitVec.ofNat 32 (i 0).val
  let c0_i32 : BitVec 32 := 0#32
  let v5 : BitVec 1 := Scalar.cmpi .sgt arg0 c0_i32
  let v6 : BitVec 32 := Scalar.extui v5
  let c0_i32_3 : BitVec 32 := 0#32
  let v7 : BitVec 1 := Scalar.cmpi .slt arg0 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi arg0 c2_i32
  let c0_i32_6 : BitVec 32 := 0#32
  let v17 : BitVec 1 := Scalar.cmpi .ne v16 c0_i32_6
  let v18 : BitVec 1 := Scalar.andi v15 v17
  let v4 : BitVec 32 := Scalar.divsi arg0 c2_i32
  let c1_i32 : BitVec 32 := 1#32
  let v19 : BitVec 32 := Scalar.subi v4 c1_i32
  let v20 : BitVec 32 := Scalar.select v18 v19 v4
  let v21 : Index := Scalar.indexCast v20
  let c0_8 : Index := 0#32
  ![0, v21.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1152x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutRefIdeal.lean ====
abbrev S9216x2048 : Shape := ⟨2, ![9216, 2048]⟩
abbrev S2048x2048 : Shape := ⟨2, ![2048, 2048]⟩
abbrev S6x8x2048 : Shape := ⟨3, ![6, 8, 2048]⟩
abbrev S1x8x2048 : Shape := ⟨3, ![1, 8, 2048]⟩
abbrev S8x2048 : Shape := ⟨2, ![8, 2048]⟩
abbrev S4x2304x2048 : Shape := ⟨3, ![4, 2304, 2048]⟩
abbrev S4x256x2048 : Shape := ⟨3, ![4, 256, 2048]⟩
abbrev S1x2048 : Shape := ⟨2, ![1, 2048]⟩
abbrev S2048 : Shape := ⟨1, ![2048]⟩
abbrev S1x1x2048 : Shape := ⟨3, ![1, 1, 2048]⟩
abbrev S4x2048x2048 : Shape := ⟨3, ![4, 2048, 2048]⟩
abbrev S4x2048 : Shape := ⟨2, ![4, 2048]⟩
abbrev S4x1x2048 : Shape := ⟨3, ![4, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x2048, .f32⟩
  | .hbm, ⟨2, _⟩ => ⟨S9216x2048, .f32⟩
  | .hbm, ⟨3, _⟩ => ⟨S6x8x2048, .f32⟩
  | .hbm, ⟨4, _⟩ => ⟨S9216x2048, .f32⟩
  | .hbm, ⟨5, _⟩ => ⟨S9216x2048, .f32⟩
  | .hbm, ⟨6, _⟩ => ⟨S1x8x2048, .f32⟩
  | .hbm, ⟨7, _⟩ => ⟨S8x2048, .f32⟩
  | .hbm, ⟨8, _⟩ => ⟨S4x2304x2048, .f32⟩
  | .hbm, ⟨9, _⟩ => ⟨S4x2304x2048, .f32⟩
  | .hbm, ⟨10, _⟩ => ⟨S4x256x2048, .f32⟩
  | .hbm, ⟨11, _⟩ => ⟨S1x2048, .f32⟩
  | .hbm, ⟨12, _⟩ => ⟨S2048, .f32⟩
  | .hbm, ⟨13, _⟩ => ⟨S4x256x2048, .f32⟩
  | .hbm, ⟨14, _⟩ => ⟨S1x1x2048, .f32⟩
  | .hbm, ⟨15, _⟩ => ⟨S4x256x2048, .f32⟩
  | .hbm, ⟨16, _⟩ => ⟨S4x256x2048, .f32⟩
  | .hbm, ⟨17, _⟩ => ⟨S4x256x2048, .f32⟩
  | .hbm, ⟨18, _⟩ => ⟨S4x2048x2048, .f32⟩
  | .hbm, ⟨19, _⟩ => ⟨S4x2048, .f32⟩
  | .hbm, ⟨20, _⟩ => ⟨S4x1x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2304x2048, .f32⟩
  | .hbm, ⟨26, _⟩ => ⟨S9216x2048, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Merge.lean ====
abbrev S9216x1024 : Shape := ⟨2, ![9216, 1024]⟩
abbrev S9216x6144 : Shape := ⟨2, ![9216, 6144]⟩
abbrev S3x1024x2048 : Shape := ⟨3, ![3, 1024, 2048]⟩
abbrev S9216x2048 : Shape := ⟨2, ![9216, 2048]⟩
abbrev S768x1024 : Shape := ⟨2, ![768, 1024]⟩
abbrev S3x1024x512 : Shape := ⟨3, ![3, 1024, 512]⟩
abbrev S768x512 : Shape := ⟨2, ![768, 512]⟩
abbrev S1x1024x512 : Shape := ⟨3, ![1, 1024, 512]⟩
abbrev S1024x512 : Shape := ⟨2, ![1024, 512]⟩

abbrev nBuf : Space → Nat
  | .hbm => 7
  | .vmem => 16
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x1024, .bf16⟩
  | .hbm, ⟨3, _⟩ => ⟨S9216x6144, .f32⟩
  | .hbm, ⟨4, _⟩ => ⟨S3x1024x2048, .f32⟩
  | .hbm, ⟨5, _⟩ => ⟨S3x1024x2048, .bf16⟩
  | .hbm, ⟨6, _⟩ => ⟨S9216x2048, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S3x1024x512, .bf16⟩
  | .local _ .vmem, ⟨7, _⟩ => ⟨S3x1024x512, .bf16⟩
  | .local _ .vmem, ⟨8, _⟩ => ⟨S768x512, .f32⟩
  | .local _ .vmem, ⟨9, _⟩ => ⟨S768x512, .f32⟩
  | .local _ .vmem, ⟨10, _⟩ => ⟨S768x512, .f32⟩
  | .local _ .vmem, ⟨11, _⟩ => ⟨S768x512, .f32⟩
  | .local _ .vmem, ⟨12, _⟩ => ⟨S768x512, .f32⟩
  | .local _ .vmem, ⟨13, _⟩ => ⟨S768x512, .f32⟩
  | .local _ .vmem, ⟨14, _⟩ => ⟨S768x512, .bf16⟩
  | .local _ .vmem, ⟨15, _⟩ => ⟨S768x512, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![12, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S9216x1024 : Shape := ⟨2, ![9216, 1024]⟩
abbrev S9216x6144 : Shape := ⟨2, ![9216, 6144]⟩
abbrev S3x1024x2048 : Shape := ⟨3, ![3, 1024, 2048]⟩
abbrev S9216x3x2048 : Shape := ⟨3, ![9216, 3, 2048]⟩
abbrev S_ : Shape := ⟨0, ![]⟩
abbrev S9216x1x1024 : Shape := ⟨3, ![9216, 1, 1024]⟩
abbrev S9216x3x1024 : Shape := ⟨3, ![9216, 3, 1024]⟩
abbrev S3x2048x9216 : Shape := ⟨3, ![3, 2048, 9216]⟩
abbrev S9216x2048 : Shape := ⟨2, ![9216, 2048]⟩

abbrev nBuf : Space → Nat
  | .hbm => 27
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x1024, .bf16⟩
  | .hbm, ⟨3, _⟩ => ⟨S9216x6144, .f32⟩
  | .hbm, ⟨4, _⟩ => ⟨S3x1024x2048, .f32⟩
  | .hbm, ⟨5, _⟩ => ⟨S9216x3x2048, .f32⟩
  | .hbm, ⟨6, _⟩ => ⟨S9216x3x2048, .f32⟩
  | .hbm, ⟨7, _⟩ => ⟨S9216x3x2048, .f32⟩
  | .hbm, ⟨8, _⟩ => ⟨S_, .f32⟩
  | .hbm, ⟨9, _⟩ => ⟨S9216x3x2048, .f32⟩
  | .hbm, ⟨10, _⟩ => ⟨S9216x3x2048, .f32⟩
  | .hbm, ⟨11, _⟩ => ⟨S_, .f32⟩
  | .hbm, ⟨12, _⟩ => ⟨S9216x3x2048, .f32⟩
  | .hbm, ⟨13, _⟩ => ⟨S9216x3x2048, .f32⟩
  | .hbm, ⟨14, _⟩ => ⟨S9216x1024, .f32⟩
  | .hbm, ⟨15, _⟩ => ⟨S9216x1024, .f32⟩
  | .hbm, ⟨16, _⟩ => ⟨S9216x1024, .f32⟩
  | .hbm, ⟨17, _⟩ => ⟨S9216x1x1024, .f32⟩
  | .hbm, ⟨18, _⟩ => ⟨S9216x1x1024, .f32⟩
  | .hbm, ⟨19, _⟩ => ⟨S9216x1x1024, .f32⟩
  | .hbm, ⟨20, _⟩ => ⟨S9216x3x1024, .f32⟩
  | .hbm, ⟨21, _⟩ => ⟨S3x2048x9216, .f32⟩
  | .hbm, ⟨22, _⟩ => ⟨S9216x3x2048, .f32⟩
  | .hbm, ⟨23, _⟩ => ⟨S9216x3x2048, .f32⟩
  | .hbm, ⟨24, _⟩ => ⟨S_, .f32⟩
  | .hbm, ⟨25, _⟩ => ⟨S9216x2048, .f32⟩
  | .hbm, ⟨26, _⟩ => ⟨S9216x2048, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Ret.Chunks.lean ====
/- The rows of one sequence by chunks of 128: chunk `c` of an array, an array with one chunk replaced, the order in
   which the backward pass takes the chunks, and how a buffer's rows are loaded and stored at a chunk's offsets. -/
module

public import proofs.«01_k».proof.Proof.Gen.KernelIdeal.Loops
public import proofs.«01_k».proof.Proof.Gen.KernelIdeal.Frame
public import Idealize.ShloMosaic.Lib.VecWindow
public import Idealize.ShloMosaic.Lib.WritesUnit
public import Idealize.ShloMosaic.Lib.Pointwise.Index

@[expose] public section
set_option maxRecDepth 8192
noncomputable section
namespace Cert.KernelIdeal.Ret

open Idealize.ShloMosaic Idealize.ShloMosaic.TcCoe Idealize.ShloMosaic.Tactic
open Cert.KernelIdeal Cert.KernelIdeal.Gen

variable {F : FTy → Type} [FloatOps F]

/-- One head's rows of one sequence. -/
abbrev Seq (F : FTy → Type) := Vec F S2304x128 .f32
/-- A 128 by 128 block. -/
abbrev Sq (F : FTy → Type) := FVec F S128x128 .f32

/-- The chunk number `k` names (every `k` in use is below 18). -/
def ch (k : ℕ) : Fin 18 := ⟨k % 18, Nat.mod_lt _ (by omega)⟩

/-- Row `r` of chunk `c`. -/
def row (c : Fin 18) (r : Fin 128) : Fin 2304 := ⟨128 * c.val + r.val, by omega⟩

/-- The chunk a row lies in, and its row there. -/
def chunkOf (t : Fin 2304) : Fin 18 := ⟨t.val / 128, by omega⟩
def rowOf (t : Fin 2304) : Fin 128 := ⟨t.val % 128, by omega⟩

theorem row_chunkOf (t : Fin 2304) : row (chunkOf t) (rowOf t) = t :=
  Fin.ext (by simp only [row, chunkOf, rowOf]; omega)
theorem chunkOf_row (c : Fin 18) (r : Fin 128) : chunkOf (row c r) = c :=
  Fin.ext (by simp only [row, chunkOf]; omega)
theorem rowOf_row (c : Fin 18) (r : Fin 128) : rowOf (row c r) = r :=
  Fin.ext (by simp only [row, rowOf]; omega)

/-- Chunk `c` of a sequence. -/
def chunk (X : Seq F) (c : Fin 18) : Sq F := fun y => X (ix2 (row c (y 0)) (y 1))

/-- The sequence `X` with chunk `c` replaced by `w`. -/
def putChunk (c : Fin 18) (w : Sq F) (X : Seq F) : Seq F :=
  fun j => if chunkOf (j 0) = c then w (ix2 (rowOf (j 0)) (j 1)) else X j

/-- The chunk the backward pass takes at step `k`: the two of the context backwards, then the sixteen of the latents
    backwards. -/
def ord (k : Fin 18) : Fin 18 := ⟨if k.val < 2 then 1 - k.val else 19 - k.val, by split <;> omega⟩

theorem ord_ord (k : Fin 18) : ord (ord k) = k := by
  revert k; decide

theorem ch_val (c : Fin 18) : ch c.val = c := Fin.ext (Nat.mod_eq_of_lt c.isLt)

theorem ch_lt {k : ℕ} (h : k < 18) : ch k = ⟨k, h⟩ := Fin.ext (Nat.mod_eq_of_lt h)

set_option maxRecDepth 16384 in
theorem off2_eq : ∀ k : Fin k0_t1_loop.trips, k0_off2 k = ![128 * (ch k.val).val, 0] := by decide +kernel

set_option maxRecDepth 16384 in
theorem off4_eq : ∀ k : Fin k0_t2_loop.trips, k0_off4 k = ![128 * (ord (ch k.val)).val, 0] := by decide +kernel

/-- A load of 128 rows at a chunk's offset is the chunk. -/
theorem readAt_chunk {κ : Kind} {sp : Space} (v : View sig κ sp S2304x128 .f32) (f : v.ty.Contents (Elt F))
    {off : Fin 2 → ℕ} (inb : ∀ a, off a + S128x128.size a ≤ S2304x128.size a) (c : Fin 18)
    (h : off = ![128 * c.val, 0]) :
    v.readAt (Elt F) (Rect.unit (s := S2304x128) off S128x128.size inb).toLoadRect f = chunk (v.read (Elt F) f) c := by
  rw [View.readAt_unit v f inb h (by subst h; exact inb)]
  funext y
  unfold VecWindow.window chunk
  congr 1
  funext a
  match a with
  | ⟨0, _⟩ => exact Fin.ext (by show 128 * c.val + 1 * (y 0).val = 128 * c.val + (y 0).val; omega)
  | ⟨1, _⟩ => exact Fin.ext (by show 0 + 1 * (y 1).val = (y 1).val; omega)

/-- A store of 128 rows at a chunk's offset replaces the chunk. -/
theorem read_write_chunk {κ : Kind} {sp : Space} (v : View sig κ sp S2304x128 .f32) (f : v.ty.Contents (Elt F))
    {off : Fin 2 → ℕ} (inb : ∀ a, off a + S128x128.size a ≤ S2304x128.size a) (c : Fin 18)
    (h : off = ![128 * c.val, 0]) (w : Sq F) :
    v.read (Elt F) (v.writes (Elt F) f [⟨Rect.unit (s := S2304x128) off S128x128.size inb, w⟩])
      = putChunk c w (v.read (Elt F) f) := by
  funext j
  unfold putChunk
  by_cases hj : chunkOf (j 0) = c
  · rw [if_pos hj]
    refine View.read_writes_cons_rows_of_mem v f inb w [] j (ix2 (rowOf (j 0)) (j 1)) h ?_ rfl
    subst hj
    show (j 0).val = 128 * ((j 0).val / 128) + (j 0).val % 128
    omega
  · rw [if_neg hj]
    refine (View.read_writes_cons_rows_of_not_mem (W := 128) v f inb w [] j h rfl ?_).trans rfl
    by_contra hn
    refine hj (Fin.ext ?_)
    show (j 0).val / 128 = c.val
    omega

theorem chunk_putChunk (c d : Fin 18) (w : Sq F) (X : Seq F) :
    chunk (putChunk c w X) d = if d = c then w else chunk X d := by
  funext y
  unfold chunk putChunk
  by_cases h : d = c
  · have h' : chunkOf (row d (y 0)) = c := (chunkOf_row d _).trans h
    rw [if_pos h]
    refine (if_pos h').trans ?_
    exact (congrArg (fun r => w (ix2 r (y 1))) (rowOf_row d (y 0))).trans (congrArg w (ix2_eta (n0 := 128) (n1 := 128) y))
  · have h' : ¬ chunkOf (row d (y 0)) = c := fun e => h ((chunkOf_row d _).symm.trans e)
    rw [if_neg h]
    exact if_neg h'

/-- An index by its chunk and its row there. -/
theorem ix_row (j : S2304x128.Idx) : ix2 (row (chunkOf (j 0)) (rowOf (j 0))) (j 1) = j :=
  (congrArg (fun t => ix2 t (j 1)) (row_chunkOf (j 0))).trans (ix2_eta (n0 := 2304) (n1 := 128) j)

/-- A sequence at an index is its chunk there at the row. -/
theorem seq_apply (X : Seq F) (j : S2304x128.Idx) :
    X j = chunk X (chunkOf (j 0)) (ix2 (rowOf (j 0)) (j 1)) :=
  congrArg X (ix_row j).symm

/-- Two sequences with the same chunks are equal. -/
theorem seq_ext {X Y : Seq F} (h : ∀ c, chunk X c = chunk Y c) : X = Y :=
  funext fun j => by rw [seq_apply X, seq_apply Y, h]

end Cert.KernelIdeal.Ret
end
-- ==== Proof.Ret.Loops.lean ====
/- What the two scans do: one pass over the chunks forwards, which stores each chunk's output and carries the state,
   and one pass over them in the backward order, which adds to what the first stored. Each loop by its invariant: before
   trip `k` the output rows and the state are those of `k` steps of the recursions below. -/
module

public import proofs.«01_k».proof.Proof.Ret.Chunks

@[expose] public section
set_option maxRecDepth 8192
noncomputable section
namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-! ## The recursions -/

/-- The forward state after `k` steps, from `s`. -/
def stF (kd cd : Sq F) (K V : Seq F) (s : Sq F) : ℕ → Sq F
  | 0 => s
  | k + 1 => k0_pay17 kd cd (chunk K (ch k)) (chunk V (ch k)) (stF kd cd K V s k)

/-- The output rows after `k` forward steps, from `y`. -/
def outF (intra qd kd cd : Sq F) (Q K V : Seq F) (s : Sq F) (y : Seq F) : ℕ → Seq F
  | 0 => y
  | k + 1 => putChunk (ch k) (k0_pay18 intra qd (chunk Q (ch k)) (chunk K (ch k)) (chunk V (ch k)) (stF kd cd K V s k))
      (outF intra qd kd cd Q K V s y k)

/-- The backward state after `k` steps, from `s`. -/
def stB (kd cd : Sq F) (K V : Seq F) (s : Sq F) : ℕ → Sq F
  | 0 => s
  | k + 1 => k0_pay5 kd cd (chunk K (ord (ch k))) (chunk V (ord (ch k))) (stB kd cd K V s k)

/-- The output rows after `k` backward steps, from `y`. -/
def outB (intra qd kd cd : Sq F) (Q K V : Seq F) (s : Sq F) (y : Seq F) : ℕ → Seq F
  | 0 => y
  | k + 1 => putChunk (ord (ch k)) (k0_pay1 (k0_pay6 intra qd (chunk Q (ord (ch k))) (chunk K (ord (ch k)))
        (chunk V (ord (ch k))) (stB kd cd K V s k) (chunk (outB intra qd kd cd Q K V s y k) (ord (ch k)))))
      (outB intra qd kd cd Q K V s y k)

/-! ## The buffers, trip by trip -/

/-- The contents of a whole buffer that has held `G` and reads `X k` after `k` steps. -/
def bufAt {s : Shape} {e : EltTy} {mr : Memref sig .tc .vmem s e} (h : mr.IsWhole) (G : mr.view.ty.Contents (Elt F))
    (X : ℕ → Vec F s e) : ℕ → mr.view.ty.Contents (Elt F)
  | 0 => G
  | k + 1 => h.unread (X (k + 1))

theorem read_bufAt {s : Shape} {e : EltTy} {mr : Memref sig .tc .vmem s e} (h : mr.IsWhole) (G : mr.view.ty.Contents (Elt F))
    (X : ℕ → Vec F s e) (h0 : X 0 = mr.view.read (Elt F) G) (k : ℕ) : mr.view.read (Elt F) (bufAt h G X k) = X k := by
  cases k with
  | zero => exact h0.symm
  | succ k => exact h.read_unread _

/-- A load of the whole block is what it holds. -/
theorem readAt_sq {κ : Kind} {sp : Space} (v : View sig κ sp S128x128 .f32) (f : v.ty.Contents (Elt F))
    (inb : ∀ a, (![0, 0] : Fin 2 → ℕ) a + (![128, 128] : Fin 2 → ℕ) a ≤ S128x128.size a) :
    v.readAt (Elt F) (Rect.unit (s := S128x128) ![0, 0] ![128, 128] inb).toLoadRect f = v.read (Elt F) f :=
  View.readAt_full v f inb

/-! ## The forward loop -/

section
variable (𝒱 : Variants) (c : Dev nD) (bd : Option 𝒱.V) (E : Set ℕ) (i : grid0.Coords) (arg2 : Memref sig .tc .smem S2x8 .f32) (harg2 : arg2.IsWhole) (arg3 : Memref sig .tc .vmem S2304x128 .f32) (harg3 : arg3.IsWhole) (arg4 : Memref sig .tc .vmem S2304x128 .f32) (harg4 : arg4.IsWhole) (arg5 : Memref sig .tc .vmem S2304x128 .f32) (harg5 : arg5.IsWhole) (arg6 : Memref sig .tc .vmem S2304x128 .f32) (harg6 : arg6.IsWhole) (arg7 : Memref sig .tc .vmem S2304x128 .bf16) (harg7 : arg7.IsWhole) (arg8 : Memref sig .tc .vmem S2304x128 .f32) (harg8 : arg8.IsWhole) (arg9 : Memref sig .tc .vmem S128x128 .f32) (harg9 : arg9.IsWhole)
  (arg1 : BitVec 32) (v1 v3 intra qd kd cd : Sq F) (c0_i32 : BitVec 32)
  (X3 : arg3.view.ty.Contents (Elt F)) (X4 : arg4.view.ty.Contents (Elt F)) (X5 : arg5.view.ty.Contents (Elt F))
  (G8 : arg8.view.ty.Contents (Elt F)) (G9 : arg9.view.ty.Contents (Elt F))

/-- The output buffer after `k` trips. -/
abbrev buf8F (k : ℕ) : arg8.view.ty.Contents (Elt F) :=
  bufAt harg8 G8 (outF intra qd kd cd (arg3.view.read (Elt F) X3) (arg4.view.read (Elt F) X4) (arg5.view.read (Elt F) X5)
    (arg9.view.read (Elt F) G9) (arg8.view.read (Elt F) G8)) k

/-- The state buffer after `k` trips. -/
abbrev buf9F (k : ℕ) : arg9.view.ty.Contents (Elt F) :=
  bufAt harg9 G9 (stF kd cd (arg4.view.read (Elt F) X4) (arg5.view.read (Elt F) X5) (arg9.view.read (Elt F) G9)) k

/-- Before trip `k`: the inputs as they were, the output rows and the state of `k` steps. -/
abbrev invF (k : ℕ) (_u : PUnit) : sProp 𝕄G :=
  iprop((arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (∃ f, (arg8.view.loc (c : Thread nD τ) ↦[arg8.view.set]{fullShare} f)
        ∗ ⌜f = buf8F arg3 arg4 arg5 arg8 harg8 arg9 intra qd kd cd X3 X4 X5 G8 G9 k⌝)
    ∗ (∃ f, (arg9.view.loc (c : Thread nD τ) ↦[arg9.view.set]{fullShare} f)
        ∗ ⌜f = buf9F arg4 arg5 arg9 harg9 kd cd X4 X5 G9 k⌝))

set_option warn.classDefReducibility false in
/-- The loop by its invariant. -/
@[sl_loop] def loopF :
    LoopInvTy_k0_t1 (F := F) Unit ℕ (UR sig nD τ) ℕ 𝒱 c bd E i arg2 harg2 arg3 harg3 arg4 harg4 arg5 harg5 arg6 harg6 arg7 harg7 arg8 harg8 arg9 harg9 arg1 v1 v3 intra qd kd cd c0_i32 where
  inv := invF c arg3 arg4 arg5 arg8 harg8 arg9 harg9 intra qd kd cd X3 X4 X5 G8 G9
  step k acc := by
    have hk : k.val < 18 := Nat.lt_of_lt_of_le k.isLt k0_t1_abs.2.1
    unfold k0_t1_body
    iintro ⟨H3, H4, H5, ⟨%f8, H8, %h8⟩, ⟨%f9, H9, %h9⟩⟩
    have r8 := (congrArg (arg8.view.read (Elt F)) h8).trans (read_bufAt harg8 G8 (outF intra qd kd cd (arg3.view.read (Elt F) X3)
      (arg4.view.read (Elt F) X4) (arg5.view.read (Elt F) X5) (arg9.view.read (Elt F) G9) (arg8.view.read (Elt F) G8)) rfl k.val)
    have r9 := (congrArg (arg9.view.read (Elt F)) h9).trans (read_bufAt harg9 G9 (stF kd cd
      (arg4.view.read (Elt F) X4) (arg5.view.read (Elt F) X5) (arg9.view.read (Elt F) G9)) rfl k.val)
    sl_exec
    sl_step
    isplitl [H3]; · iexact H3
    isplitl [H4]; · iexact H4
    isplitl [H5]; · iexact H5
    isplitl [H8]
    · iexists _; isplitl [H8]; · iexact H8
      ipureintro
      refine harg8.eq_unread ((read_write_chunk arg8.view f8 _ (ch k.val) (off2_eq k) _).trans ?_)
      simp only [readAt_chunk _ _ _ _ (off2_eq k), readAt_sq, r8, r9]
      rfl
    · iexists _; isplitl [H9]; · iexact H9
      ipureintro
      refine harg9.eq_unread ((View.read_writes_full arg9.view f9 _ _ _).trans ?_)
      simp only [readAt_chunk _ _ _ _ (off2_eq k), readAt_sq, r9]
      rfl

end

/-! ## The backward loop -/

section
variable (𝒱 : Variants) (c : Dev nD) (bd : Option 𝒱.V) (E : Set ℕ) (i : grid0.Coords) (arg2 : Memref sig .tc .smem S2x8 .f32) (harg2 : arg2.IsWhole) (arg3 : Memref sig .tc .vmem S2304x128 .f32) (harg3 : arg3.IsWhole) (arg4 : Memref sig .tc .vmem S2304x128 .f32) (harg4 : arg4.IsWhole) (arg5 : Memref sig .tc .vmem S2304x128 .f32) (harg5 : arg5.IsWhole) (arg6 : Memref sig .tc .vmem S2304x128 .f32) (harg6 : arg6.IsWhole) (arg7 : Memref sig .tc .vmem S2304x128 .bf16) (harg7 : arg7.IsWhole) (arg8 : Memref sig .tc .vmem S2304x128 .f32) (harg8 : arg8.IsWhole) (arg9 : Memref sig .tc .vmem S128x128 .f32) (harg9 : arg9.IsWhole)
  (intra qd kd cd : Sq F) (c0_i32 : BitVec 32)
  (X3 : arg3.view.ty.Contents (Elt F)) (X4 : arg4.view.ty.Contents (Elt F)) (X5 : arg5.view.ty.Contents (Elt F))
  (G8 : arg8.view.ty.Contents (Elt F)) (G9 : arg9.view.ty.Contents (Elt F))

/-- The output buffer after `k` trips. -/
abbrev buf8B (k : ℕ) : arg8.view.ty.Contents (Elt F) :=
  bufAt harg8 G8 (outB intra qd kd cd (arg3.view.read (Elt F) X3) (arg4.view.read (Elt F) X4) (arg5.view.read (Elt F) X5)
    (arg9.view.read (Elt F) G9) (arg8.view.read (Elt F) G8)) k

/-- The state buffer after `k` trips. -/
abbrev buf9B (k : ℕ) : arg9.view.ty.Contents (Elt F) :=
  bufAt harg9 G9 (stB kd cd (arg4.view.read (Elt F) X4) (arg5.view.read (Elt F) X5) (arg9.view.read (Elt F) G9)) k

/-- Before trip `k`: the inputs as they were, the output rows and the state of `k` steps. -/
abbrev invB (k : ℕ) (_u : PUnit) : sProp 𝕄G :=
  iprop((arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (∃ f, (arg8.view.loc (c : Thread nD τ) ↦[arg8.view.set]{fullShare} f)
        ∗ ⌜f = buf8B arg3 arg4 arg5 arg8 harg8 arg9 intra qd kd cd X3 X4 X5 G8 G9 k⌝)
    ∗ (∃ f, (arg9.view.loc (c : Thread nD τ) ↦[arg9.view.set]{fullShare} f)
        ∗ ⌜f = buf9B arg4 arg5 arg9 harg9 kd cd X4 X5 G9 k⌝))

set_option warn.classDefReducibility false in
/-- The loop by its invariant. -/
@[sl_loop] def loopB :
    LoopInvTy_k0_t2 (F := F) Unit ℕ (UR sig nD τ) ℕ 𝒱 c bd E i arg2 harg2 arg3 harg3 arg4 harg4 arg5 harg5 arg6 harg6 arg7 harg7 arg8 harg8 arg9 harg9 intra qd kd cd c0_i32 where
  inv := invB c arg3 arg4 arg5 arg8 harg8 arg9 harg9 intra qd kd cd X3 X4 X5 G8 G9
  step k acc := by
    have hk : k.val < 18 := Nat.lt_of_lt_of_le k.isLt k0_t2_abs.2.1
    unfold k0_t2_body
    iintro ⟨H3, H4, H5, ⟨%f8, H8, %h8⟩, ⟨%f9, H9, %h9⟩⟩
    have r8 := (congrArg (arg8.view.read (Elt F)) h8).trans (read_bufAt harg8 G8 (outB intra qd kd cd (arg3.view.read (Elt F) X3)
      (arg4.view.read (Elt F) X4) (arg5.view.read (Elt F) X5) (arg9.view.read (Elt F) G9) (arg8.view.read (Elt F) G8)) rfl k.val)
    have r9 := (congrArg (arg9.view.read (Elt F)) h9).trans (read_bufAt harg9 G9 (stB kd cd
      (arg4.view.read (Elt F) X4) (arg5.view.read (Elt F) X5) (arg9.view.read (Elt F) G9)) rfl k.val)
    sl_exec
    sl_step
    isplitl [H3]; · iexact H3
    isplitl [H4]; · iexact H4
    isplitl [H5]; · iexact H5
    isplitl [H8]
    · iexists _; isplitl [H8]; · iexact H8
      ipureintro
      refine harg8.eq_unread ((read_write_chunk arg8.view f8 _ (ord (ch k.val)) (off4_eq k) _).trans ?_)
      delta loopB.sl.r
      simp only [readAt_chunk _ _ _ _ (off4_eq k), readAt_sq, r8, r9]
      rfl
    · iexists _; isplitl [H9]; · iexact H9
      ipureintro
      refine harg9.eq_unread ((View.read_writes_full arg9.view f9 _ _ _).trans ?_)
      simp only [readAt_chunk _ _ _ _ (off4_eq k), readAt_sq, r9]
      rfl

end

end Cert.KernelIdeal.Ret
end
-- ==== Proof.Ret.Passes.lean ====
/- What the two passes leave in the output rows, chunk by chunk. -/
module

public import proofs.«01_k».proof.Proof.Ret.Loops

@[expose] public section
set_option maxRecDepth 8192
noncomputable section
namespace Cert.KernelIdeal.Ret

open Idealize.ShloMosaic Idealize.ShloMosaic.TcCoe
open Cert.KernelIdeal Cert.KernelIdeal.Gen

variable {F : FTy → Type} [FloatOps F]

/-- The sequence with the given chunks. -/
def unchunk (w : Fin 18 → Sq F) : Seq F := fun j => w (chunkOf (j 0)) (ix2 (rowOf (j 0)) (j 1))

theorem chunk_unchunk (w : Fin 18 → Sq F) (c : Fin 18) : chunk (unchunk w) c = w c := by
  funext y
  have h1 := chunkOf_row c (y 0)
  have h2 := rowOf_row c (y 0)
  exact ((congrArg (fun d => w d (ix2 (rowOf (row c (y 0))) (y 1))) h1).trans
    (congrArg (fun r => w c (ix2 r (y 1))) h2)).trans (congrArg (w c) (ix2_eta (n0 := 128) (n1 := 128) y))

/-- Chunk `c` of the forward output. -/
def chF (intra qd kd cd : Sq F) (Q K V : Seq F) (s : Sq F) (c : Fin 18) : Sq F :=
  k0_pay18 intra qd (chunk Q c) (chunk K c) (chunk V c) (stF kd cd K V s c.val)

/-- Chunk `c` of the output after the backward pass, `y` after the forward one. -/
def chB (intra qd kd cd : Sq F) (Q K V : Seq F) (s : Sq F) (y : Sq F) (c : Fin 18) : Sq F :=
  k0_pay1 (k0_pay6 intra qd (chunk Q c) (chunk K c) (chunk V c) (stB kd cd K V s (ord c).val) y)

variable (intra qd kd cd : Sq F) (Q K V : Seq F) (s : Sq F) (y : Seq F)

theorem chunk_outF (k : ℕ) (hk : k ≤ 18) (c : Fin 18) :
    chunk (outF intra qd kd cd Q K V s y k) c = if c.val < k then chF intra qd kd cd Q K V s c else chunk y c := by
  induction k with
  | zero => simp [outF]
  | succ k ih =>
    have hk' : k < 18 := by omega
    rw [outF, chunk_putChunk, ih (by omega), ch_lt hk']
    by_cases h : c = ⟨k, hk'⟩
    · subst h; simp [chF]
    · have : c.val ≠ k := fun e => h (Fin.ext e)
      rw [if_neg h]
      by_cases hc : c.val < k
      · rw [if_pos hc, if_pos (by omega)]
      · rw [if_neg hc, if_neg (by omega)]

theorem chunk_outB (k : ℕ) (hk : k ≤ 18) (c : Fin 18) :
    chunk (outB intra qd kd cd Q K V s y k) c
      = if (ord c).val < k then chB intra qd kd cd Q K V s (chunk y c) c else chunk y c := by
  induction k generalizing c with
  | zero => simp [outB]
  | succ k ih =>
    have hk' : k < 18 := by omega
    rw [outB, chunk_putChunk, ih (by omega), ih (by omega), ch_lt hk', ord_ord]
    by_cases h : c = ord ⟨k, hk'⟩
    · have hc : (ord c).val = k := by rw [h, ord_ord]
      rw [if_pos h, if_neg (by simp), if_pos (by omega), ← h]
      simp only [chB, hc]
    · have : (ord c).val ≠ k := fun e => h (by rw [← ord_ord c]; exact congrArg ord (Fin.ext e))
      rw [if_neg h]
      by_cases hc : (ord c).val < k
      · rw [if_pos hc, if_pos (by omega)]
      · rw [if_neg hc, if_neg (by omega)]

/-- After the forward pass. -/
theorem outF_all : outF intra qd kd cd Q K V s y 18 = unchunk (chF intra qd kd cd Q K V s) :=
  seq_ext fun c => by rw [chunk_outF _ _ _ _ _ _ _ _ _ 18 le_rfl, if_pos c.isLt, chunk_unchunk]

/-- After the backward pass. -/
theorem outB_all : outB intra qd kd cd Q K V s y 18
    = unchunk (fun c => chB intra qd kd cd Q K V s (chunk y c) c) :=
  seq_ext fun c => by rw [chunk_outB _ _ _ _ _ _ _ _ _ 18 le_rfl, if_pos (ord c).isLt, chunk_unchunk]

/-! ## The block a grid point leaves -/

/-- A direction's decay parameter at a head. -/
def dec (D : Vec F S2x8 .f32) (r : Fin 2) (h : Fin 8) : Elt F .f32 := D (ix2 r h)

/-- Both passes' rows, chunk by chunk: `a` the forward parameter, `b` the backward one. -/
def bothRows (a b : Elt F .f32) (Q K V : Seq F) : Seq F :=
  unchunk fun c => chB (k0_pay20 (k0_pay7 (F := F)) (k0_pay8 (F := F)) b) (k0_pay22 (k0_pay7 (F := F)) b)
    (k0_pay23 (k0_pay7 (F := F)) b) (k0_pay24 b) Q K V (k0_pay25 (F := F))
    (chF (k0_pay10 a) (k0_pay11 a) (k0_pay12 a) (k0_pay13 a) Q K V (k0_pay14 (F := F)) c) c

/-- The block of the output: the group norm of the rows, gated. -/
def outBlk (a b : Elt F .f32) (Q K V G : Seq F) : FVec F S2304x128 .bf16 := k0_pay2 (bothRows a b Q K V) G

theorem both_eq (a b : Elt F .f32) (Q K V : Seq F) (y : Seq F) :
    outB (k0_pay20 (k0_pay7 (F := F)) (k0_pay8 (F := F)) b) (k0_pay22 (k0_pay7 (F := F)) b)
      (k0_pay23 (k0_pay7 (F := F)) b) (k0_pay24 b) Q K V (k0_pay25 (F := F))
      (outF (k0_pay10 a) (k0_pay11 a) (k0_pay12 a) (k0_pay13 a) Q K V (k0_pay14 (F := F)) y 18) 18
      = bothRows a b Q K V := by
  rw [outB_all, outF_all]
  unfold bothRows
  simp only [chunk_unchunk]

end Cert.KernelIdeal.Ret
end
-- ==== Proof.Ret.Model.lean ====
/- The retention of one head over the extended reals, written on plain functions: the decays, the state carried from
   block to block, the rows of a block; and the two laws the comparison needs, that of the logarithm of the sigmoid
   and that of reading a block from its end. -/
module

public import Idealize.ShloMosaic.PureOps.Ideal
public import Idealize.ShloMosaic.PureOps.Ideal.Laws
public import Idealize.ShloMosaic.Lib.IdealHost

@[expose] public section
noncomputable section
namespace Cert.Ret

open Idealize.ShloMosaic

/-- 127 and 128 as the programs' literals denote them. -/
def c127 : EReal := Ideal.ofBits .f32 0x42FE0000#32
def c128 : EReal := Ideal.ofBits .f32 0x43000000#32

/-- A position inside a block, as a number. -/
def pos (r : Fin 128) : EReal := ((r.val : ℝ) : EReal)

/-- The logarithm of the sigmoid. -/
def lsig (x : EReal) : EReal := min x 0 - Ideal.log (1 + Ideal.exp (0 - max x (-x)))

/-- The weight of a position `d` steps back; none for a position ahead. -/
def back (g d : EReal) : EReal := Scalar.select (Ideal.cmp .oge d 0) (Ideal.exp (g * max d 0)) 0
/-- The decay a query at position `p` sees of the carried state, a key at `p` leaves in it, and a whole block's. -/
def qDec (g p : EReal) : EReal := Ideal.exp (g * (p + 1))
def kDec (g p : EReal) : EReal := Ideal.exp (g * (c127 - p))
def bDec (g : EReal) : EReal := Ideal.exp (g * c128)

/-- Blocks of a head's rows: block, position, column. -/
abbrev Rows : Type := Fin 18 → Fin 128 → Fin 128 → EReal

/-- The state before block `n` (`n` taken round after the last block). -/
def state (g : EReal) (k v : Rows) : ℕ → Fin 128 → Fin 128 → EReal
  | 0 => fun _ _ => 0
  | n + 1 => fun d e => state g k v n d e * bDec g
      + ∑ r : Fin 128, (k ⟨n % 18, Nat.mod_lt _ (by decide)⟩ r d * kDec g (pos r)) * v ⟨n % 18, Nat.mod_lt _ (by decide)⟩ r e

/-- A row of the output of block `n`: the block's own part and the carried one. -/
def rows (g : EReal) (q k v : Rows) (n : Fin 18) (r e : Fin 128) : EReal :=
  (∑ c : Fin 128, ((∑ d : Fin 128, q n r d * k n c d) * back g (pos r - pos c)) * v n c e)
    + ∑ d : Fin 128, (q n r d * qDec g (pos r)) * state g k v n.val d e

theorem c127_eq : c127 = ((127 : ℝ) : EReal) := by
  unfold c127; simp [Ideal.ofBits, Ideal.ieee, -EReal.coe_mul]; norm_num

theorem pos_rev (r : Fin 128) : pos r.rev = c127 - pos r := by
  have h : r.val ≤ 127 := by omega
  rw [c127_eq, pos, pos, ← EReal.coe_sub, Fin.val_rev, show 128 - (r.val + 1) = 127 - r.val by omega, Nat.cast_sub h]
  norm_num

theorem pos_rev_sub (r c : Fin 128) : pos r.rev - pos c.rev = pos c - pos r := by
  rw [pos_rev, pos_rev, c127_eq, pos, pos, ← EReal.coe_sub, ← EReal.coe_sub, ← EReal.coe_sub, ← EReal.coe_sub]
  congr 1; ring

/-- The other way to write the logarithm of the sigmoid: minus the logarithm of one plus `exp (-x)`. -/
theorem lsig_alt (x : EReal) :
    -(max (-x) 0 + Ideal.log (1 + Ideal.exp (-(max (-x) (-(-x)))))) = lsig x := by
  unfold lsig
  rw [neg_neg, max_comm (-x) x, zero_sub]
  have hL : ∃ s : ℝ, Ideal.log (1 + Ideal.exp (-(max x (-x)))) = (s : EReal) := by
    have hm : 0 ≤ max x (-x) := by
      rcases le_total 0 x with h | h
      · exact le_max_of_le_left h
      · exact le_max_of_le_right (by simpa using EReal.neg_le_neg_iff.mpr h)
    have hlog : ∀ u : ℝ, 0 ≤ u → ∃ s : ℝ, Ideal.log (1 + (u : EReal)) = (s : EReal) := by
      intro u hu
      refine ⟨Real.log (1 + u), ?_⟩
      rw [← EReal.coe_one, ← EReal.coe_add]
      show (if 1 + u ≤ 0 then (⊥ : EReal) else (Real.log (1 + u) : EReal)) = _
      rw [if_neg (by linarith)]
    generalize max x (-x) = y at hm
    induction y using EReal.rec with
    | bot => exact absurd hm (by simp)
    | top => exact hlog 0 le_rfl
    | coe r => exact hlog (Real.exp (-r)) (Real.exp_pos _).le
  obtain ⟨s, hs⟩ := hL
  rw [hs, EReal.neg_add (Or.inr (EReal.coe_ne_top s)) (Or.inr (EReal.coe_ne_bot s)), sub_eq_add_neg, sub_eq_add_neg]
  congr 1
  induction x using EReal.rec with
  | bot => simp
  | top => simp
  | coe r =>
    rcases le_total r 0 with h | h
    · rw [max_eq_left (by rw [← EReal.coe_neg]; exact_mod_cast neg_nonneg.mpr h), neg_neg, min_eq_left (by exact_mod_cast h)]
    · rw [max_eq_right (by rw [← EReal.coe_neg]; exact_mod_cast neg_nonpos.mpr h), neg_zero, min_eq_right (by exact_mod_cast h)]

end Cert.Ret
end
-- ==== Proof.Ret.KernelRows.lean ====
/- What the two passes compute, over the extended reals: the state buffer holds the retention's state, and a block of
   the output the sum of the forward rows and of the rows read from the end. -/
module

public import proofs.«01_k».proof.Proof.Ret.Passes
public import proofs.«01_k».proof.Proof.Ret.Model
public import Idealize.ShloMosaic.Lib.MatmulPlain
public import Idealize.ShloMosaic.Lib.Pointwise

@[expose] public section
set_option maxRecDepth 16384
noncomputable section
namespace Cert.KernelIdeal.Ret

open Idealize.ShloMosaic
open Cert.KernelIdeal Cert.KernelIdeal.Gen Cert.Ret

/-- The factor on the keys. -/
def sc : EReal := Ideal.ofBits .f32 0x3DB504F3#32

/-- A sequence as blocks of rows; the keys carry their factor; and the blocks in the order of the pass from the end. -/
def blocks (X : Seq Ideal) : Rows := fun n r d => X (ix2 (row n r) d)
def scaled (X : Seq Ideal) : Rows := fun n r d => (X (ix2 (row n r) d) : EReal) * sc
def turn (R : Rows) : Rows := fun n r d => R (ord n) r.rev d

theorem mm_at (A B : FVec Ideal S128x128 .bf16) (r c : Fin 128) :
    (matmul dot_S128x128_S128x128_S128x128_1_0_0_1_n_n none A B (constant S128x128 .f32 0x00000000#32) (ix2 r c) : EReal)
      = ∑ k : Fin 128, (A (ix2 r k) : EReal) * B (ix2 k c) := by
  refine (Ideal.matmul_plain_apply (M := 128) (K := 128) (N := 128) none A B _ r c).trans ?_
  exact (congrArg (fun z : EReal => z + _) Ideal.ofBits_zero_f32).trans (zero_add _)

theorem mmT_at (A B : FVec Ideal S128x128 .bf16) (r c : Fin 128) :
    (matmul dot_S128x128_S128x128_S128x128_1_1_0_0_n_n none A B (constant S128x128 .f32 0x00000000#32) (ix2 r c) : EReal)
      = ∑ k : Fin 128, (A (ix2 r k) : EReal) * B (ix2 c k) := by
  refine (Ideal.matmul_transposedRhs_apply (M := 128) (K := 128) (N := 128) none A B _ r c).trans ?_
  exact (congrArg (fun z : EReal => z + _) Ideal.ofBits_zero_f32).trans (zero_add _)

theorem cast_id (x : Sq Ideal) : shapeCast S128x128 x shapeCasts_S128x128_S128x128 = x :=
  funext fun j => shapeCast_apply x _ j j rfl

/-- One step of the state. -/
theorem step_at (kd cd K V S : Sq Ideal) (d e : Fin 128) :
    (k0_pay17 kd cd K V S (ix2 d e) : EReal)
      = (S (ix2 d e) : EReal) * cd (ix2 d e) + ∑ r : Fin 128, (((K (ix2 r d) : EReal) * sc) * kd (ix2 r d)) * V (ix2 r e) := by
  unfold k0_pay17
  dsimp only
  rw [cast_id]
  refine congrArg (fun z : EReal => (S (ix2 d e) : EReal) * cd (ix2 d e) + z) ((mm_at _ _ d e).trans (Finset.sum_congr rfl fun r _ => ?_))
  refine congrArg (fun z : EReal => z * (V (ix2 r e) : EReal)) ?_
  exact transpose_apply [1, 0] (mulf (k0_pay15 K) kd) transposes_S128x128_p1_0_S128x128 (ix2 d r) (ix2 r d)
    (fun b => match b with | ⟨0, _⟩ => rfl | ⟨1, _⟩ => rfl)

/-- A block of rows, from the state before it. -/
theorem rows_at (w qd Q K V S : Sq Ideal) (r e : Fin 128) :
    (k0_pay18 w qd Q K V S (ix2 r e) : EReal)
      = (∑ c : Fin 128, ((∑ d : Fin 128, (Q (ix2 r d) : EReal) * ((K (ix2 c d) : EReal) * sc)) * w (ix2 r c)) * V (ix2 c e))
        + ∑ d : Fin 128, ((Q (ix2 r d) : EReal) * qd (ix2 r d)) * S (ix2 d e) := by
  rw [show k0_pay18 w qd Q K V S = _ from cast_id _]
  refine congrArg₂ (· + ·) ((mm_at _ _ r e).trans (Finset.sum_congr rfl fun c _ => ?_)) (mm_at _ _ r e)
  refine congrArg (fun z : EReal => z * w (ix2 r c) * V (ix2 c e)) ?_
  exact mmT_at _ _ r c

theorem pay5_eq (kd cd K V S : Sq Ideal) : k0_pay5 kd cd K V S = k0_pay17 kd cd K V S := rfl

theorem pay6_eq (w qd Q K V S y : Sq Ideal) : k0_pay6 w qd Q K V S y = addf y (k0_pay18 w qd Q K V S) := by
  rw [show k0_pay18 w qd Q K V S = _ from cast_id _]
  rfl

/-! The decays at an index. -/

theorem sumRow_at (r c : Fin 128) : (k0_pay7 (F := Ideal) (ix2 r c) : EReal) = pos r := by
  have h : ∀ r : Fin 128, (BitVec.ofNat 32 r.val).toInt = (r.val : ℤ) := by decide +kernel
  show (((iota .tc S128x128 32 [0] iota_S128x128_d0_w32 (ix2 r c)).toInt : ℝ) : EReal) = _
  rw [iota_single_apply]
  show (((BitVec.ofNat 32 r.val).toInt : ℝ) : EReal) = _
  rw [h]; rfl
theorem col_at (r c : Fin 128) : (k0_pay8 (F := Ideal) (ix2 r c) : EReal) = pos c := by
  have h : ∀ r : Fin 128, (BitVec.ofNat 32 r.val).toInt = (r.val : ℤ) := by decide +kernel
  show (((iota .tc S128x128 32 [1] iota_S128x128_d1_w32 (ix2 r c)).toInt : ℝ) : EReal) = _
  rw [iota_single_apply]
  show (((BitVec.ofNat 32 c.val).toInt : ℝ) : EReal) = _
  rw [h]; rfl

theorem lsigF_at (a : EReal) (j : S128x128.Idx) : (k0_pay9 (F := Ideal) a j : EReal) = lsig a := by
  show min a (Ideal.ofBits .f32 0x00000000#32)
    - Ideal.log (Ideal.ofBits .f32 0x3F800000#32 + Ideal.exp (Ideal.ofBits .f32 0x00000000#32 - max a (-a))) = lsig a
  rw [Ideal.ofBits_zero_f32, Ideal.ofBits_one_f32]; rfl
theorem lsigB_at (a : EReal) (j : S128x128.Idx) : (k0_pay19 (F := Ideal) a j : EReal) = lsig a := lsigF_at a j

theorem backF_at (a : EReal) (r c : Fin 128) : (k0_pay10 (F := Ideal) a (ix2 r c) : EReal) = back (lsig a) (pos r - pos c) := by
  show Scalar.select (Ideal.cmp .oge ((k0_pay7 (F := Ideal) (ix2 r c) : EReal) - k0_pay8 (F := Ideal) (ix2 r c)) (Ideal.ofBits .f32 0x00000000#32))
    (Ideal.exp ((k0_pay9 (F := Ideal) a (ix2 r c) : EReal)
      * max ((k0_pay7 (F := Ideal) (ix2 r c) : EReal) - k0_pay8 (F := Ideal) (ix2 r c)) (Ideal.ofBits .f32 0x00000000#32)))
    (Ideal.ofBits .f32 0x00000000#32) = _
  rw [sumRow_at, col_at, lsigF_at, Ideal.ofBits_zero_f32]; rfl
theorem backB_at (a : EReal) (r c : Fin 128) :
    (k0_pay20 (F := Ideal) k0_pay7 k0_pay8 a (ix2 r c) : EReal) = back (lsig a) (pos r.rev - pos c.rev) := by
  show Scalar.select (Ideal.cmp .oge ((k0_pay8 (F := Ideal) (ix2 r c) : EReal) - k0_pay7 (F := Ideal) (ix2 r c)) (Ideal.ofBits .f32 0x00000000#32))
    (Ideal.exp ((k0_pay19 (F := Ideal) a (ix2 r c) : EReal)
      * max ((k0_pay8 (F := Ideal) (ix2 r c) : EReal) - k0_pay7 (F := Ideal) (ix2 r c)) (Ideal.ofBits .f32 0x00000000#32)))
    (Ideal.ofBits .f32 0x00000000#32) = _
  rw [sumRow_at, col_at, lsigB_at, Ideal.ofBits_zero_f32, pos_rev_sub]; rfl

theorem qDecF_at (a : EReal) (r d : Fin 128) : (k0_pay11 (F := Ideal) a (ix2 r d) : EReal) = qDec (lsig a) (pos r) := by
  show Ideal.exp ((k0_pay9 (F := Ideal) a (ix2 r d) : EReal) * ((k0_pay7 (F := Ideal) (ix2 r d) : EReal) + Ideal.ofBits .f32 0x3F800000#32)) = _
  rw [sumRow_at, lsigF_at, Ideal.ofBits_one_f32]; rfl
theorem qDecB_at (a : EReal) (r d : Fin 128) :
    (k0_pay22 (F := Ideal) k0_pay7 a (ix2 r d) : EReal) = qDec (lsig a) (pos r.rev) := by
  show Ideal.exp ((k0_pay19 (F := Ideal) a (ix2 r d) : EReal) * ((c127 - (k0_pay7 (F := Ideal) (ix2 r d) : EReal)) + Ideal.ofBits .f32 0x3F800000#32)) = _
  rw [sumRow_at, lsigB_at, Ideal.ofBits_one_f32, pos_rev]; rfl

theorem kDecF_at (a : EReal) (r d : Fin 128) : (k0_pay12 (F := Ideal) a (ix2 r d) : EReal) = kDec (lsig a) (pos r) := by
  show Ideal.exp ((k0_pay9 (F := Ideal) a (ix2 r d) : EReal) * (c127 - (k0_pay7 (F := Ideal) (ix2 r d) : EReal))) = _
  rw [sumRow_at, lsigF_at]; rfl
theorem kDecB_at (a : EReal) (r d : Fin 128) :
    (k0_pay23 (F := Ideal) k0_pay7 a (ix2 r d) : EReal) = kDec (lsig a) (pos r.rev) := by
  show Ideal.exp ((k0_pay19 (F := Ideal) a (ix2 r d) : EReal) * (c127 - (c127 - (k0_pay7 (F := Ideal) (ix2 r d) : EReal)))) = _
  rw [sumRow_at, lsigB_at, pos_rev]; rfl

theorem bDecF_at (a : EReal) (j : S128x128.Idx) : (k0_pay13 (F := Ideal) a j : EReal) = bDec (lsig a) := by
  show Ideal.exp ((k0_pay9 (F := Ideal) a j : EReal) * c128) = _
  rw [lsigF_at]; rfl
theorem bDecB_at (a : EReal) (j : S128x128.Idx) : (k0_pay24 (F := Ideal) a j : EReal) = bDec (lsig a) := bDecF_at a j

theorem zeroF_at (j : S128x128.Idx) : (k0_pay14 (F := Ideal) j : EReal) = 0 := Ideal.ofBits_zero_f32
theorem zeroB_at (j : S128x128.Idx) : (k0_pay25 (F := Ideal) j : EReal) = 0 := Ideal.ofBits_zero_f32

/-! ## The passes -/

variable (a : EReal) (Q K V : Seq Ideal)

theorem stF_at (n : ℕ) (d e : Fin 128) :
    (stF (k0_pay12 a) (k0_pay13 a) K V (k0_pay14 (F := Ideal)) n (ix2 d e) : EReal)
      = state (lsig a) (scaled K) (blocks V) n d e := by
  induction n generalizing d e with
  | zero => exact zeroF_at _
  | succ n ih =>
    rw [stF, step_at, state, bDecF_at, ih]
    refine congrArg _ (Finset.sum_congr rfl fun r _ => ?_)
    rw [kDecF_at]; rfl

theorem chF_at (c : Fin 18) (r e : Fin 128) :
    (chF (k0_pay10 a) (k0_pay11 a) (k0_pay12 a) (k0_pay13 a) Q K V (k0_pay14 (F := Ideal)) c (ix2 r e) : EReal)
      = rows (lsig a) (blocks Q) (scaled K) (blocks V) c r e := by
  rw [chF, rows_at, rows]
  simp only [backF_at, qDecF_at, stF_at]
  rfl

/-- The sum over a block does not depend on the end it is read from. -/
theorem sum_rev (f : Fin 128 → EReal) : ∑ r : Fin 128, f r = ∑ r : Fin 128, f r.rev :=
  (Equiv.sum_comp Fin.revPerm f).symm

theorem stB_at (n : ℕ) (d e : Fin 128) :
    (stB (k0_pay23 k0_pay7 a) (k0_pay24 a) K V (k0_pay25 (F := Ideal)) n (ix2 d e) : EReal)
      = state (lsig a) (turn (scaled K)) (turn (blocks V)) n d e := by
  induction n generalizing d e with
  | zero => exact zeroB_at _
  | succ n ih =>
    rw [stB, pay5_eq, step_at, state, bDecB_at, ih, sum_rev]
    refine congrArg _ (Finset.sum_congr rfl fun r _ => ?_)
    rw [kDecB_at, Fin.rev_rev]; rfl

theorem chB_at (y : Sq Ideal) (c : Fin 18) (r e : Fin 128) :
    (chB (k0_pay20 k0_pay7 k0_pay8 a) (k0_pay22 k0_pay7 a) (k0_pay23 k0_pay7 a) (k0_pay24 a) Q K V (k0_pay25 (F := Ideal)) y c (ix2 r e) : EReal)
      = (y (ix2 r e) : EReal) + rows (lsig a) (turn (blocks Q)) (turn (scaled K)) (turn (blocks V)) (ord c) r.rev e := by
  rw [chB, pay6_eq]
  rw [show k0_pay1 (addf y _) = _ from cast_id _]
  refine congrArg (fun z : EReal => (y (ix2 r e) : EReal) + z) ?_
  rw [rows_at, rows, sum_rev]
  simp only [backB_at, qDecB_at, stB_at, Fin.rev_rev]
  unfold turn
  simp only [ord_ord, Fin.rev_rev]
  rfl

theorem both_at (b : EReal) (c : Fin 18) (r e : Fin 128) :
    (bothRows (F := Ideal) a b Q K V (ix2 (row c r) e) : EReal)
      = rows (lsig a) (blocks Q) (scaled K) (blocks V) c r e
        + rows (lsig b) (turn (blocks Q)) (turn (scaled K)) (turn (blocks V)) (ord c) r.rev e := by
  unfold bothRows
  refine (congrFun (chunk_unchunk _ c) (ix2 r e)).trans ?_
  rw [chB_at, chF_at]

end Cert.KernelIdeal.Ret
end
-- ==== Proof.Ret.Norm.lean ====
/- The last stage of a block, over the extended reals: each row is brought to mean 0 and variance 1 over the head's 128
   columns and multiplied by the gate. -/
module

public import proofs.«01_k».proof.Proof.Ret.KernelRows

@[expose] public section
set_option maxRecDepth 16384
noncomputable section

namespace Cert.Ret

open Idealize.ShloMosaic

/-- The mean of a row, and its variance. -/
def mean (y : Fin 128 → EReal) : EReal := Ideal.div (∑ e : Fin 128, y e) c128
def var (y : Fin 128 → EReal) : EReal := Ideal.div (∑ e : Fin 128, (y e - mean y) * (y e - mean y)) c128

/-- The small constant under the root. -/
def eps : EReal := Ideal.ofBits .f32 0x3727C5AC#32

/-- A row's normed entry times its gate. -/
def gated (y : Fin 128 → EReal) (g : EReal) (e : Fin 128) : EReal :=
  (g * Ideal.logistic g) * ((y e - mean y) * Ideal.rsqrt (var y + eps))

end Cert.Ret

namespace Cert.KernelIdeal.Ret

open Idealize.ShloMosaic
open Cert.KernelIdeal Cert.KernelIdeal.Gen Cert.Ret

/-- A row's sum. -/
theorem sum_at (Y : Seq Ideal) (t : Fin 2304) :
    ((multiReduction .add [1] S2304 Y 0x00000000#32 reduces_S2304x128_S2304 (.inl rfl) rfl : FVec Ideal S2304 .f32) (ix1 t) : EReal)
      = ∑ e : Fin 128, (Y (ix2 t e) : EReal) := by
  pointwise

/-- A number kept per row, read in any column. -/
theorem perRow_at (x : FVec Ideal S2304x1 .f32) (t : Fin 2304) (e : Fin 128) :
    broadcastTo S2304x128 x broadcasts_S2304x1_S2304x128 (ix2 t e) = x (ix2 t 0) := by
  pointwise

theorem column_at (x : FVec Ideal S2304 .f32) (t : Fin 2304) :
    shapeCast S2304x1 x shapeCasts_S2304_S2304x1 (ix2 t 0) = x (ix1 t) := by
  pointwise

theorem pay2_at (Y G : Seq Ideal) (t : Fin 2304) (e : Fin 128) :
    (k0_pay2 Y G (ix2 t e) : EReal) = gated (fun e => Y (ix2 t e)) (G (ix2 t e)) e := by
  unfold k0_pay2
  pointwise
  rfl

end Cert.KernelIdeal.Ret
end
-- ==== Proof.Ret.Body.lean ====
/- The kernel body on any whole staging buffers: run from the inputs' contents, it leaves the output's block. -/
module

public import proofs.«01_k».proof.Proof.Ret.Passes

@[expose] public section
set_option maxRecDepth 16384
noncomputable section
namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- A load of one decay parameter. -/
theorem readAt_dec {κ : Kind} {sp : Space} (v : View sig κ sp S2x8 .f32) (f : v.ty.Contents (Elt F))
    {off : Fin 2 → ℕ} (inb : ∀ a, off a + S1x1.size a ≤ S2x8.size a) (r : Fin 2) (h : Fin 8)
    (e : off = ![r.val, h.val]) (y : (Rect.unit (s := S2x8) off S1x1.size inb).shape.Idx) :
    v.readAt (Elt F) (Rect.unit (s := S2x8) off S1x1.size inb).toLoadRect f y = dec (v.read (Elt F) f) r h := by
  rw [View.readAt_unit v f inb e (by subst e; exact inb)]
  unfold VecWindow.window dec
  congr 1
  funext a
  match a with
  | ⟨0, _⟩ =>
    have h0 : (y 0).val < 1 := (y 0).isLt
    exact Fin.ext (by show r.val + 1 * (y 0).val = r.val; omega)
  | ⟨1, _⟩ =>
    have h0 : (y 1).val < 1 := (y 1).isLt
    exact Fin.ext (by show h.val + 1 * (y 1).val = h.val; omega)

theorem trips1 : Scf.trips k0_t1_loop.lb k0_t1_loop.ub k0_t1_loop.st = 18 := by decide +kernel
theorem trips2 : Scf.trips k0_t2_loop.lb k0_t2_loop.ub k0_t2_loop.st = 18 := by decide +kernel

/-- The output rows loaded after both loops are both passes' rows. -/
theorem rows_loaded {arg8 : Memref sig .tc .vmem S2304x128 .f32} (harg8 : arg8.IsWhole)
    (f0 : arg8.view.ty.Contents (Elt F)) (a b : Elt F .f32) (Q K V : Seq F) (s s' : Sq F)
    (hs : s = k0_pay14 (F := F)) (hs' : s' = k0_pay25 (F := F)) {n n' : ℕ} (hn : n = 18) (hn' : n' = 18)
    (inb : ∀ a, (![0, 0] : Fin 2 → ℕ) a + (![2304, 128] : Fin 2 → ℕ) a ≤ S2304x128.size a) :
    View.readAt (Elt F) arg8.view (Rect.unit (s := S2304x128) ![0, 0] ![2304, 128] inb).toLoadRect
        (bufAt harg8 (bufAt harg8 f0 (outF (k0_pay10 a) (k0_pay11 a) (k0_pay12 a) (k0_pay13 a) Q K V s
            (arg8.view.read (Elt F) f0)) n)
          (outB (k0_pay20 (k0_pay7 (F := F)) (k0_pay8 (F := F)) b) (k0_pay22 (k0_pay7 (F := F)) b)
            (k0_pay23 (k0_pay7 (F := F)) b) (k0_pay24 b) Q K V s'
            (arg8.view.read (Elt F) (bufAt harg8 f0 (outF (k0_pay10 a) (k0_pay11 a) (k0_pay12 a) (k0_pay13 a) Q K V s
              (arg8.view.read (Elt F) f0)) n))) n')
      = bothRows a b Q K V := by
  subst hs hs' hn hn'
  refine (View.readAt_full arg8.view _ inb).trans ?_
  rw [read_bufAt harg8 _ _ rfl, read_bufAt harg8 _ _ rfl, both_eq]

/-- A load of the whole sequence is what it holds. -/
theorem readAt_seq {κ : Kind} {sp : Space} (v : View sig κ sp S2304x128 .f32) (f : v.ty.Contents (Elt F))
    (inb : ∀ a, (![0, 0] : Fin 2 → ℕ) a + (![2304, 128] : Fin 2 → ℕ) a ≤ S2304x128.size a) :
    v.readAt (Elt F) (Rect.unit (s := S2304x128) ![0, 0] ![2304, 128] inb).toLoadRect f = v.read (Elt F) f :=
  View.readAt_full v f inb

/-- The body from the inputs' contents to the output's block. -/
theorem body_run (c : Dev nD) (i : grid0.Coords) (arg2 : Memref sig .tc .smem S2x8 .f32) (harg2 : arg2.IsWhole) (arg3 : Memref sig .tc .vmem S2304x128 .f32) (harg3 : arg3.IsWhole) (arg4 : Memref sig .tc .vmem S2304x128 .f32) (harg4 : arg4.IsWhole) (arg5 : Memref sig .tc .vmem S2304x128 .f32) (harg5 : arg5.IsWhole) (arg6 : Memref sig .tc .vmem S2304x128 .f32) (harg6 : arg6.IsWhole) (arg7 : Memref sig .tc .vmem S2304x128 .bf16) (harg7 : arg7.IsWhole) (arg8 : Memref sig .tc .vmem S2304x128 .f32) (harg8 : arg8.IsWhole) (arg9 : Memref sig .tc .vmem S128x128 .f32) (harg9 : arg9.IsWhole)
    (x0 : Vec F S2x8 .f32) (x1 : Vec F S2304x128 .f32) (x2 : Vec F S2304x128 .f32) (x3 : Vec F S2304x128 .f32) (x4 : Vec F S2304x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (outBlk (dec x0 0 (i 1)) (dec x0 1 (i 1)) x1 x2 x3 x4)
                ∗ (∃ d, owns (c : Thread nD τ) arg8 fullShare d) ∗ (∃ d, owns (c : Thread nD τ) arg9 fullShare d)) -∗ K ⟨⟩))
          ⊢ wp frame (wpE (defs₀ (F := F)) Variants.none c none) E (cc0_retention i arg2 harg2 arg3 harg3 arg4 harg4 arg5 harg5 arg6 harg6 arg7 harg7 arg8 harg8 arg9 harg9) K := by
    intro E K
    simp only [cc0_retention_eq_skeleton]; unfold cc0_retention_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full arg7.view _ _ _ _).trans ?_
      have ea : View.readAt (Elt F) arg2.view (Rect.unit (s := S2x8) (k0_off1 i) S1x1.size (k0_off1_inb i)).toLoadRect (harg2.unread x0)
          (Shape.Idx.first (numel1_S1x1.symm ▸ Nat.one_pos)) = dec x0 0 (i 1) := by
        rw [readAt_dec arg2.view _ _ 0 (i 1) (k0_off1_eq i), hf0]
      have eb : View.readAt (Elt F) arg2.view (Rect.unit (s := S2x8) (k0_off3 i) S1x1.size (k0_off3_inb i)).toLoadRect (harg2.unread x0)
          (Shape.Idx.first (numel1_S1x1.symm ▸ Nat.one_pos)) = dec x0 1 (i 1) := by
        rw [readAt_dec arg2.view _ _ 1 (i 1) (k0_off3_eq i), hf0]
      rw [readAt_seq, hf4, ← ea, ← eb]
      unfold outBlk
      congr 1
      have e1 := View.read_writes_full (Val := Elt F) arg9.view arg9.view.junk (off := ![0, 0]) inb_S128x128_S128x128_0_0 (k0_pay14 (F := F)) []
      have e2 := View.read_writes_full (Val := Elt F) arg9.view arg9.view.junk (off := ![0, 0]) inb_S128x128_S128x128_0_0 (k0_pay25 (F := F)) []
      refine Eq.trans ?_ (rows_loaded harg8 fs0 _ _ x1 x2 x3 _ _ e1 e2 trips1 trips2 inb_S2304x128_S2304x128_0_0)
      delta body_run.sl.v82
      rw [hf1, hf2, hf3]
      rfl
    isplitl [HS0]
    · iexists _, _; isplitr; swap; · iexact HS0
      ipureintro; rfl
    iexists _, _; isplitr; swap; · iexact HS1
    ipureintro; rfl

end Cert.KernelIdeal.Ret

end
-- ==== Proof.Ret.Run.lean ====
/- The launch: at every grid point the body leaves the output block of that point's batch and head, so the whole run
   terminates with the output array made of those blocks and the arguments unchanged. -/
module

public import proofs.«01_k».proof.Proof.Ret.Body
public import Idealize.ShloMosaic.Lib.Claim

@[expose] public section
set_option maxRecDepth 16384
noncomputable section
namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block the body leaves at point `t`, from the point's blocks of the arguments. -/
def outAt (c : Dev nD) (t : Fin cfg0.N) : FVec F S2304x128 .bf16 :=
  outBlk (dec (iblk m c 0 t) 0 (grid0.coords t 1)) (dec (iblk m c 0 t) 1 (grid0.coords t 1))
    (iblk m c 1 t) (iblk m c 2 t) (iblk m c 3 t) (iblk m c 4 t)

/-- The run's data: the arrays as launched, each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- A window's staging buffer at point `t`. -/
abbrev st_0 (t : Fin cfg0.N) : Memref sig .tc .smem S2x8 .f32 := win0_0.stage (cfg0.slots t 0)
abbrev st_1 (t : Fin cfg0.N) : Memref sig .tc .vmem S2304x128 .f32 := win0_1.stage (cfg0.slots t 1)
abbrev st_2 (t : Fin cfg0.N) : Memref sig .tc .vmem S2304x128 .f32 := win0_2.stage (cfg0.slots t 2)
abbrev st_3 (t : Fin cfg0.N) : Memref sig .tc .vmem S2304x128 .f32 := win0_3.stage (cfg0.slots t 3)
abbrev st_4 (t : Fin cfg0.N) : Memref sig .tc .vmem S2304x128 .f32 := win0_4.stage (cfg0.slots t 4)
abbrev st_5 (t : Fin cfg0.N) : Memref sig .tc .vmem S2304x128 .bf16 := win0_5.stage (cfg0.slots t 5)
/-- The scratch buffers: the output rows and the state. -/
abbrev scr_0 : Memref sig .tc .vmem S2304x128 .f32 := Memref.whole cc0_scratch0
abbrev scr_1 : Memref sig .tc .vmem S128x128 .f32 := Memref.whole cc0_scratch1

theorem inv_eq (c : Dev nD) :
    (Pipeline.ΦA spec0 c : sProp 𝕄)
      = iprop(iprop((∃ d, owns (c : Thread nD τ) scr_0 fullShare d) ∗ (∃ d, owns (c : Thread nD τ) scr_1 fullShare d)) ∗ (∃ r, prngReg c r)) := by
  unfold Pipeline.ΦA; rw [scopedRest0_eq]; simp only [scr_0, scr_1, owns_whole]; try rfl

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d))
    ∗ (∃ d, owns (c : Thread nD τ) (st_3 t) fullShare ((dats m 0 c).before 3 t d))
    ∗ (∃ d, owns (c : Thread nD τ) (st_4 t) fullShare ((dats m 0 c).before 4 t d))
    ∗ (∃ d, owns (c : Thread nD τ) (st_5 t) fullShare ((dats m 0 c).before 5 t d)))

/-- What it returns. -/
def post (c : Dev nD) (t : Fin cfg0.N) : sProp 𝕄 :=
  iprop((dats m 0 c).Φ t.succ ∗ (dats m 0 c).owesAt () t.succ
    ∗ owns (c : Thread nD τ) (st_0 t) fullShare ((dats m 0 c).after 0 t)
    ∗ owns (c : Thread nD τ) (st_1 t) fullShare ((dats m 0 c).after 1 t)
    ∗ owns (c : Thread nD τ) (st_2 t) fullShare ((dats m 0 c).after 2 t)
    ∗ owns (c : Thread nD τ) (st_3 t) fullShare ((dats m 0 c).after 3 t)
    ∗ owns (c : Thread nD τ) (st_4 t) fullShare ((dats m 0 c).after 4 t)
    ∗ owns (c : Thread nD τ) (st_5 t) fullShare ((dats m 0 c).after 5 t))

/-- The body at any point. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, inv_eq]
  unfold outAt
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((body_run c (grid0.coords t) _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

theorem row_at (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  exact triple_restated (body_at m c t) rfl .rfl fun _ => .rfl

set_option backward.isDefEq.respectTransparency.types false in
/-- Every run ends, with the arrays at the data's last contents and every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_post m ρ)) ((θ_run defs _ _).mono (fun _ h => h.2) (run_quiescent m ρ))

end Cert.KernelIdeal.Ret
end
-- ==== Proof.Ret.Array.lean ====
/- The result array after the launch: the block of batch `b` and head `h` is the body's value on that batch's and head's
   columns of the projected array, and the 32 blocks tile the result. -/
module

public import proofs.«01_k».proof.Proof.Ret.Run
public import Idealize.ShloMosaic.Lib.Pipeline.Value

@[expose] public section
set_option maxRecDepth 16384
noncomputable section
namespace Cert.KernelIdeal.Ret

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

/-- Batch `b`, head `h`'s rows of array `w` of the projection (query, key, value, gate). -/
def part (x : Vec F S9216x4096 .f32) (w : Fin 4) (b : Fin 4) (h : Fin 8) : Seq F := fun y =>
  x (ix2 (⟨b.val * 2304 + (y 0).val, by have := b.isLt; have h0 : (y 0).val < 2304 := (y 0).isLt; omega⟩ : Fin 9216)
    (⟨(w.val * 8 + h.val) * 128 + (y 1).val, by have := w.isLt; have := h.isLt; have h1 : (y 1).val < 128 := (y 1).isLt; omega⟩ : Fin 4096))

/-- What the launch leaves in the block of batch `b` and head `h`. -/
def outVal (x : Vec F S9216x4096 .f32) (d : Vec F S2x8 .f32) (b : Fin 4) (h : Fin 8) : FVec F S2304x128 .bf16 :=
  outBlk (dec d 0 h) (dec d 1 h) (part x 0 b h) (part x 1 b h) (part x 2 b h) (part x 3 b h)

/-- The result array. -/
def outArr (x : Vec F S9216x4096 .f32) (d : Vec F S2x8 .f32) : Vec F S9216x1024 .bf16 := fun i =>
  outVal x d ⟨(i 0).val / 2304, by have h0 : (i 0).val < 9216 := (i 0).isLt; omega⟩ ⟨(i 1).val / 128, by have h1 : (i 1).val < 1024 := (i 1).isLt; omega⟩
    (ix2 (⟨(i 0).val % 2304, Nat.mod_lt _ (by decide)⟩ : Fin 2304) (⟨(i 1).val % 128, Nat.mod_lt _ (by decide)⟩ : Fin 128))

/-- The batch and the head of a grid point. -/
def bt (t : Fin cfg0.N) : Fin 4 := grid0.coords t 0
def hd (t : Fin cfg0.N) : Fin 8 := grid0.coords t 1

theorem idx_0 : ∀ t : Fin cfg0.N, win0_0.index t (0 : Fin 2) = 0 ∧ win0_0.index t (1 : Fin 2) = 0 :=
  (by decide +kernel : ∀ t : Fin grid0.N, _)
theorem idx_1 : ∀ t : Fin cfg0.N, win0_1.index t (0 : Fin 2) = (bt t).val ∧ win0_1.index t (1 : Fin 2) = (hd t).val :=
  (by decide +kernel : ∀ t : Fin grid0.N, _)
theorem idx_2 : ∀ t : Fin cfg0.N, win0_2.index t (0 : Fin 2) = (bt t).val ∧ win0_2.index t (1 : Fin 2) = 8 + (hd t).val :=
  (by decide +kernel : ∀ t : Fin grid0.N, _)
theorem idx_3 : ∀ t : Fin cfg0.N, win0_3.index t (0 : Fin 2) = (bt t).val ∧ win0_3.index t (1 : Fin 2) = 16 + (hd t).val :=
  (by decide +kernel : ∀ t : Fin grid0.N, _)
theorem idx_4 : ∀ t : Fin cfg0.N, win0_4.index t (0 : Fin 2) = (bt t).val ∧ win0_4.index t (1 : Fin 2) = 24 + (hd t).val :=
  (by decide +kernel : ∀ t : Fin grid0.N, _)
theorem idx_5 : ∀ t : Fin cfg0.N, win0_5.index t (0 : Fin 2) = (bt t).val ∧ win0_5.index t (1 : Fin 2) = (hd t).val :=
  (by decide +kernel : ∀ t : Fin grid0.N, _)
theorem point_of : ∀ (b : Fin 4) (h : Fin 8), ∃ t : Fin cfg0.N, bt t = b ∧ hd t = h :=
  (by decide +kernel : ∀ (b : Fin 4) (h : Fin 8), ∃ t : Fin grid0.N, _)

variable (m : (ℓ : Loc nD τ sig) → Buf (Elt F) ℓ) (ρ : Dev nD → PrngReg)

theorem blk_0 (c : Dev nD) (t : Fin cfg0.N) : iblk m c 0 t = V m c main_arg1 := by
  obtain ⟨e0, e1⟩ := idx_0 t
  funext j
  show V m c main_arg1 (((cfg0.win 0).blk t).view.emb j) = V m c main_arg1 j
  refine congrArg _ (funext fun a => Fin.ext ?_)
  match a with
  | ⟨0, _⟩ => show win0_0.index t (0 : Fin 2) * 2 + 1 * (j 0).val = (j 0).val; omega
  | ⟨1, _⟩ => show win0_0.index t (1 : Fin 2) * 8 + 1 * (j 1).val = (j 1).val; omega

theorem blk_1 (c : Dev nD) (t : Fin cfg0.N) : iblk m c 1 t = part (V m c main_arg0) 0 (bt t) (hd t) := by
  obtain ⟨e0, e1⟩ := idx_1 t
  funext j
  show V m c main_arg0 (((cfg0.win 1).blk t).view.emb j) = V m c main_arg0 _
  refine congrArg _ (funext fun a => Fin.ext ?_)
  match a with
  | ⟨0, _⟩ => show win0_1.index t (0 : Fin 2) * 2304 + 1 * (j 0).val = (bt t).val * 2304 + (j 0).val; omega
  | ⟨1, _⟩ => show win0_1.index t (1 : Fin 2) * 128 + 1 * (j 1).val = (0 * 8 + (hd t).val) * 128 + (j 1).val; omega

theorem blk_2 (c : Dev nD) (t : Fin cfg0.N) : iblk m c 2 t = part (V m c main_arg0) 1 (bt t) (hd t) := by
  obtain ⟨e0, e1⟩ := idx_2 t
  funext j
  show V m c main_arg0 (((cfg0.win 2).blk t).view.emb j) = V m c main_arg0 _
  refine congrArg _ (funext fun a => Fin.ext ?_)
  match a with
  | ⟨0, _⟩ => show win0_2.index t (0 : Fin 2) * 2304 + 1 * (j 0).val = (bt t).val * 2304 + (j 0).val; omega
  | ⟨1, _⟩ => show win0_2.index t (1 : Fin 2) * 128 + 1 * (j 1).val = (1 * 8 + (hd t).val) * 128 + (j 1).val; omega

theorem blk_3 (c : Dev nD) (t : Fin cfg0.N) : iblk m c 3 t = part (V m c main_arg0) 2 (bt t) (hd t) := by
  obtain ⟨e0, e1⟩ := idx_3 t
  funext j
  show V m c main_arg0 (((cfg0.win 3).blk t).view.emb j) = V m c main_arg0 _
  refine congrArg _ (funext fun a => Fin.ext ?_)
  match a with
  | ⟨0, _⟩ => show win0_3.index t (0 : Fin 2) * 2304 + 1 * (j 0).val = (bt t).val * 2304 + (j 0).val; omega
  | ⟨1, _⟩ => show win0_3.index t (1 : Fin 2) * 128 + 1 * (j 1).val = (2 * 8 + (hd t).val) * 128 + (j 1).val; omega

theorem blk_4 (c : Dev nD) (t : Fin cfg0.N) : iblk m c 4 t = part (V m c main_arg0) 3 (bt t) (hd t) := by
  obtain ⟨e0, e1⟩ := idx_4 t
  funext j
  show V m c main_arg0 (((cfg0.win 4).blk t).view.emb j) = V m c main_arg0 _
  refine congrArg _ (funext fun a => Fin.ext ?_)
  match a with
  | ⟨0, _⟩ => show win0_4.index t (0 : Fin 2) * 2304 + 1 * (j 0).val = (bt t).val * 2304 + (j 0).val; omega
  | ⟨1, _⟩ => show win0_4.index t (1 : Fin 2) * 128 + 1 * (j 1).val = (3 * 8 + (hd t).val) * 128 + (j 1).val; omega

theorem outAt_eq (c : Dev nD) (t : Fin cfg0.N) :
    outAt m c t = outVal (V m c main_arg0) (V m c main_arg1) (bt t) (hd t) := by
  unfold outAt outVal
  rw [blk_0, blk_1, blk_2, blk_3, blk_4]
  rfl

/-- Where the output block of a point lies. -/
theorem emb_5 (t : Fin cfg0.N) (j : S2304x128.Idx) : ((cfg0.win 5).blk t).view.emb j
    = (ix2 (⟨(bt t).val * 2304 + (j 0).val, by have := (bt t).isLt; have h0 : (j 0).val < 2304 := (j 0).isLt; omega⟩ : Fin 9216)
        (⟨(hd t).val * 128 + (j 1).val, by have := (hd t).isLt; have h1 : (j 1).val < 128 := (j 1).isLt; omega⟩ : Fin 1024) : S9216x1024.Idx) := by
  obtain ⟨e0, e1⟩ := idx_5 t
  funext a; apply Fin.ext
  match a with
  | ⟨0, _⟩ => show win0_5.index t (0 : Fin 2) * 2304 + 1 * (j 0).val = (bt t).val * 2304 + (j 0).val; omega
  | ⟨1, _⟩ => show win0_5.index t (1 : Fin 2) * 128 + 1 * (j 1).val = (hd t).val * 128 + (j 1).val; omega

/-- The result array inside a block. -/
theorem outArr_at (x : Vec F S9216x4096 .f32) (d : Vec F S2x8 .f32) (b : Fin 4) (h : Fin 8) (j : S2304x128.Idx)
    (p : (j 0).val < 2304) (q : (j 1).val < 128) :
    outArr x d (ix2 (⟨b.val * 2304 + (j 0).val, by have := b.isLt; omega⟩ : Fin 9216)
      (⟨h.val * 128 + (j 1).val, by have := h.isLt; omega⟩ : Fin 1024)) = outVal x d b h j := by
  have e1 : (b.val * 2304 + (j 0).val) / 2304 = b.val := by omega
  have e2 : (h.val * 128 + (j 1).val) / 128 = h.val := by omega
  have e3 : (b.val * 2304 + (j 0).val) % 2304 = (j 0).val := by omega
  have e4 : (h.val * 128 + (j 1).val) % 128 = (j 1).val := by omega
  have key : ∀ (b' : Fin 4) (h' : Fin 8) (j' : S2304x128.Idx), b' = b → h' = h → j' = j → outVal x d b' h' j' = outVal x d b h j := by
    rintro _ _ _ rfl rfl rfl; rfl
  refine key _ _ _ (Fin.ext e1) (Fin.ext e2) (funext fun a => Fin.ext ?_)
  match a with
  | ⟨0, _⟩ => exact e3
  | ⟨1, _⟩ => exact e4

theorem flushed_5 (c : Dev nD) (t : Fin cfg0.N) :
    (dats m 0 c).flushed 5 t = ((cfg0.win 5).blk t).view.read (Elt F) (outArr (V m c main_arg0) (V m c main_arg1)) := by
  show (cfg0.win 5).cut (grid0.coords t) ((dats m 0 c).after 5 t) = _
  rw [after_5, outAt_eq]
  funext j
  show outVal _ _ (bt t) (hd t) j = outArr _ _ (((cfg0.win 5).blk t).view.emb j)
  rw [emb_5]
  exact (outArr_at _ _ (bt t) (hd t) j (j 0).isLt (j 1).isLt).symm

theorem covered_5 (i : S9216x1024.Idx) :
    ∃ t : Fin cfg0.N, (cfg0.win 5).flush t = true ∧ i ∈ ((cfg0.win 5).blk t).view.set := by
  have h0 : (i 0).val < 9216 := (i 0).isLt
  have h1 : (i 1).val < 1024 := (i 1).isLt
  obtain ⟨t, eb, eh⟩ := point_of ⟨(i 0).val / 2304, by omega⟩ ⟨(i 1).val / 128, by omega⟩
  refine ⟨t, flush0_5 t, ?_⟩
  have h := ((cfg0.win 5).blk t).view.emb_mem_set
    (ix2 (⟨(i 0).val % 2304, Nat.mod_lt _ (by decide)⟩ : Fin 2304) (⟨(i 1).val % 128, Nat.mod_lt _ (by decide)⟩ : Fin 128))
  rw [emb_5] at h
  have e : (ix2 (⟨(bt t).val * 2304 + (i 0).val % 2304, by have := (bt t).isLt; omega⟩ : Fin 9216)
      (⟨(hd t).val * 128 + (i 1).val % 128, by have := (hd t).isLt; omega⟩ : Fin 1024) : S9216x1024.Idx) = i := by
    funext a; apply Fin.ext
    match a with
    | ⟨0, _⟩ => show (bt t).val * 2304 + (i 0).val % 2304 = (i 0).val; rw [eb]; show (i 0).val / 2304 * 2304 + _ = _; omega
    | ⟨1, _⟩ => show (hd t).val * 128 + (i 1).val % 128 = (i 1).val; rw [eh]; show (i 1).val / 128 * 128 + _ = _; omega
  exact e ▸ h

theorem final_5 (c : Dev nD) : (dats m 0 c).arrAt 5 cfg0.N
    = outArr (m ((c : Thread nD τ).loc main_arg0)) (m ((c : Thread nD τ).loc main_arg1)) :=
  ((dats m 0 c).arrAt_eq_of_cover 5 (outArr (V m c main_arg0) (V m c main_arg1)) (fun t _ => flushed_5 m c t) covered_5).trans
    (by rw [V_main_arg0, V_main_arg1])

/-- The run: the result is `outArr` of the arguments, which stay. -/
theorem run_value : θ_run defs (onTc (τ := τ) (main (F := F))) ⟨m, fun _ => 0, ρ⟩ fun r => ∀ c : Dev nD,
      r.2.mem ((c : Thread nD τ).loc main_v0)
        = outArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1 c).1 5 |>.trans (final_5 m c), h.2 c⟩)
    (θ_run_and (run_post m ρ) (frame_of m ρ (dats m) (A_eq m) (run_post m ρ)))

end Cert.KernelIdeal.Ret
end
-- ==== Proof.Ret.RefHeads.lean ====
/- The reference's queries, keys, values and gates by batch and head: entries of the projected array; and the two
   directions' blocks, the second being the sequences read from their ends. -/
module

public import proofs.«01_k».proof.Proof.Gen.ReferenceIdeal.Read
public import proofs.«01_k».proof.Proof.Ret.Norm
public import proofs.«01_k».proof.Proof.Ret.Array

@[expose] public section
set_option maxRecDepth 16384
noncomputable section
namespace Cert.ReferenceIdeal.Ret

open Idealize.ShloMosaic
open Cert.ReferenceIdeal Cert.ReferenceIdeal.Gen Cert.ReferenceIdeal.Read Cert.Ret
open Cert.KernelIdeal.Ret (row ord part sc blocks scaled turn)

/-- The projected array and the decay parameters. -/
abbrev X0 := (⟨S9216x4096, .f32⟩ : BufTy).Contents (Elt Ideal)
abbrev X1 := (⟨S2x8, .f32⟩ : BufTy).Contents (Elt Ideal)

variable (x0 : X0) (x1 : X1)

theorem q_at (b : Fin 4) (h : Fin 8) (t : Fin 2304) (d : Fin 128) :
    val_main_v7 x0 (ix4 b h t d) = part x0 0 b h (ix2 t d) := by
  rw [val_main_v7_apply, val_main_v6_apply, val_main_v2_apply, val_main_v0_apply]
  refine congrArg x0 (funext fun a => Fin.ext ?_)
  match a with
  | ⟨0, _⟩ => simp; omega
  | ⟨1, _⟩ => simp; omega

theorem k_at (b : Fin 4) (h : Fin 8) (t : Fin 2304) (d : Fin 128) :
    val_main_v11 x0 (ix4 b h t d) = (part x0 1 b h (ix2 t d) : EReal) * sc := by
  rw [val_main_v11_apply]
  refine congrArg (fun z : EReal => z * sc) ?_
  rw [val_main_v9_apply, val_main_v8_apply, val_main_v3_apply, val_main_v0_apply]
  refine congrArg x0 (funext fun a => Fin.ext ?_)
  match a with
  | ⟨0, _⟩ => simp; omega
  | ⟨1, _⟩ => simp; omega

theorem v_at (b : Fin 4) (h : Fin 8) (t : Fin 2304) (d : Fin 128) :
    val_main_v13 x0 (ix4 b h t d) = part x0 2 b h (ix2 t d) := by
  rw [val_main_v13_apply, val_main_v12_apply, val_main_v4_apply, val_main_v0_apply]
  refine congrArg x0 (funext fun a => Fin.ext ?_)
  match a with
  | ⟨0, _⟩ => simp; omega
  | ⟨1, _⟩ => simp; omega

/-! ## The two directions' blocks -/

/-- A head's rows read from the ends of the context and of the latents, as the reference writes it. -/
def flipped (X : FVec Ideal S4x8x2304x128 .f32) : FVec Ideal S4x8x2304x128 .f32 :=
  concatenate S4x8x2304x128 2
    [⟨S4x8x256x128, Host.reverse [2] (extractStridedSlice S4x8x256x128 ![0, 0, 0, 0] X slices_S4x8x2304x128_S4x8x256x128_0_0_0_0)⟩,
      ⟨S4x8x2048x128, Host.reverse [2] (extractStridedSlice S4x8x2048x128 ![0, 0, 256, 0] X slices_S4x8x2304x128_S4x8x2048x128_0_0_256_0)⟩]
    concatenates_S4x8x256x128_S4x8x2048x128_S4x8x2304x128_d2

/-- The row a row of the flipped sequence comes from. -/
def mirror (t : Fin 2304) : Fin 2304 := ⟨if t.val < 256 then 255 - t.val else 2559 - t.val, by split <;> omega⟩

theorem mirror_row (n : Fin 18) (r : Fin 128) : mirror (row n r) = row (ord n) r.rev := by
  apply Fin.ext
  show (if 128 * n.val + r.val < 256 then 255 - (128 * n.val + r.val) else 2559 - (128 * n.val + r.val))
    = 128 * (if n.val < 2 then 1 - n.val else 19 - n.val) + r.rev.val
  rw [Fin.val_rev]
  by_cases hn : n.val < 2
  · rw [if_pos hn, if_pos (by omega)]; omega
  · rw [if_neg hn, if_neg (by omega)]; omega

theorem flipped_at (X : FVec Ideal S4x8x2304x128 .f32) (b : Fin 4) (h : Fin 8) (t : Fin 2304) (d : Fin 128) :
    flipped X (ix4 b h t d) = X (ix4 b h (mirror t) d) := by
  unfold flipped
  by_cases ht : t.val < 256
  · refine (concatenate_pair_apply_left (t := S4x8x2304x128) (s₂ := S4x8x2048x128) (s₁ := S4x8x256x128) 2 _ _ _ _ rfl (ix4 b h ⟨t.val, ht⟩ d) ?_).trans ?_
    · intro a; fin_cases a <;> rfl
    · refine congrArg X (funext fun a => Fin.ext ?_)
      match a with
      | ⟨0, _⟩ => simp [mirror, ht]
      | ⟨1, _⟩ => simp [mirror, ht]
      | ⟨2, _⟩ => simp [mirror, ht]
      | ⟨3, _⟩ => simp [mirror, ht]
  · refine (concatenate_pair_apply_right (t := S4x8x2304x128) (s₁ := S4x8x256x128) (s₂ := S4x8x2048x128) 2 _ _ _ _ rfl rfl
      (ix4 b h ⟨t.val - 256, by omega⟩ d) ?_ ?_).trans ?_
    · intro a ha
      match a with
      | ⟨0, _⟩ => rfl
      | ⟨1, _⟩ => rfl
      | ⟨2, _⟩ => exact absurd rfl ha
      | ⟨3, _⟩ => rfl
    · show t.val - 256 + 256 = t.val
      omega
    · refine congrArg X (funext fun a => Fin.ext ?_)
      match a with
      | ⟨0, _⟩ => simp [mirror, ht]
      | ⟨1, _⟩ => simp [mirror, ht]
      | ⟨2, _⟩ => simp [mirror, ht]; omega
      | ⟨3, _⟩ => simp [mirror, ht]

/-- The two directions of a head, one above the other, cut into blocks. -/
def both (X : FVec Ideal S4x8x2304x128 .f32) : FVec Ideal S2x4x8x18x128x128 .f32 :=
  shapeCast _ (concatenate S2x4x8x2304x128 0
    [⟨S1x4x8x2304x128, broadcastInDim S1x4x8x2304x128 ![1, 2, 3, 4] bcast_S4x8x2304x128_S1x4x8x2304x128_1_2_3_4 X⟩,
      ⟨S1x4x8x2304x128, broadcastInDim S1x4x8x2304x128 ![1, 2, 3, 4] bcast_S4x8x2304x128_S1x4x8x2304x128_1_2_3_4 (flipped X)⟩]
    concatenates_S1x4x8x2304x128_S1x4x8x2304x128_S2x4x8x2304x128_d0) shapeCasts_S2x4x8x2304x128_S2x4x8x18x128x128

/-- A block's row and column, in the array of both directions before it is cut. -/
theorem cut_at (Y : FVec Ideal S2x4x8x2304x128 .f32) (w : Fin 2) (b : Fin 4) (h : Fin 8) (n : Fin 18) (r d : Fin 128) :
    shapeCast S2x4x8x18x128x128 Y shapeCasts_S2x4x8x2304x128_S2x4x8x18x128x128 (ix6 w b h n r d)
      = Y (ix5 w b h (row n r) d) := by
  refine shapeCast_apply _ _ _ _ ?_
  rw [rowMajor_val6 _ 9437184 2359296 294912 16384 128 rfl rfl rfl rfl rfl, Shape.rowMajor_val_five]
  show (_ : ℕ) = _
  simp [row]
  omega

theorem both_fst (X : FVec Ideal S4x8x2304x128 .f32) (b : Fin 4) (h : Fin 8) (n : Fin 18) (r d : Fin 128) :
    both X (ix6 0 b h n r d) = X (ix4 b h (row n r) d) := by
  refine (cut_at _ 0 b h n r d).trans ?_
  refine (concatenate_pair_apply_left (t := S2x4x8x2304x128) (s₁ := S1x4x8x2304x128) (s₂ := S1x4x8x2304x128) 0 _ _ _ _
    rfl (ix5 0 b h (row n r) d) ?_).trans ?_
  · intro a; fin_cases a <;> rfl
  · refine congrArg X (funext fun a => Fin.ext ?_)
    fin_cases a <;> rfl

theorem both_snd (X : FVec Ideal S4x8x2304x128 .f32) (b : Fin 4) (h : Fin 8) (n : Fin 18) (r d : Fin 128) :
    both X (ix6 1 b h n r d) = X (ix4 b h (row (ord n) r.rev) d) := by
  refine (cut_at _ 1 b h n r d).trans ?_
  refine (concatenate_pair_apply_right (t := S2x4x8x2304x128) (s₁ := S1x4x8x2304x128) (s₂ := S1x4x8x2304x128) 0 _ _ _ _
    rfl rfl (ix5 0 b h (row n r) d) ?_ rfl).trans ?_
  · intro a ha
    match a with
    | ⟨0, _⟩ => exact absurd rfl ha
    | ⟨1, _⟩ => rfl
    | ⟨2, _⟩ => rfl
    | ⟨3, _⟩ => rfl
    | ⟨4, _⟩ => rfl
  · rw [← mirror_row]
    refine Eq.trans (congrArg (flipped X) (a₂ := ix4 b h (row n r) d) (funext fun a => Fin.ext ?_)) (flipped_at X b h (row n r) d)
    fin_cases a <;> rfl

theorem v39_eq : val_main_v39 x0 = both (val_main_v7 x0) := rfl
theorem v40_eq : val_main_v40 x0 = both (val_main_v11 x0) := rfl
theorem v41_eq : val_main_v41 x0 = both (val_main_v13 x0) := rfl

/-- The blocks of a batch's head: of direction 0 in their order, of direction 1 from the ends. -/
def dirQ (w : Fin 2) (b : Fin 4) (h : Fin 8) : Rows :=
  if w = 0 then blocks (part x0 0 b h) else turn (blocks (part x0 0 b h))
def dirK (w : Fin 2) (b : Fin 4) (h : Fin 8) : Rows :=
  if w = 0 then scaled (part x0 1 b h) else turn (scaled (part x0 1 b h))
def dirV (w : Fin 2) (b : Fin 4) (h : Fin 8) : Rows :=
  if w = 0 then blocks (part x0 2 b h) else turn (blocks (part x0 2 b h))

variable (w : Fin 2) (b : Fin 4) (h : Fin 8) (n : Fin 18) (r d : Fin 128)

theorem v39_at : val_main_v39 x0 (ix6 w b h n r d) = dirQ x0 w b h n r d := by
  rw [v39_eq]
  match w with
  | ⟨0, _⟩ => exact (both_fst _ b h n r d).trans (q_at x0 b h _ d)
  | ⟨1, _⟩ => exact (both_snd _ b h n r d).trans (q_at x0 b h _ d)

theorem v40_at : val_main_v40 x0 (ix6 w b h n r d) = dirK x0 w b h n r d := by
  rw [v40_eq]
  match w with
  | ⟨0, _⟩ => exact (both_fst _ b h n r d).trans (k_at x0 b h _ d)
  | ⟨1, _⟩ => exact (both_snd _ b h n r d).trans (k_at x0 b h _ d)

theorem v41_at : val_main_v41 x0 (ix6 w b h n r d) = dirV x0 w b h n r d := by
  rw [v41_eq]
  match w with
  | ⟨0, _⟩ => exact (both_fst _ b h n r d).trans (v_at x0 b h _ d)
  | ⟨1, _⟩ => exact (both_snd _ b h n r d).trans (v_at x0 b h _ d)

end Cert.ReferenceIdeal.Ret
end
-- ==== Proof.Ret.RefDecay.lean ====
/- The reference's decays, products and block sums, each read at any index. -/
module

public import proofs.«01_k».proof.Proof.Ret.RefHeads

@[expose] public section
set_option maxRecDepth 16384
noncomputable section
namespace Cert.ReferenceIdeal.Ret

open Idealize.ShloMosaic
open Cert.ReferenceIdeal Cert.ReferenceIdeal.Gen Cert.ReferenceIdeal.Read Cert.Ret

variable (x0 : X0) (x1 : X1)

/-- The logarithm of a head's decay. -/
def lg (x1 : X1) (w : Fin 2) (h : Fin 8) : EReal := lsig (x1 (ix2 w h))

theorem v1_at (w : Fin 2) (h : Fin 8) : val_main_v1 x1 (ix2 w h) = lg x1 w h := by
  have z : ∀ i, (val_main_call0_call0_v2 (F := Ideal) i : EReal) = 0 := fun i => Ideal.ofBits_zero_f32
  have d : (val_main_call0_call0_v3 x1 (ix2 w h) : EReal) = -(x1 (ix2 w h) : EReal) := by
    show (-(x1 (ix2 w h) : EReal)) - val_main_call0_call0_v2 (F := Ideal) _ = _
    rw [z]; exact sub_zero _
  have one : (val_main_call0_call0_v4 x1 (ix2 w h)) = 0#1 := by
    show Ideal.cmp .une (val_main_call0_call0_v3 x1 (ix2 w h)) (val_main_call0_call0_v3 x1 (ix2 w h)) = 0#1
    simp [Ideal.cmp]
  have e : val_main_v1 x1 (ix2 w h) = -(max (-(x1 (ix2 w h) : EReal)) 0 + Ideal.log (1 + Ideal.exp
      (-(max (-(x1 (ix2 w h) : EReal)) (-(-(x1 (ix2 w h) : EReal))))))) := by
    show -(Scalar.select (val_main_call0_call0_v4 x1 (ix2 w h)) (val_main_call0_call0_v6 x1 (ix2 w h))
      ((max (-(x1 (ix2 w h) : EReal)) (val_main_call0_call0_v0 (F := Ideal) (ix2 w h))) + Ideal.log (1 + Ideal.exp
      (-(max (val_main_call0_call0_v3 x1 (ix2 w h) : EReal) (-(val_main_call0_call0_v3 x1 (ix2 w h) : EReal))))))) = _
    rw [one, d, show (val_main_call0_call0_v0 (F := Ideal) (ix2 w h) : EReal) = 0 from Ideal.ofBits_zero_f32]
    rfl
  rw [e]; exact lsig_alt _

theorem v1_any (i : S2x8.Idx) : val_main_v1 x1 i = lg x1 (i 0) (i 1) :=
  (congrArg (val_main_v1 x1) (eq_ix2 i)).trans (v1_at x1 _ _)

theorem v42_any (i : S128.Idx) : val_main_v42 (F := Ideal) i = pos (i 0) := by
  have h : ∀ r : Fin 128, (BitVec.ofNat 32 r.val).toInt = (r.val : ℤ) := by decide +kernel
  show (((BitVec.ofNat 32 (i 0).val).toInt : ℝ) : EReal) = _
  rw [h (i 0)]; unfold pos; norm_cast

theorem v43_any (i : S2x8x1.Idx) : val_main_v43 x1 i = lg x1 (i 0) (i 1) := by
  rw [val_main_v43_apply, v1_any]; rfl

theorem v48_any (i : S128x128.Idx) : val_main_v48 (F := Ideal) i = pos (i 0) - pos (i 1) := by
  simp only [val_main_v48_apply, val_main_v46_apply, val_main_v47_apply, val_main_v44_apply, val_main_v45_apply, v42_any]
  rfl

theorem v60_any (i : S2x8x128x128.Idx) : val_main_v60 x1 i = back (lg x1 (i 0) (i 1)) (pos (i 2) - pos (i 3)) := by
  simp only [val_main_v60_apply, val_main_call7_v3_apply, val_main_call7_v1_apply, val_main_v50_apply, val_main_v49_apply,
    val_main_v59_apply, val_main_v58_apply, val_main_v57_apply, val_main_v56_apply, val_main_v55_apply,
    val_main_v54_apply, val_main_v53_apply, val_main_v52_apply, val_main_v51_apply, val_main_call7_v4_apply,
    val_main_call7_v2_apply, v43_any, v48_any]
  show Scalar.select (Ideal.cmp .oge (pos (i 2) - pos (i 3)) (Ideal.ofBits .f32 0x00000000#32))
    (Ideal.exp (lg x1 (i 0) (i 1) * max (pos (i 2) - pos (i 3)) (Ideal.ofBits .f32 0x00000000#32)))
    (Ideal.ofBits .f32 0x00000000#32) = _
  rw [Ideal.ofBits_zero_f32]; rfl

theorem v73_any (i : S2x8x128.Idx) : val_main_v73 x1 i = qDec (lg x1 (i 0) (i 1)) (pos (i 2)) := by
  simp only [val_main_v73_apply, val_main_v72_apply, val_main_v71_apply, val_main_v70_apply, val_main_v69_apply,
    val_main_v68_apply, val_main_v67_apply, val_main_v66_apply, v42_any, v43_any]
  show Ideal.exp (lg x1 (i 0) (i 1) * (pos (i 2) + Ideal.ofBits .f32 0x3F800000#32)) = _
  rw [Ideal.ofBits_one_f32]; rfl

theorem v81_any (i : S2x8x128.Idx) : val_main_v81 x1 i = kDec (lg x1 (i 0) (i 1)) (pos (i 2)) := by
  simp only [val_main_v81_apply, val_main_v80_apply, val_main_v79_apply, val_main_v78_apply, val_main_v77_apply,
    val_main_v76_apply, val_main_v75_apply, val_main_v74_apply, v42_any, v43_any]
  rfl

theorem v89_any (i : S2x1x8x1x1.Idx) : val_main_v89 x1 i = bDec (lg x1 (i 0) (i 2)) := by
  simp only [val_main_v89_apply, val_main_v88_apply, val_main_v87_apply, val_main_v86_apply, v1_any]
  rfl

end Cert.ReferenceIdeal.Ret
end
-- ==== Proof.Ret.RefBlocks.lean ====
/- The reference's products inside a block, and what a block leaves in the carried state. -/
module

public import proofs.«01_k».proof.Proof.Ret.RefDecay

@[expose] public section
set_option maxRecDepth 16384
noncomputable section
namespace Cert.ReferenceIdeal.Ret

open Idealize.ShloMosaic
open Cert.ReferenceIdeal Cert.ReferenceIdeal.Gen Cert.ReferenceIdeal.Read Cert.Ret

variable (x0 : X0) (x1 : X1)
variable (w : Fin 2) (b : Fin 4) (h : Fin 8) (n : Fin 18) (r d e : Fin 128)

theorem v84_at : val_main_v84 x0 x1 (ix6 w b h n r d) = dirK x0 w b h n r d * kDec (lg x1 w h) (pos r) := by
  have e : idx_main_v82 (idx_main_v83 (ix6 w b h n r d)) = ix3 w h r := funext fun a => match a with | ⟨0, _⟩ => rfl | ⟨1, _⟩ => rfl | ⟨2, _⟩ => rfl
  rw [val_main_v84_apply, v40_at, val_main_v83_apply, val_main_v82_apply, e, v81_any]
  rfl

/-- What a block leaves in the state. -/
def left (w : Fin 2) (b : Fin 4) (h : Fin 8) (n : Fin 18) (d e : Fin 128) : EReal :=
  ∑ r : Fin 128, (dirK x0 w b h n r d * kDec (lg x1 w h) (pos r)) * dirV x0 w b h n r e

theorem v85_at : val_main_v85 x0 x1 (ix6 w n b h d e) = left x0 x1 w b h n d e := by
  rw [val_main_v85_apply]
  refine Finset.sum_congr rfl fun r _ => ?_
  have e1 : lidx_main_v85 (ix6 w n b h d e) r = ix6 w b h n r d := funext fun a => match a with | ⟨0, _⟩ => rfl | ⟨1, _⟩ => rfl | ⟨2, _⟩ => rfl | ⟨3, _⟩ => rfl | ⟨4, _⟩ => rfl | ⟨5, _⟩ => rfl
  have e2 : ridx_main_v85 (ix6 w n b h d e) r = ix6 w b h n r e := funext fun a => match a with | ⟨0, _⟩ => rfl | ⟨1, _⟩ => rfl | ⟨2, _⟩ => rfl | ⟨3, _⟩ => rfl | ⟨4, _⟩ => rfl | ⟨5, _⟩ => rfl
  rw [e1, e2, v84_at, v41_at]

theorem v92_at : val_main_v92 x0 x1 (ix6 n w b h d e) = left x0 x1 w b h n d e := by
  have e1 : idx_main_v90 (idx_main_v92 (ix6 n w b h d e)) = ix6 w n b h d e := funext fun a => match a with | ⟨0, _⟩ => rfl | ⟨1, _⟩ => rfl | ⟨2, _⟩ => rfl | ⟨3, _⟩ => rfl | ⟨4, _⟩ => rfl | ⟨5, _⟩ => rfl
  rw [val_main_v92_apply, val_main_v90_apply, e1, v85_at]

theorem v64_at (c : Fin 128) : val_main_v64 x0 x1 (ix6 w b h n r c)
    = (∑ d : Fin 128, dirQ x0 w b h n r d * dirK x0 w b h n c d) * back (lg x1 w h) (pos r - pos c) := by
  have e : idx_main_v62 (idx_main_v63 (ix6 w b h n r c)) = ix4 w h r c := funext fun a => match a with | ⟨0, _⟩ => rfl | ⟨1, _⟩ => rfl | ⟨2, _⟩ => rfl | ⟨3, _⟩ => rfl
  rw [val_main_v64_apply, val_main_v63_apply, val_main_v62_apply, e, v60_any, val_main_v61_apply]
  refine congrArg (fun z : EReal => z * _) (Finset.sum_congr rfl fun d _ => ?_)
  have e1 : lidx_main_v61 (ix6 w b h n r c) d = ix6 w b h n r d := funext fun a => match a with | ⟨0, _⟩ => rfl | ⟨1, _⟩ => rfl | ⟨2, _⟩ => rfl | ⟨3, _⟩ => rfl | ⟨4, _⟩ => rfl | ⟨5, _⟩ => rfl
  have e2 : ridx_main_v61 (ix6 w b h n r c) d = ix6 w b h n c d := funext fun a => match a with | ⟨0, _⟩ => rfl | ⟨1, _⟩ => rfl | ⟨2, _⟩ => rfl | ⟨3, _⟩ => rfl | ⟨4, _⟩ => rfl | ⟨5, _⟩ => rfl
  rw [e1, e2, v39_at, v40_at]

/-- A block's own part of its output. -/
theorem v65_at : val_main_v65 x0 x1 (ix6 w b h n r e)
    = ∑ c : Fin 128, ((∑ d : Fin 128, dirQ x0 w b h n r d * dirK x0 w b h n c d) * back (lg x1 w h) (pos r - pos c))
        * dirV x0 w b h n c e := by
  rw [val_main_v65_apply]
  refine Finset.sum_congr rfl fun c _ => ?_
  have e1 : lidx_main_v65 (ix6 w b h n r e) c = ix6 w b h n r c := funext fun a => match a with | ⟨0, _⟩ => rfl | ⟨1, _⟩ => rfl | ⟨2, _⟩ => rfl | ⟨3, _⟩ => rfl | ⟨4, _⟩ => rfl | ⟨5, _⟩ => rfl
  have e2 : ridx_main_v65 (ix6 w b h n r e) c = ix6 w b h n c e := funext fun a => match a with | ⟨0, _⟩ => rfl | ⟨1, _⟩ => rfl | ⟨2, _⟩ => rfl | ⟨3, _⟩ => rfl | ⟨4, _⟩ => rfl | ⟨5, _⟩ => rfl
  rw [e1, e2, v64_at, v41_at]

/-- The queries with their decay. -/
theorem v208_at : val_main_v208 x0 x1 (ix6 w b h n r d) = dirQ x0 w b h n r d * qDec (lg x1 w h) (pos r) := by
  have e : idx_main_v206 (idx_main_v207 (ix6 w b h n r d)) = ix3 w h r := funext fun a => match a with | ⟨0, _⟩ => rfl | ⟨1, _⟩ => rfl | ⟨2, _⟩ => rfl
  rw [val_main_v208_apply, v39_at, val_main_v207_apply, val_main_v206_apply, e, v73_any]
  rfl

end Cert.ReferenceIdeal.Ret
end
-- ==== Proof.Ret.RefState.lean ====
/- The state the reference carries from block to block, one statement for each block. -/
module

public import proofs.«01_k».proof.Proof.Ret.RefBlocks

@[expose] public section
set_option maxRecDepth 16384
noncomputable section
namespace Cert.ReferenceIdeal.Ret

open Idealize.ShloMosaic
open Cert.ReferenceIdeal Cert.ReferenceIdeal.Gen Cert.ReferenceIdeal.Read Cert.Ret

variable (x0 : X0) (x1 : X1)
variable (w : Fin 2) (b : Fin 4) (h : Fin 8) (d e : Fin 128)

/-- The state of one direction of a batch's head before block `n`. -/
def carried (n : ℕ) : EReal := state (lg x1 w h) (dirK x0 w b h) (dirV x0 w b h) n d e

/-- A block's share, cut out of the array of all blocks' shares. -/
theorem share_at (k : ℕ) (hk : k < 18) (hs) :
    shapeCast S2x4x8x128x128 (extractStridedSlice S1x2x4x8x128x128 ![k, 0, 0, 0, 0, 0] (val_main_v92 x0 x1) hs)
      shapeCasts_S1x2x4x8x128x128_S2x4x8x128x128 (ix5 w b h d e) = left x0 x1 w b h ⟨k, hk⟩ d e := by
  refine (shapeCast_apply _ _ _ (ix6 0 w b h d e) ?_).trans ?_
  · rw [rowMajor_val6 _ 1048576 524288 131072 16384 128 rfl rfl rfl rfl rfl, Shape.rowMajor_val_five]
    show (_ : ℕ) = _
    simp
    omega
  · refine Eq.trans (extractStridedSlice_apply _ _ _ _ (ix6 ⟨k, hk⟩ w b h d e) ?_) (v92_at x0 x1 w b h ⟨k, hk⟩ d e)
    intro a
    match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm
    | ⟨5, _⟩ => exact (Nat.zero_add _).symm

theorem v96_at : val_main_v96 x1 (ix5 w b h d e) = bDec (lg x1 w h) := by
  have i : idx_main_v96 (ix5 w b h d e) = ix5 w 0 h 0 0 := funext fun a => match a with
    | ⟨0, _⟩ => rfl | ⟨1, _⟩ => rfl | ⟨2, _⟩ => rfl | ⟨3, _⟩ => rfl | ⟨4, _⟩ => rfl
  rw [val_main_v96_apply, i, v89_any]
  rfl

/-- One block: the state decays and takes the block's share. -/
theorem next (k : ℕ) (hk : k < 18) (S : FVec Ideal S2x4x8x128x128 .f32) (hs)
    (ih : S (ix5 w b h d e) = carried x0 x1 w b h d e k) :
    addf (mulf S (val_main_v96 x1)) (shapeCast S2x4x8x128x128
      (extractStridedSlice S1x2x4x8x128x128 ![k, 0, 0, 0, 0, 0] (val_main_v92 x0 x1) hs)
      shapeCasts_S1x2x4x8x128x128_S2x4x8x128x128) (ix5 w b h d e) = carried x0 x1 w b h d e (k + 1) := by
  have hm : (⟨k % 18, Nat.mod_lt _ (by decide)⟩ : Fin 18) = ⟨k, hk⟩ := Fin.ext (Nat.mod_eq_of_lt hk)
  have hc : carried x0 x1 w b h d e (k + 1) = carried x0 x1 w b h d e k * bDec (lg x1 w h) + left x0 x1 w b h ⟨k, hk⟩ d e := by
    rw [← hm]; rfl
  rw [hc, ← share_at x0 x1 w b h d e k hk hs, ← v96_at x1 w b h d e, ← ih]
  rfl

theorem s0_at : (val_main_v14 (F := Ideal) (ix5 w b h d e) : EReal) = carried x0 x1 w b h d e 0 := by
  rw [val_main_v14_apply]; exact Ideal.ofBits_zero_f32

theorem s1_at : val_main_v98 x0 x1 (ix5 w b h d e) = carried x0 x1 w b h d e 1 :=
  next x0 x1 w b h d e 0 (by decide) (val_main_v14 (F := Ideal)) slices_S18x2x4x8x128x128_S1x2x4x8x128x128_0_0_0_0_0_0 (s0_at x0 x1 w b h d e)
theorem s2_at : val_main_v103 x0 x1 (ix5 w b h d e) = carried x0 x1 w b h d e 2 :=
  next x0 x1 w b h d e 1 (by decide) (val_main_v98 x0 x1) slices_S18x2x4x8x128x128_S1x2x4x8x128x128_1_0_0_0_0_0 (s1_at x0 x1 w b h d e)
theorem s3_at : val_main_v108 x0 x1 (ix5 w b h d e) = carried x0 x1 w b h d e 3 :=
  next x0 x1 w b h d e 2 (by decide) (val_main_v103 x0 x1) slices_S18x2x4x8x128x128_S1x2x4x8x128x128_2_0_0_0_0_0 (s2_at x0 x1 w b h d e)
theorem s4_at : val_main_v113 x0 x1 (ix5 w b h d e) = carried x0 x1 w b h d e 4 :=
  next x0 x1 w b h d e 3 (by decide) (val_main_v108 x0 x1) slices_S18x2x4x8x128x128_S1x2x4x8x128x128_3_0_0_0_0_0 (s3_at x0 x1 w b h d e)
theorem s5_at : val_main_v118 x0 x1 (ix5 w b h d e) = carried x0 x1 w b h d e 5 :=
  next x0 x1 w b h d e 4 (by decide) (val_main_v113 x0 x1) slices_S18x2x4x8x128x128_S1x2x4x8x128x128_4_0_0_0_0_0 (s4_at x0 x1 w b h d e)
theorem s6_at : val_main_v123 x0 x1 (ix5 w b h d e) = carried x0 x1 w b h d e 6 :=
  next x0 x1 w b h d e 5 (by decide) (val_main_v118 x0 x1) slices_S18x2x4x8x128x128_S1x2x4x8x128x128_5_0_0_0_0_0 (s5_at x0 x1 w b h d e)
theorem s7_at : val_main_v128 x0 x1 (ix5 w b h d e) = carried x0 x1 w b h d e 7 :=
  next x0 x1 w b h d e 6 (by decide) (val_main_v123 x0 x1) slices_S18x2x4x8x128x128_S1x2x4x8x128x128_6_0_0_0_0_0 (s6_at x0 x1 w b h d e)
theorem s8_at : val_main_v133 x0 x1 (ix5 w b h d e) = carried x0 x1 w b h d e 8 :=
  next x0 x1 w b h d e 7 (by decide) (val_main_v128 x0 x1) slices_S18x2x4x8x128x128_S1x2x4x8x128x128_7_0_0_0_0_0 (s7_at x0 x1 w b h d e)
theorem s9_at : val_main_v138 x0 x1 (ix5 w b h d e) = carried x0 x1 w b h d e 9 :=
  next x0 x1 w b h d e 8 (by decide) (val_main_v133 x0 x1) slices_S18x2x4x8x128x128_S1x2x4x8x128x128_8_0_0_0_0_0 (s8_at x0 x1 w b h d e)
theorem s10_at : val_main_v143 x0 x1 (ix5 w b h d e) = carried x0 x1 w b h d e 10 :=
  next x0 x1 w b h d e 9 (by decide) (val_main_v138 x0 x1) slices_S18x2x4x8x128x128_S1x2x4x8x128x128_9_0_0_0_0_0 (s9_at x0 x1 w b h d e)
theorem s11_at : val_main_v148 x0 x1 (ix5 w b h d e) = carried x0 x1 w b h d e 11 :=
  next x0 x1 w b h d e 10 (by decide) (val_main_v143 x0 x1) slices_S18x2x4x8x128x128_S1x2x4x8x128x128_10_0_0_0_0_0 (s10_at x0 x1 w b h d e)
theorem s12_at : val_main_v153 x0 x1 (ix5 w b h d e) = carried x0 x1 w b h d e 12 :=
  next x0 x1 w b h d e 11 (by decide) (val_main_v148 x0 x1) slices_S18x2x4x8x128x128_S1x2x4x8x128x128_11_0_0_0_0_0 (s11_at x0 x1 w b h d e)
theorem s13_at : val_main_v158 x0 x1 (ix5 w b h d e) = carried x0 x1 w b h d e 13 :=
  next x0 x1 w b h d e 12 (by decide) (val_main_v153 x0 x1) slices_S18x2x4x8x128x128_S1x2x4x8x128x128_12_0_0_0_0_0 (s12_at x0 x1 w b h d e)
theorem s14_at : val_main_v163 x0 x1 (ix5 w b h d e) = carried x0 x1 w b h d e 14 :=
  next x0 x1 w b h d e 13 (by decide) (val_main_v158 x0 x1) slices_S18x2x4x8x128x128_S1x2x4x8x128x128_13_0_0_0_0_0 (s13_at x0 x1 w b h d e)
theorem s15_at : val_main_v168 x0 x1 (ix5 w b h d e) = carried x0 x1 w b h d e 15 :=
  next x0 x1 w b h d e 14 (by decide) (val_main_v163 x0 x1) slices_S18x2x4x8x128x128_S1x2x4x8x128x128_14_0_0_0_0_0 (s14_at x0 x1 w b h d e)
theorem s16_at : val_main_v173 x0 x1 (ix5 w b h d e) = carried x0 x1 w b h d e 16 :=
  next x0 x1 w b h d e 15 (by decide) (val_main_v168 x0 x1) slices_S18x2x4x8x128x128_S1x2x4x8x128x128_15_0_0_0_0_0 (s15_at x0 x1 w b h d e)
theorem s17_at : val_main_v178 x0 x1 (ix5 w b h d e) = carried x0 x1 w b h d e 17 :=
  next x0 x1 w b h d e 16 (by decide) (val_main_v173 x0 x1) slices_S18x2x4x8x128x128_S1x2x4x8x128x128_16_0_0_0_0_0 (s16_at x0 x1 w b h d e)

end Cert.ReferenceIdeal.Ret
end
-- ==== Proof.Ret.RefStack.lean ====
/- The array of all blocks' states, joined from the single ones. -/
module

public import proofs.«01_k».proof.Proof.Ret.RefState

@[expose] public section
set_option maxRecDepth 16384
noncomputable section
namespace Cert.ReferenceIdeal.Ret

open Idealize.ShloMosaic
open Cert.ReferenceIdeal Cert.ReferenceIdeal.Gen Cert.ReferenceIdeal.Read Cert.Ret

variable (x0 : X0) (x1 : X1)
variable (w : Fin 2) (b : Fin 4) (h : Fin 8) (d e : Fin 128)

/-- A state with a leading axis of one. -/
theorem unit_at (S : FVec Ideal S2x4x8x128x128 .f32) :
    broadcastInDim S1x2x4x8x128x128 ![1, 2, 3, 4, 5] bcast_S2x4x8x128x128_S1x2x4x8x128x128_1_2_3_4_5 S (ix6 0 w b h d e)
      = S (ix5 w b h d e) :=
  congrArg S (funext fun a => Fin.ext (match a with
    | ⟨0, _⟩ => rfl | ⟨1, _⟩ => rfl | ⟨2, _⟩ => rfl | ⟨3, _⟩ => rfl | ⟨4, _⟩ => rfl))

/-- Off the leading axis two indices of joined arrays agree. -/
theorem off_axis {m m' : ℕ} (p : Fin m) (q : Fin m') (c : Fin 6) (hc : c ≠ 0) :
    (ix6 p w b h d e c).val = (ix6 q w b h d e c).val :=
  match c, hc with
  | ⟨0, _⟩, hc => absurd rfl hc
  | ⟨1, _⟩, _ => rfl | ⟨2, _⟩, _ => rfl | ⟨3, _⟩, _ => rfl | ⟨4, _⟩, _ => rfl | ⟨5, _⟩, _ => rfl

/-- The first sixteen states, each with a leading axis of one. -/
def pieces : Fin 16 → FVec Ideal S1x2x4x8x128x128 .f32 :=
  ![val_main_v184 (F := Ideal), val_main_v185 x0 x1, val_main_v186 x0 x1, val_main_v187 x0 x1, val_main_v188 x0 x1,
    val_main_v189 x0 x1, val_main_v190 x0 x1, val_main_v191 x0 x1, val_main_v192 x0 x1, val_main_v193 x0 x1,
    val_main_v194 x0 x1, val_main_v195 x0 x1, val_main_v196 x0 x1, val_main_v197 x0 x1, val_main_v198 x0 x1,
    val_main_v199 x0 x1]

theorem pieces_at (n : Fin 16) : pieces x0 x1 n (ix6 0 w b h d e) = carried x0 x1 w b h d e n.val := by
  fin_cases n
  · exact (unit_at w b h d e (val_main_v14 (F := Ideal))).trans (s0_at x0 x1 w b h d e)
  · exact (unit_at w b h d e (val_main_v98 x0 x1)).trans (s1_at x0 x1 w b h d e)
  · exact (unit_at w b h d e (val_main_v103 x0 x1)).trans (s2_at x0 x1 w b h d e)
  · exact (unit_at w b h d e (val_main_v108 x0 x1)).trans (s3_at x0 x1 w b h d e)
  · exact (unit_at w b h d e (val_main_v113 x0 x1)).trans (s4_at x0 x1 w b h d e)
  · exact (unit_at w b h d e (val_main_v118 x0 x1)).trans (s5_at x0 x1 w b h d e)
  · exact (unit_at w b h d e (val_main_v123 x0 x1)).trans (s6_at x0 x1 w b h d e)
  · exact (unit_at w b h d e (val_main_v128 x0 x1)).trans (s7_at x0 x1 w b h d e)
  · exact (unit_at w b h d e (val_main_v133 x0 x1)).trans (s8_at x0 x1 w b h d e)
  · exact (unit_at w b h d e (val_main_v138 x0 x1)).trans (s9_at x0 x1 w b h d e)
  · exact (unit_at w b h d e (val_main_v143 x0 x1)).trans (s10_at x0 x1 w b h d e)
  · exact (unit_at w b h d e (val_main_v148 x0 x1)).trans (s11_at x0 x1 w b h d e)
  · exact (unit_at w b h d e (val_main_v153 x0 x1)).trans (s12_at x0 x1 w b h d e)
  · exact (unit_at w b h d e (val_main_v158 x0 x1)).trans (s13_at x0 x1 w b h d e)
  · exact (unit_at w b h d e (val_main_v163 x0 x1)).trans (s14_at x0 x1 w b h d e)
  · exact (unit_at w b h d e (val_main_v168 x0 x1)).trans (s15_at x0 x1 w b h d e)

/-- The pieces as a list. -/
abbrev pieceList : List ((s : Shape) × (s.Idx → Ideal .f32)) := List.ofFn fun k => ⟨S1x2x4x8x128x128, pieces x0 x1 k⟩

/-- The pieces before the `k`th have `k` rows on the leading axis. -/
theorem rows_before (k : ℕ) (hk : k < 16) :
    ((((pieceList x0 x1).take k).map (·.1)).map fun s => if h : s.rank = S16x2x4x8x128x128.rank
      then s.size ((0 : Fin S16x2x4x8x128x128.rank).cast h.symm) else 0).sum = k := by
  have c : (pieceList x0 x1).map (·.1) = List.replicate 16 S1x2x4x8x128x128 := by
    rw [List.map_ofFn]; exact List.ofFn_const 16 _
  rw [List.map_take, c, List.take_replicate, List.map_replicate, List.sum_replicate, Nat.min_eq_left hk.le]
  exact Nat.mul_one k

theorem v202_at (n : Fin 16) : val_main_v202 x0 x1 (ix6 n w b h d e) = carried x0 x1 w b h d e n.val := by
  refine Eq.trans ?_ (pieces_at x0 x1 w b h d e n)
  have hl : n.val < (pieceList x0 x1).length := by rw [List.length_ofFn]; exact n.isLt
  exact concatenate_apply_piece (t := S16x2x4x8x128x128) 0 (pieceList x0 x1) _ (ix6 n w b h d e) n.val hl
    S1x2x4x8x128x128 (pieces x0 x1 n) (List.getElem_ofFn hl) rfl n.val (rows_before x0 x1 n.val n.isLt)
    (ix6 0 w b h d e) (fun c hc => off_axis w b h d e _ _ c hc) rfl

theorem v203_0 : val_main_v203 x0 x1 (ix6 0 w b h d e) = carried x0 x1 w b h d e 16 := by
  refine (concatenate_pair_apply_left (t := S2x2x4x8x128x128) (s₁ := S1x2x4x8x128x128) (s₂ := S1x2x4x8x128x128) 0 _ _ _ _
    rfl (ix6 0 w b h d e) ?_).trans ((unit_at w b h d e (val_main_v173 x0 x1)).trans (s16_at x0 x1 w b h d e))
  intro a
  match a with
  | ⟨0, _⟩ => rfl | ⟨1, _⟩ => rfl | ⟨2, _⟩ => rfl | ⟨3, _⟩ => rfl | ⟨4, _⟩ => rfl | ⟨5, _⟩ => rfl

theorem v203_1 : val_main_v203 x0 x1 (ix6 1 w b h d e) = carried x0 x1 w b h d e 17 := by
  refine (concatenate_pair_apply_right (t := S2x2x4x8x128x128) (s₁ := S1x2x4x8x128x128) (s₂ := S1x2x4x8x128x128) 0 _ _ _ _
    rfl rfl (ix6 0 w b h d e) (fun c hc => off_axis w b h d e _ _ c hc) rfl).trans
    ((unit_at w b h d e (val_main_v178 x0 x1)).trans (s17_at x0 x1 w b h d e))

theorem v203_at (n : Fin 2) : val_main_v203 x0 x1 (ix6 n w b h d e) = carried x0 x1 w b h d e (16 + n.val) :=
  match n with
  | ⟨0, _⟩ => v203_0 x0 x1 w b h d e
  | ⟨1, _⟩ => v203_1 x0 x1 w b h d e

theorem v204_at (n : Fin 18) : val_main_v204 x0 x1 (ix6 n w b h d e) = carried x0 x1 w b h d e n.val := by
  by_cases hn : n.val < 16
  · refine (concatenate_pair_apply_left (t := S18x2x4x8x128x128) (s₁ := S16x2x4x8x128x128) (s₂ := S2x2x4x8x128x128) 0 _ _ _ _
      rfl (ix6 ⟨n.val, hn⟩ w b h d e) ?_).trans (v202_at x0 x1 w b h d e ⟨n.val, hn⟩)
    intro a
    match a with
    | ⟨0, _⟩ => rfl | ⟨1, _⟩ => rfl | ⟨2, _⟩ => rfl | ⟨3, _⟩ => rfl | ⟨4, _⟩ => rfl | ⟨5, _⟩ => rfl
  · have hn' : n.val - 16 < 2 := by omega
    refine (concatenate_pair_apply_right (t := S18x2x4x8x128x128) (s₁ := S16x2x4x8x128x128) (s₂ := S2x2x4x8x128x128) 0 _ _ _ _
      rfl rfl (ix6 ⟨n.val - 16, hn'⟩ w b h d e) (fun c hc => off_axis w b h d e _ _ c hc) ?_).trans
      ((v203_at x0 x1 w b h d e ⟨n.val - 16, hn'⟩).trans ?_)
    · show n.val - 16 + 16 = n.val
      omega
    · show carried x0 x1 w b h d e (16 + (n.val - 16)) = _
      rw [show 16 + (n.val - 16) = n.val by omega]

/-- The state before block `n`, as the reference reads it. -/
theorem v205_at (n : Fin 18) : val_main_v205 x0 x1 (ix6 n w b h d e) = carried x0 x1 w b h d e n.val := by
  refine (concatenate_pair_apply_right (t := S18x2x4x8x128x128) (s₁ := S0x2x4x8x128x128) (s₂ := S18x2x4x8x128x128) 0 _ _ _ _
    rfl rfl (ix6 n w b h d e) (fun c hc => off_axis w b h d e _ _ c hc) ?_).trans (v204_at x0 x1 w b h d e n)
  show n.val + 0 = n.val
  omega

end Cert.ReferenceIdeal.Ret
end
-- ==== Proof.Ret.RefRows.lean ====
/- The reference's rows: a block's own part and the carried one; the two directions added, the second turned back. -/
module

public import proofs.«01_k».proof.Proof.Ret.RefStack

@[expose] public section
set_option maxRecDepth 16384
noncomputable section
namespace Cert.ReferenceIdeal.Ret

open Idealize.ShloMosaic
open Cert.ReferenceIdeal Cert.ReferenceIdeal.Gen Cert.ReferenceIdeal.Read Cert.Ret
open Cert.KernelIdeal.Ret (row ord part sc blocks scaled turn)

variable (x0 : X0) (x1 : X1)
variable (w : Fin 2) (b : Fin 4) (h : Fin 8) (n : Fin 18) (r e : Fin 128)

theorem v209_at : val_main_v209 x0 x1 (ix6 w b h n r e)
    = ∑ d : Fin 128, (dirQ x0 w b h n r d * qDec (lg x1 w h) (pos r)) * carried x0 x1 w b h d e n.val := by
  rw [val_main_v209_apply]
  refine Finset.sum_congr rfl fun d _ => ?_
  have e1 : lidx_main_v209 (ix6 w b h n r e) d = ix6 w b h n r d := funext fun a => match a with
    | ⟨0, _⟩ => rfl | ⟨1, _⟩ => rfl | ⟨2, _⟩ => rfl | ⟨3, _⟩ => rfl | ⟨4, _⟩ => rfl | ⟨5, _⟩ => rfl
  have e2 : ridx_main_v209 (ix6 w b h n r e) d = ix6 n w b h d e := funext fun a => match a with
    | ⟨0, _⟩ => rfl | ⟨1, _⟩ => rfl | ⟨2, _⟩ => rfl | ⟨3, _⟩ => rfl | ⟨4, _⟩ => rfl | ⟨5, _⟩ => rfl
  rw [e1, e2, v208_at, v205_at]

/-- One direction's rows. -/
def dirRows (w : Fin 2) (b : Fin 4) (h : Fin 8) : Rows := rows (lg x1 w h) (dirQ x0 w b h) (dirK x0 w b h) (dirV x0 w b h)

theorem v210_at : val_main_v210 x0 x1 (ix6 w b h n r e) = dirRows x0 x1 w b h n r e := by
  rw [val_main_v210_apply, v65_at, v209_at]
  rfl

theorem v211_at : val_main_v211 x0 x1 (ix5 w b h (row n r) e) = dirRows x0 x1 w b h n r e := by
  refine (shapeCast_apply _ _ _ (ix6 w b h n r e) ?_).trans (v210_at x0 x1 w b h n r e)
  rw [rowMajor_val6 _ 9437184 2359296 294912 16384 128 rfl rfl rfl rfl rfl, Shape.rowMajor_val_five]
  show (_ : ℕ) = _
  simp [row]
  omega

theorem v213_at : val_main_v213 x0 x1 (ix4 b h (row n r) e) = dirRows x0 x1 0 b h n r e := by
  rw [val_main_v213_apply, val_main_v212_apply, ← v211_at]
  refine congrArg (val_main_v211 x0 x1) (funext fun a => Fin.ext ?_)
  match a with
  | ⟨0, _⟩ => simp
  | ⟨1, _⟩ => simp <;> omega
  | ⟨2, _⟩ => simp <;> omega
  | ⟨3, _⟩ => simp <;> omega
  | ⟨4, _⟩ => simp <;> omega

theorem v215_at : val_main_v215 x0 x1 (ix4 b h (row n r) e) = dirRows x0 x1 1 b h n r e := by
  rw [val_main_v215_apply, val_main_v214_apply, ← v211_at]
  refine congrArg (val_main_v211 x0 x1) (funext fun a => Fin.ext ?_)
  match a with
  | ⟨0, _⟩ => simp
  | ⟨1, _⟩ => simp <;> omega
  | ⟨2, _⟩ => simp <;> omega
  | ⟨3, _⟩ => simp <;> omega
  | ⟨4, _⟩ => simp <;> omega

theorem v220_at : val_main_v220 x0 x1 (ix4 b h (row n r) e) = dirRows x0 x1 1 b h (ord n) r.rev e := by
  refine Eq.trans (b := val_main_v215 x0 x1 (ix4 b h (mirror (row n r)) e)) (flipped_at _ b h (row n r) e) ?_
  rw [mirror_row, v215_at]

theorem v221_at : val_main_v221 x0 x1 (ix4 b h (row n r) e)
    = dirRows x0 x1 0 b h n r e + dirRows x0 x1 1 b h (ord n) r.rev e := by
  rw [val_main_v221_apply, v213_at, v220_at]
  rfl

end Cert.ReferenceIdeal.Ret
end
-- ==== Proof.Ret.RefOut.lean ====
/- The reference's last stage: the rows normed over the head's columns, gated, and put where the kernel puts them. -/
module

public import proofs.«01_k».proof.Proof.Ret.RefRows

@[expose] public section
set_option maxRecDepth 16384
noncomputable section
namespace Cert.ReferenceIdeal.Ret

open Idealize.ShloMosaic
open Cert.ReferenceIdeal Cert.ReferenceIdeal.Gen Cert.ReferenceIdeal.Read Cert.Ret
open Cert.KernelIdeal.Ret (row ord part sc blocks scaled turn)

variable (x0 : X0) (x1 : X1) (b : Fin 4) (h : Fin 8) (t : Fin 2304) (e : Fin 128)

/-- A row of both directions. -/
def rowOfHead (e : Fin 128) : EReal := val_main_v221 x0 x1 (ix4 b h t e)

theorem v225_at : val_main_v225 x0 x1 (ix4 b h t 0) = mean (rowOfHead x0 x1 b h t) := by
  have e1 : idx_main_v223 (ix4 b h t 0) = ix3 b h t := funext fun a => match a with
    | ⟨0, _⟩ => rfl | ⟨1, _⟩ => rfl | ⟨2, _⟩ => rfl
  have e2 : ∀ k, idx_main_v222 (ix3 b h t) k = ix4 b h t k := fun k => funext fun a => match a with
    | ⟨0, _⟩ => rfl | ⟨1, _⟩ => rfl | ⟨2, _⟩ => rfl | ⟨3, _⟩ => rfl
  have s : val_main_v222 x0 x1 (ix3 b h t) = ∑ k : Fin 128, rowOfHead x0 x1 b h t k := by
    rw [val_main_v222_apply]
    refine Eq.trans (congrArg (fun z : EReal => z + _) Ideal.ofBits_zero_f32) ((zero_add _).trans (Finset.sum_congr rfl fun k _ => ?_))
    rw [e2]; rfl
  rw [val_main_v225_apply, val_main_v223_apply, e1, s, val_main_v224_apply]
  rfl

theorem v227_at : val_main_v227 x0 x1 (ix4 b h t e) = rowOfHead x0 x1 b h t e - mean (rowOfHead x0 x1 b h t) := by
  have e1 : idx_main_v226 (ix4 b h t e) = ix4 b h t 0 := funext fun a => match a with
    | ⟨0, _⟩ => rfl | ⟨1, _⟩ => rfl | ⟨2, _⟩ => rfl | ⟨3, _⟩ => rfl
  rw [val_main_v227_apply, val_main_v226_apply, e1, v225_at]
  rfl

theorem v234_at : val_main_v234 x0 x1 (ix4 b h t e) = rowOfHead x0 x1 b h t e - mean (rowOfHead x0 x1 b h t) := by
  have e1 : idx_main_v233 (ix4 b h t e) = ix4 b h t 0 := funext fun a => match a with
    | ⟨0, _⟩ => rfl | ⟨1, _⟩ => rfl | ⟨2, _⟩ => rfl | ⟨3, _⟩ => rfl
  rw [val_main_v234_apply, val_main_v233_apply, e1, v225_at]
  rfl

theorem v232_at : val_main_v232 x0 x1 (ix4 b h t 0) = var (rowOfHead x0 x1 b h t) := by
  have e1 : idx_main_v230 (ix4 b h t 0) = ix3 b h t := funext fun a => match a with
    | ⟨0, _⟩ => rfl | ⟨1, _⟩ => rfl | ⟨2, _⟩ => rfl
  have e2 : ∀ k, idx_main_v229 (ix3 b h t) k = ix4 b h t k := fun k => funext fun a => match a with
    | ⟨0, _⟩ => rfl | ⟨1, _⟩ => rfl | ⟨2, _⟩ => rfl | ⟨3, _⟩ => rfl
  have s : val_main_v229 x0 x1 (ix3 b h t) = ∑ k : Fin 128, (rowOfHead x0 x1 b h t k - mean (rowOfHead x0 x1 b h t))
      * (rowOfHead x0 x1 b h t k - mean (rowOfHead x0 x1 b h t)) := by
    rw [val_main_v229_apply]
    refine Eq.trans (congrArg (fun z : EReal => z + _) Ideal.ofBits_zero_f32) ((zero_add _).trans (Finset.sum_congr rfl fun k _ => ?_))
    rw [e2, val_main_v228_apply, v227_at]; rfl
  rw [val_main_v232_apply, val_main_v230_apply, e1, s, val_main_v231_apply]
  rfl

theorem v239_at : val_main_v239 x0 x1 (ix4 b h t e)
    = (rowOfHead x0 x1 b h t e - mean (rowOfHead x0 x1 b h t)) * Ideal.rsqrt (var (rowOfHead x0 x1 b h t) + eps) := by
  have e1 : idx_main_v238 (ix4 b h t e) = ix4 b h t 0 := funext fun a => match a with
    | ⟨0, _⟩ => rfl | ⟨1, _⟩ => rfl | ⟨2, _⟩ => rfl | ⟨3, _⟩ => rfl
  rw [val_main_v239_apply, v234_at, val_main_v238_apply, e1, val_main_v237_apply, val_main_v236_apply, v232_at, val_main_v235_apply]
  rfl

/-- The position of an entry in a batch's row of all heads, and in the result. -/
abbrev col (h : Fin 8) (e : Fin 128) : Fin 1024 := ⟨h.val * 128 + e.val, by omega⟩
abbrev line (b : Fin 4) (t : Fin 2304) : Fin 9216 := ⟨b.val * 2304 + t.val, by omega⟩

theorem v241_at : val_main_v241 x0 x1 (ix3 b t (col h e)) = val_main_v239 x0 x1 (ix4 b h t e) := by
  rw [val_main_v241_apply, val_main_v240_apply]
  refine congrArg (val_main_v239 x0 x1) (funext fun a => Fin.ext ?_)
  match a with
  | ⟨0, _⟩ => simp <;> omega
  | ⟨1, _⟩ => simp <;> omega
  | ⟨2, _⟩ => simp <;> omega
  | ⟨3, _⟩ => simp <;> omega

theorem v5_at : val_main_v5 x0 (ix3 b t (col h e)) = part x0 3 b h (ix2 t e) := by
  rw [val_main_v5_apply, val_main_v0_apply]
  refine congrArg x0 (funext fun a => Fin.ext ?_)
  match a with
  | ⟨0, _⟩ => simp <;> omega
  | ⟨1, _⟩ => simp <;> omega

theorem sigmoid_at (i : S4x2304x1024.Idx) : val_main_call10_v5 x0 i = Ideal.logistic (val_main_v5 x0 i) := by
  rw [val_main_call10_v5_apply, val_main_call10_v4_apply, val_main_call10_v3_apply, val_main_call10_v2_apply]
  show Ideal.div (Ideal.ofBits .f32 0x3F800000#32) (Ideal.ofBits .f32 0x3F800000#32 + Ideal.exp (-(val_main_v5 x0 i : EReal))) = _
  rw [Ideal.ofBits_one_f32]; rfl

theorem v245_at : val_main_v245 x0 x1 (ix2 (line b t) (col h e))
    = gated (rowOfHead x0 x1 b h t) (part x0 3 b h (ix2 t e)) e := by
  have e1 : idx_main_v244 (ix2 (line b t) (col h e)) = ix3 b t (col h e) := funext fun a => Fin.ext (by
    match a with
    | ⟨0, _⟩ => simp <;> omega
    | ⟨1, _⟩ => simp <;> omega
    | ⟨2, _⟩ => simp <;> omega)
  rw [val_main_v245_apply, val_main_v244_apply, e1, val_main_v243_apply, v241_at, v239_at, val_main_v242_apply, sigmoid_at, v5_at]
  rfl

end Cert.ReferenceIdeal.Ret
end
-- ==== Proof.Ret.Same.lean ====
/- The kernel's array and the reference's are the same. -/
module

public import proofs.«01_k».proof.Proof.Ret.RefOut

@[expose] public section
set_option maxRecDepth 16384
noncomputable section
namespace Cert.Ret

open Idealize.ShloMosaic
open Cert.ReferenceIdeal.Ret (X0 X1 lg line col rowOfHead v245_at v221_at)
open Cert.KernelIdeal.Ret (row part outArr outVal outArr_at both_at pay2_at bothRows dec)

variable (x0 : X0) (x1 : X1)

/-- A row of both directions, as the kernel and as the reference have it. -/
theorem rows_same (b : Fin 4) (h : Fin 8) (n : Fin 18) (r e : Fin 128) :
    (bothRows (F := Ideal) (dec x1 0 h) (dec x1 1 h) (part x0 0 b h) (part x0 1 b h) (part x0 2 b h) (ix2 (row n r) e) : EReal)
      = rowOfHead x0 x1 b h (row n r) e :=
  (both_at (dec x1 0 h) (part x0 0 b h) (part x0 1 b h) (part x0 2 b h) (dec x1 1 h) n r e).trans
    (v221_at x0 x1 b h n r e).symm

theorem entry_same (b : Fin 4) (h : Fin 8) (n : Fin 18) (r e : Fin 128) :
    outArr x0 x1 (ix2 (line b (row n r)) (col h e))
      = Cert.ReferenceIdeal.Read.val_main_v245 x0 x1 (ix2 (line b (row n r)) (col h e)) := by
  rw [v245_at]
  refine (outArr_at x0 x1 b h (ix2 (row n r) e) (row n r).isLt e.isLt).trans ?_
  refine (pay2_at _ _ (row n r) e).trans ?_
  exact congrArg (fun y => gated y (part x0 3 b h (ix2 (row n r) e)) e) (funext fun e' => rows_same x0 x1 b h n r e')

theorem same : outArr x0 x1 = Cert.ReferenceIdeal.Read.val_main_v245 x0 x1 := by
  funext i
  have h0 : (i 0).val < 9216 := (i 0).isLt
  have h1 : (i 1).val < 1024 := (i 1).isLt
  have e : i = ix2 (line ⟨(i 0).val / 2304, by omega⟩ (row ⟨(i 0).val % 2304 / 128, by omega⟩ ⟨(i 0).val % 128, by omega⟩))
      (col ⟨(i 1).val / 128, by omega⟩ ⟨(i 1).val % 128, by omega⟩) := funext fun a => Fin.ext (by
    match a with
    | ⟨0, _⟩ => show (i 0).val = (i 0).val / 2304 * 2304 + (128 * ((i 0).val % 2304 / 128) + (i 0).val % 128); omega
    | ⟨1, _⟩ => show (i 1).val = (i 1).val / 128 * 128 + (i 1).val % 128; omega)
  rw [e]
  exact entry_same x0 x1 _ _ _ _ _

end Cert.Ret
end
-- ==== Proof.Ret.Twin.lean ====
/- The kernel, and the same kernel read over the extended reals, are one program: what is proved of the second at any
   arithmetic holds of the first. -/
module

public import proofs.«01_k».proof.Defs
public import proofs.«01_k».proof.Proof.Gen.Kernel
public import proofs.«01_k».proof.Proof.Ret.Run

@[expose] public section

noncomputable section

namespace Cert.Ret.Twin

open Idealize.ShloMosaic Idealize.ShloMosaic.TcCoe Idealize.SL.Sem

variable {F : FTy → Type} [FloatOps F]

attribute [local instance] Cert.Kernel.Gen.facts Cert.KernelIdeal.Gen.facts

/-- The two bodies. -/
theorem body : @Cert.Kernel.cc0_retention F _ _ = @Cert.KernelIdeal.cc0_retention F _ _ := by
  with_unfolding_all rfl

/-- The two tables of bodies. -/
theorem table : Cert.Kernel.defs₀ (F := F) = Cert.KernelIdeal.defs₀ := by
  unfold Cert.Kernel.defs₀ Cert.KernelIdeal.defs₀
  refine congrArg (Defs.onTc (τ := Cert.KernelIdeal.τ)) (funext fun l => funext fun a => ?_)
  match l, a with
  | 0, (t, s) => with_unfolding_all rfl

/-- The kernel's arguments end unchanged and its counters at zero. -/
theorem frame (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0)
        ∧ r.2.mem ((c.tc : Thread Cert.Kernel.nD Cert.Kernel.τ).loc Cert.Kernel.main_arg1)
          = m ((c.tc : Thread Cert.Kernel.nD Cert.Kernel.τ).loc Cert.Kernel.main_arg1))
        ∧ r.2.sem = fun _ => 0) := by
  have h := Cert.KernelIdeal.Ret.frame_claim (F := F) m ρ
  unfold Cert.KernelIdeal.defs at h
  rw [← table] at h
  with_unfolding_all exact h

end Cert.Ret.Twin

end
-- ==== Proof.Mm.Tiles.lean ====
/- A product of two matrices cut into tiles: a tile of the result is the product of a band of rows of the one by a band of
   columns of the other, and the tiles cover the result. Stated over coordinates alone, for every launch that tiles a
   product. -/
module

public import Idealize.ShloMosaic.Lib.MatmulPlain
public import Idealize.ShloMosaic.Lib.Pipeline.Value
public import Idealize.ShloMosaic.Lib.Pipeline.ValueKit

@[expose] public section
noncomputable section
namespace Cert.Mm

open Idealize.ShloMosaic hiding ix2
open Idealize.ShloMosaic.ValueIdx

/-- Row `r` of `A` by column `c` of `B`, at an index of the result. -/
def prod {M K N : ℕ} (A : Shape.Idx ⟨2, ![M, K]⟩ → EReal) (B : Shape.Idx ⟨2, ![K, N]⟩ → EReal) (i : Shape.Idx ⟨2, ![M, N]⟩) : EReal :=
  ∑ k : Fin K, A (ix2 (i 0 : Fin M) k) * B (ix2 k (i 1 : Fin N))

/-- An index of a matrix is its two coordinates. -/
theorem idx_ext {M N : ℕ} (i j : Shape.Idx ⟨2, ![M, N]⟩) (h0 : (i 0).val = (j 0).val) (h1 : (i 1).val = (j 1).val) : i = j :=
  funext fun a => Fin.ext (match a with
    | ⟨0, _⟩ => h0
    | ⟨1, _⟩ => h1)

/-- The matrix unit's product, from zero. -/
theorem mm_at {M K N : ℕ} {φ ψ : FTy} (A : FVec Ideal ⟨2, ![M, K]⟩ φ) (B : FVec Ideal ⟨2, ![K, N]⟩ ψ) (i : Shape.Idx ⟨2, ![M, N]⟩) :
    (matmul (DotDims.plain M K N) none A B (constant ⟨2, ![M, N]⟩ .f32 0x00000000#32) i : EReal) = prod A B i := by
  have e : i = ix2 (i 0 : Fin M) (i 1 : Fin N) := idx_ext _ _ rfl rfl
  rw [e]
  refine (Ideal.matmul_plain_apply none A B _ _ _).trans ?_
  exact (congrArg (fun z : EReal => z + _) Ideal.ofBits_zero_f32).trans (zero_add _)

/-- Where a tile lies: `e` sends the coordinates of tile `(p, q)` of height `tm` and width `tn` to the whole's. -/
structure At {m n M N : ℕ} (e : Shape.Idx ⟨2, ![m, n]⟩ → Shape.Idx ⟨2, ![M, N]⟩) (p q : ℕ) : Prop where
  row : ∀ j, (e j 0).val = p * m + 1 * (j 0).val
  col : ∀ j, (e j 1).val = q * n + 1 * (j 1).val

/-- A tile of the product from the band of rows and the band of columns that meet in it. -/
theorem prod_tile {M K N m n : ℕ} (A : Shape.Idx ⟨2, ![M, K]⟩ → EReal) (B : Shape.Idx ⟨2, ![K, N]⟩ → EReal)
    {eA : Shape.Idx ⟨2, ![m, K]⟩ → Shape.Idx ⟨2, ![M, K]⟩} {eB : Shape.Idx ⟨2, ![K, n]⟩ → Shape.Idx ⟨2, ![K, N]⟩}
    {eC : Shape.Idx ⟨2, ![m, n]⟩ → Shape.Idx ⟨2, ![M, N]⟩} {a a' b b' p q : ℕ} (hA : At eA a a') (hB : At eB b b') (hC : At eC p q)
    (h : a = p ∧ a' = 0 ∧ b = 0 ∧ b' = q) (j : Shape.Idx ⟨2, ![m, n]⟩) : prod (A ∘ eA) (B ∘ eB) j = prod A B (eC j) := by
  obtain ⟨rfl, rfl, rfl, rfl⟩ := h
  refine Finset.sum_congr rfl fun k _ => ?_
  refine congrArg₂ (fun x y : EReal => x * y) (congrArg A (idx_ext _ _ ?_ ?_)) (congrArg B (idx_ext _ _ ?_ ?_))
  · exact (hA.row _).trans (hC.row j).symm
  · refine (hA.col _).trans ?_
    show 0 * K + 1 * k.val = k.val
    omega
  · refine (hB.row _).trans ?_
    show 0 * K + 1 * k.val = k.val
    omega
  · exact (hB.col _).trans (hC.col j).symm

theorem At.to {m n M N : ℕ} {e : Shape.Idx ⟨2, ![m, n]⟩ → Shape.Idx ⟨2, ![M, N]⟩} {p q p' q' : ℕ} (h : At e p q) (hp : p = p') (hq : q = q') :
    At e p' q' := hp ▸ hq ▸ h

/-- A tile of the product from `S` blocks of the rows and as many of the columns, the contracted axis being cut too. -/
theorem prod_bands {M K N m n k : ℕ} (S : ℕ) (hK : K = S * k) (A : Shape.Idx ⟨2, ![M, K]⟩ → EReal) (B : Shape.Idx ⟨2, ![K, N]⟩ → EReal)
    {eA : Fin S → Shape.Idx ⟨2, ![m, k]⟩ → Shape.Idx ⟨2, ![M, K]⟩} {eB : Fin S → Shape.Idx ⟨2, ![k, n]⟩ → Shape.Idx ⟨2, ![K, N]⟩}
    {eC : Shape.Idx ⟨2, ![m, n]⟩ → Shape.Idx ⟨2, ![M, N]⟩} {p q : ℕ} (hA : ∀ s, At (eA s) p s.val) (hB : ∀ s, At (eB s) s.val q) (hC : At eC p q)
    (j : Shape.Idx ⟨2, ![m, n]⟩) : ∑ s, prod (A ∘ eA s) (B ∘ eB s) j = prod A B (eC j) := by
  unfold prod
  refine Eq.trans ?_ (Fin.sum_mul_add_fin S k (fun l : Fin K => A (ix2 (eC j 0 : Fin M) l) * B (ix2 l (eC j 1 : Fin N))) hK)
  refine Finset.sum_congr rfl fun s _ => Finset.sum_congr rfl fun l _ => ?_
  refine congrArg₂ (fun x y : EReal => x * y) (congrArg A (idx_ext _ _ ?_ ?_)) (congrArg B (idx_ext _ _ ?_ ?_))
  · exact ((hA s).row _).trans (hC.row j).symm
  · refine ((hA s).col _).trans ?_
    show s.val * k + 1 * l.val = s.val * k + l.val
    omega
  · refine ((hB s).row _).trans ?_
    show s.val * k + 1 * l.val = s.val * k + l.val
    omega
  · exact ((hB s).col _).trans (hC.col j).symm

/-- The columns of a matrix from `o` on. -/
def shift {M N L : ℕ} (o : ℕ) (h : o + N ≤ L) (i : Shape.Idx ⟨2, ![M, N]⟩) : Shape.Idx ⟨2, ![M, L]⟩ :=
  ix2 (i 0 : Fin M) (⟨o + (i 1).val, lt_of_lt_of_le (Nat.add_lt_add_left (show (i 1).val < N from (i 1).isLt) o) h⟩ : Fin L)

/-- A band of columns of a product is the product by that band. -/
theorem prod_shift {M K N L : ℕ} (o : ℕ) (h : o + N ≤ L) (A : Shape.Idx ⟨2, ![M, K]⟩ → EReal) (B : Shape.Idx ⟨2, ![K, L]⟩ → EReal)
    (i : Shape.Idx ⟨2, ![M, N]⟩) : prod A (B ∘ shift o h) i = prod A B (shift o h i) := rfl

theorem slice_eq {K N L : ℕ} {φ : FTy} (o : ℕ) (h : o + N ≤ L) (B : FVec Ideal ⟨2, ![K, L]⟩ φ) (hs) :
    extractStridedSlice ⟨2, ![K, N]⟩ ![0, o] B hs = fun i => B (shift o h i) :=
  funext fun i => extractStridedSlice_apply _ _ _ i (shift o h i) fun a => match a with
    | ⟨0, _⟩ => (Nat.zero_add _).symm
    | ⟨1, _⟩ => rfl

/-- Tiles at every place of a grid of `P` by `Q` leave no index out. -/
theorem covered {M N m n P Q T : ℕ} (hM : M ≤ P * m) (hN : N ≤ Q * n) (e : Fin T → Shape.Idx ⟨2, ![m, n]⟩ → Shape.Idx ⟨2, ![M, N]⟩)
    (p q : Fin T → ℕ) (h : ∀ t, At (e t) (p t) (q t)) (point : ∀ (a : Fin P) (b : Fin Q), ∃ t, p t = a.val ∧ q t = b.val)
    (i : Shape.Idx ⟨2, ![M, N]⟩) : ∃ t j, e t j = i := by
  have h0 : (i 0).val < M := (i 0).isLt
  have h1 : (i 1).val < N := (i 1).isLt
  have hm : 0 < m := Nat.pos_of_ne_zero fun z => by subst z; omega
  have hn : 0 < n := Nat.pos_of_ne_zero fun z => by subst z; omega
  obtain ⟨t, ep, eq⟩ := point ⟨(i 0).val / m, (Nat.div_lt_iff_lt_mul hm).mpr (lt_of_lt_of_le h0 hM)⟩
    ⟨(i 1).val / n, (Nat.div_lt_iff_lt_mul hn).mpr (lt_of_lt_of_le h1 hN)⟩
  refine ⟨t, ix2 (⟨(i 0).val % m, Nat.mod_lt _ hm⟩ : Fin m) (⟨(i 1).val % n, Nat.mod_lt _ hn⟩ : Fin n), idx_ext _ _ ?_ ?_⟩
  · refine ((h t).row _).trans ?_
    rw [ep]
    show (i 0).val / m * m + 1 * ((i 0).val % m) = _
    rw [one_mul]; exact Nat.div_add_mod' _ _
  · refine ((h t).col _).trans ?_
    rw [eq]
    show (i 1).val / n * n + 1 * ((i 1).val % n) = _
    rw [one_mul]; exact Nat.div_add_mod' _ _

end Cert.Mm
end
-- ==== Proof.Mm.InRet.lean ====
/- The columns of the input projection that the retention reads: those columns of the whole product, tile by tile. -/
module

public import proofs.«01_k».proof.Defs
public import proofs.«01_k».proof.Proof.Gen.InRetIdeal.Value
public import proofs.«01_k».proof.Proof.Gen.InRetRefIdeal.Read
public import proofs.«01_k».proof.Proof.Mm.Tiles
public import Idealize.ShloMosaic.Lib.Quiescent
public import Idealize.ShloMosaic.Adequacy
public import Idealize.ShloMosaic.Init

@[expose] public section
set_option maxRecDepth 16384
noncomputable section
namespace Cert.InRetIdeal.Mm

open Idealize.ShloMosaic Idealize.ShloMosaic.TcCoe Idealize.SL.Sem
open Cert.InRetIdeal Cert.InRetIdeal.Gen Cert.Mm

variable (m : (ℓ : Loc nD τ sig) → Buf (Elt Ideal) ℓ)

/-- The result. -/
def res (X : Vec Ideal S9216x2048 .bf16) (W : Vec Ideal S2048x15232 .f32) : Vec Ideal S9216x4096 .f32 := fun i =>
  prod (M := 9216) (K := 2048) (N := 15232) X W (shift (N := 4096) 0 (by decide) i)

theorem out_at (a : Vec Ideal S1152x2048 .bf16) (b : Vec Ideal S2048x1024 .bf16) (j : S1152x1024.Idx) :
    (out0_2 a b j : EReal) = prod (M := 1152) (K := 2048) (N := 1024) a b j := by
  have hz : (![0, 0] : Fin 2 → ℕ) = fun _ => 0 := by decide
  have e : shapeCast S2048x1024 b shapeCasts_S2048x1024_S2048x1024 = b := shapeCast_self ..
  unfold out0_2 k0_pay1
  rw [View.canon_unit_zero hz, View.ld_unit_zero hz, View.ld_unit_zero hz, e]
  exact mm_at a b j

/-- The weights reach the launch narrowed and cut. -/
theorem weights (c : Dev nD) : V m c main_v1 = fun i => (m ((c : Thread nD τ).loc main_arg1) (shift (N := 4096) (L := 15232) 0 (by decide) i) : EReal) := by
  simp only [V, hostOps0]
  after_results
  exact slice_eq ..

theorem place : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)
theorem point : ∀ (a : Fin 8) (b : Fin 4), ∃ t : Fin cfg0.N, win0_2.index t (0 : Fin 2) = a.val ∧ win0_2.index t (1 : Fin 2) = b.val :=
  (by decide +kernel : ∀ (a : Fin 8) (b : Fin 4), ∃ t : Fin grid0.N, _)

theorem at_2 (t : Fin cfg0.N) : At (m := 1152) (n := 1024) (M := 9216) (N := 4096) ((cfg0.win 2).blk t).view.emb (win0_2.index t (0 : Fin 2)) (win0_2.index t (1 : Fin 2)) :=
  ⟨fun _ => rfl, fun _ => rfl⟩

theorem final (c : Dev nD) : (dats m 0 c).arrAt 2 cfg0.N = res (m ((c : Thread nD τ).loc main_arg0)) (m ((c : Thread nD τ).loc main_arg1)) := by
  refine (dats m 0 c).arrAt_eq_of_cover 2 _ (fun t _ => ?_) (fun i => ?_)
  · refine (Value.flushed2 m c t).trans (funext fun j => ?_)
    show (out0_2 (iblk m c 0 t) (iblk m c 1 t) j : EReal) = prod (M := 9216) (K := 2048) (N := 4096) (m ((c : Thread nD τ).loc main_arg0))
      (m ((c : Thread nD τ).loc main_arg1) ∘ shift (L := 15232) 0 (by decide)) (((cfg0.win 2).blk t).view.emb j)
    refine (out_at _ _ j).trans (Eq.trans ?_ (prod_tile _ _ (eA := ((cfg0.win 0).blk t).view.emb)
      (eB := ((cfg0.win 1).blk t).view.emb) ⟨fun _ => rfl, fun _ => rfl⟩ ⟨fun _ => rfl, fun _ => rfl⟩ (at_2 t) (place t) j))
    refine congrArg₂ (fun x y => prod (M := 1152) (K := 2048) (N := 1024) x y j) ?_ ?_
    · exact funext fun i => congrFun (V_main_arg0 m c) (((cfg0.win 0).blk t).view.emb i)
    · exact funext fun i => congrFun (weights m c) (((cfg0.win 1).blk t).view.emb i)
  · obtain ⟨t, j, e⟩ := covered (P := 8) (Q := 4) (by decide) (by decide) (fun t => ((cfg0.win 2).blk t).view.emb) _ _ at_2 point i
    exact ⟨t, flush0_2 t, e ▸ ((cfg0.win 2).blk t).view.emb_mem_set j⟩

theorem ref_eq (X : Vec Ideal S9216x2048 .bf16) (W : Vec Ideal S2048x15232 .f32) : Cert.InRetRefIdeal.Read.val_main_v2 (F := Ideal) X W = res X W := by
  funext i
  refine (Cert.InRetRefIdeal.Read.val_main_v2_apply X W i).trans ((Cert.InRetRefIdeal.Read.val_main_v1_apply X W _).trans ?_)
  unfold res prod
  refine Finset.sum_congr rfl fun k _ => ?_
  refine congrArg₂ (fun x y : EReal => x * y) (congrArg X (idx_ext _ _ rfl rfl)) (congrArg W (idx_ext _ _ rfl ?_))
  exact (show (i 1).val = 0 + (i 1).val by omega)

theorem reference_frame : Cert.quiescent_InRetRefIdeal (hInRetRefIdeal := Cert.InRetRefIdeal.Gen.facts) :=
  fun m ρ _ => (θ_run Cert.InRetRefIdeal.defs _ _).mono
    (fun r h => ⟨fun c => (h c).2, sem_eq_zero_of_no_sems (by decide) r.2⟩) (Cert.InRetRefIdeal.Value.run (F := Ideal) m ρ)

theorem results : Cert.algebraic_InRetIdeal_InRetRefIdeal (hInRetIdeal := Cert.InRetIdeal.Gen.facts) (hInRetRefIdeal := Cert.InRetRefIdeal.Gen.facts) := by
  intro m g m' g' _ hargs
  refine ⟨_, (θ_run defs _ _).mono (fun r h c => ⟨(h c).1.trans (final m c), (h c).2⟩) (Value.run_blocks m g), ?_⟩
  refine (θ_run Cert.InRetRefIdeal.defs _ _).mono (fun r h c => ⟨(h c).1.trans ?_, (h c).2⟩) (Cert.InRetRefIdeal.Value.run (F := Ideal) m' g')
  exact (Cert.InRetRefIdeal.Read.val_main_v2_eq _ _).trans ((ref_eq _ _).trans (congrArg₂ res (hargs c).1 (hargs c).2))

end Cert.InRetIdeal.Mm
end
-- ==== Proof.Mm.InSwa.lean ====
/- The columns of the input projection that the sliding-window attention reads: those columns of the whole product, tile by tile. -/
module

public import proofs.«01_k».proof.Defs
public import proofs.«01_k».proof.Proof.Gen.InSwaIdeal.Value
public import proofs.«01_k».proof.Proof.Gen.InSwaRefIdeal.Read
public import proofs.«01_k».proof.Proof.Mm.Tiles
public import Idealize.ShloMosaic.Lib.Quiescent
public import Idealize.ShloMosaic.Adequacy
public import Idealize.ShloMosaic.Init

@[expose] public section
set_option maxRecDepth 16384
noncomputable section
namespace Cert.InSwaIdeal.Mm

open Idealize.ShloMosaic Idealize.ShloMosaic.TcCoe Idealize.SL.Sem
open Cert.InSwaIdeal Cert.InSwaIdeal.Gen Cert.Mm

variable (m : (ℓ : Loc nD τ sig) → Buf (Elt Ideal) ℓ)

/-- The result. -/
def res (X : Vec Ideal S9216x2048 .bf16) (W : Vec Ideal S2048x15232 .f32) : Vec Ideal S9216x1536 .f32 := fun i =>
  prod (M := 9216) (K := 2048) (N := 15232) X W (shift (N := 1536) 4096 (by decide) i)

theorem out_at (a : Vec Ideal S1152x2048 .bf16) (b : Vec Ideal S2048x768 .bf16) (j : S1152x768.Idx) :
    (out0_2 a b j : EReal) = prod (M := 1152) (K := 2048) (N := 768) a b j := by
  have hz : (![0, 0] : Fin 2 → ℕ) = fun _ => 0 := by decide
  have e : shapeCast S2048x768 b shapeCasts_S2048x768_S2048x768 = b := shapeCast_self ..
  unfold out0_2 k0_pay1
  rw [View.canon_unit_zero hz, View.ld_unit_zero hz, View.ld_unit_zero hz, e]
  exact mm_at a b j

/-- The weights reach the launch narrowed and cut. -/
theorem weights (c : Dev nD) : V m c main_v1 = fun i => (m ((c : Thread nD τ).loc main_arg1) (shift (N := 1536) (L := 15232) 4096 (by decide) i) : EReal) := by
  simp only [V, hostOps0]
  after_results
  exact slice_eq ..

theorem place : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)
theorem point : ∀ (a : Fin 8) (b : Fin 2), ∃ t : Fin cfg0.N, win0_2.index t (0 : Fin 2) = a.val ∧ win0_2.index t (1 : Fin 2) = b.val :=
  (by decide +kernel : ∀ (a : Fin 8) (b : Fin 2), ∃ t : Fin grid0.N, _)

theorem at_2 (t : Fin cfg0.N) : At (m := 1152) (n := 768) (M := 9216) (N := 1536) ((cfg0.win 2).blk t).view.emb (win0_2.index t (0 : Fin 2)) (win0_2.index t (1 : Fin 2)) :=
  ⟨fun _ => rfl, fun _ => rfl⟩

theorem final (c : Dev nD) : (dats m 0 c).arrAt 2 cfg0.N = res (m ((c : Thread nD τ).loc main_arg0)) (m ((c : Thread nD τ).loc main_arg1)) := by
  refine (dats m 0 c).arrAt_eq_of_cover 2 _ (fun t _ => ?_) (fun i => ?_)
  · refine (Value.flushed2 m c t).trans (funext fun j => ?_)
    show (out0_2 (iblk m c 0 t) (iblk m c 1 t) j : EReal) = prod (M := 9216) (K := 2048) (N := 1536) (m ((c : Thread nD τ).loc main_arg0))
      (m ((c : Thread nD τ).loc main_arg1) ∘ shift (L := 15232) 4096 (by decide)) (((cfg0.win 2).blk t).view.emb j)
    refine (out_at _ _ j).trans (Eq.trans ?_ (prod_tile _ _ (eA := ((cfg0.win 0).blk t).view.emb)
      (eB := ((cfg0.win 1).blk t).view.emb) ⟨fun _ => rfl, fun _ => rfl⟩ ⟨fun _ => rfl, fun _ => rfl⟩ (at_2 t) (place t) j))
    refine congrArg₂ (fun x y => prod (M := 1152) (K := 2048) (N := 768) x y j) ?_ ?_
    · exact funext fun i => congrFun (V_main_arg0 m c) (((cfg0.win 0).blk t).view.emb i)
    · exact funext fun i => congrFun (weights m c) (((cfg0.win 1).blk t).view.emb i)
  · obtain ⟨t, j, e⟩ := covered (P := 8) (Q := 2) (by decide) (by decide) (fun t => ((cfg0.win 2).blk t).view.emb) _ _ at_2 point i
    exact ⟨t, flush0_2 t, e ▸ ((cfg0.win 2).blk t).view.emb_mem_set j⟩

theorem ref_eq (X : Vec Ideal S9216x2048 .bf16) (W : Vec Ideal S2048x15232 .f32) : Cert.InSwaRefIdeal.Read.val_main_v2 (F := Ideal) X W = res X W := by
  funext i
  refine (Cert.InSwaRefIdeal.Read.val_main_v2_apply X W i).trans ((Cert.InSwaRefIdeal.Read.val_main_v1_apply X W _).trans ?_)
  unfold res prod
  refine Finset.sum_congr rfl fun k _ => ?_
  refine congrArg₂ (fun x y : EReal => x * y) (congrArg X (idx_ext _ _ rfl rfl)) (congrArg W (idx_ext _ _ rfl ?_))
  exact (show 4096 + (i 1).val = 4096 + (i 1).val from rfl)

theorem reference_frame : Cert.quiescent_InSwaRefIdeal (hInSwaRefIdeal := Cert.InSwaRefIdeal.Gen.facts) :=
  fun m ρ _ => (θ_run Cert.InSwaRefIdeal.defs _ _).mono
    (fun r h => ⟨fun c => (h c).2, sem_eq_zero_of_no_sems (by decide) r.2⟩) (Cert.InSwaRefIdeal.Value.run (F := Ideal) m ρ)

theorem results : Cert.algebraic_InSwaIdeal_InSwaRefIdeal (hInSwaIdeal := Cert.InSwaIdeal.Gen.facts) (hInSwaRefIdeal := Cert.InSwaRefIdeal.Gen.facts) := by
  intro m g m' g' _ hargs
  refine ⟨_, (θ_run defs _ _).mono (fun r h c => ⟨(h c).1.trans (final m c), (h c).2⟩) (Value.run_blocks m g), ?_⟩
  refine (θ_run Cert.InSwaRefIdeal.defs _ _).mono (fun r h c => ⟨(h c).1.trans ?_, (h c).2⟩) (Cert.InSwaRefIdeal.Value.run (F := Ideal) m' g')
  exact (Cert.InSwaRefIdeal.Read.val_main_v2_eq _ _).trans ((ref_eq _ _).trans (congrArg₂ res (hargs c).1 (hargs c).2))

end Cert.InSwaIdeal.Mm
end
-- ==== Proof.Mm.InRkv.lean ====
/- The columns of the input projection that the recurrence reads as its r, k and v: those columns of the whole product, tile by tile. -/
module

public import proofs.«01_k».proof.Defs
public import proofs.«01_k».proof.Proof.Gen.InRkvIdeal.Value
public import proofs.«01_k».proof.Proof.Gen.InRkvRefIdeal.Read
public import proofs.«01_k».proof.Proof.Mm.Tiles
public import Idealize.ShloMosaic.Lib.Quiescent
public import Idealize.ShloMosaic.Adequacy
public import Idealize.ShloMosaic.Init

@[expose] public section
set_option maxRecDepth 16384
noncomputable section
namespace Cert.InRkvIdeal.Mm

open Idealize.ShloMosaic Idealize.ShloMosaic.TcCoe Idealize.SL.Sem
open Cert.InRkvIdeal Cert.InRkvIdeal.Gen Cert.Mm

variable (m : (ℓ : Loc nD τ sig) → Buf (Elt Ideal) ℓ)

/-- The result. -/
def res (X : Vec Ideal S9216x2048 .bf16) (W : Vec Ideal S2048x15232 .f32) : Vec Ideal S9216x3072 .f32 := fun i =>
  prod (M := 9216) (K := 2048) (N := 15232) X W (shift (N := 3072) 5632 (by decide) i)

theorem out_at (a : Vec Ideal S1152x2048 .bf16) (b : Vec Ideal S2048x1024 .bf16) (j : S1152x1024.Idx) :
    (out0_2 a b j : EReal) = prod (M := 1152) (K := 2048) (N := 1024) a b j := by
  have hz : (![0, 0] : Fin 2 → ℕ) = fun _ => 0 := by decide
  have e : shapeCast S2048x1024 b shapeCasts_S2048x1024_S2048x1024 = b := shapeCast_self ..
  unfold out0_2 k0_pay1
  rw [View.canon_unit_zero hz, View.ld_unit_zero hz, View.ld_unit_zero hz, e]
  exact mm_at a b j

/-- The weights reach the launch narrowed and cut. -/
theorem weights (c : Dev nD) : V m c main_v1 = fun i => (m ((c : Thread nD τ).loc main_arg1) (shift (N := 3072) (L := 15232) 5632 (by decide) i) : EReal) := by
  simp only [V, hostOps0]
  after_results
  exact slice_eq ..

theorem place : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)
theorem point : ∀ (a : Fin 8) (b : Fin 3), ∃ t : Fin cfg0.N, win0_2.index t (0 : Fin 2) = a.val ∧ win0_2.index t (1 : Fin 2) = b.val :=
  (by decide +kernel : ∀ (a : Fin 8) (b : Fin 3), ∃ t : Fin grid0.N, _)

theorem at_2 (t : Fin cfg0.N) : At (m := 1152) (n := 1024) (M := 9216) (N := 3072) ((cfg0.win 2).blk t).view.emb (win0_2.index t (0 : Fin 2)) (win0_2.index t (1 : Fin 2)) :=
  ⟨fun _ => rfl, fun _ => rfl⟩

theorem final (c : Dev nD) : (dats m 0 c).arrAt 2 cfg0.N = res (m ((c : Thread nD τ).loc main_arg0)) (m ((c : Thread nD τ).loc main_arg1)) := by
  refine (dats m 0 c).arrAt_eq_of_cover 2 _ (fun t _ => ?_) (fun i => ?_)
  · refine (Value.flushed2 m c t).trans (funext fun j => ?_)
    show (out0_2 (iblk m c 0 t) (iblk m c 1 t) j : EReal) = prod (M := 9216) (K := 2048) (N := 3072) (m ((c : Thread nD τ).loc main_arg0))
      (m ((c : Thread nD τ).loc main_arg1) ∘ shift (L := 15232) 5632 (by decide)) (((cfg0.win 2).blk t).view.emb j)
    refine (out_at _ _ j).trans (Eq.trans ?_ (prod_tile _ _ (eA := ((cfg0.win 0).blk t).view.emb)
      (eB := ((cfg0.win 1).blk t).view.emb) ⟨fun _ => rfl, fun _ => rfl⟩ ⟨fun _ => rfl, fun _ => rfl⟩ (at_2 t) (place t) j))
    refine congrArg₂ (fun x y => prod (M := 1152) (K := 2048) (N := 1024) x y j) ?_ ?_
    · exact funext fun i => congrFun (V_main_arg0 m c) (((cfg0.win 0).blk t).view.emb i)
    · exact funext fun i => congrFun (weights m c) (((cfg0.win 1).blk t).view.emb i)
  · obtain ⟨t, j, e⟩ := covered (P := 8) (Q := 3) (by decide) (by decide) (fun t => ((cfg0.win 2).blk t).view.emb) _ _ at_2 point i
    exact ⟨t, flush0_2 t, e ▸ ((cfg0.win 2).blk t).view.emb_mem_set j⟩

theorem ref_eq (X : Vec Ideal S9216x2048 .bf16) (W : Vec Ideal S2048x15232 .f32) : Cert.InRkvRefIdeal.Read.val_main_v2 (F := Ideal) X W = res X W := by
  funext i
  refine (Cert.InRkvRefIdeal.Read.val_main_v2_apply X W i).trans ((Cert.InRkvRefIdeal.Read.val_main_v1_apply X W _).trans ?_)
  unfold res prod
  refine Finset.sum_congr rfl fun k _ => ?_
  refine congrArg₂ (fun x y : EReal => x * y) (congrArg X (idx_ext _ _ rfl rfl)) (congrArg W (idx_ext _ _ rfl ?_))
  exact (show 5632 + (i 1).val = 5632 + (i 1).val from rfl)

theorem reference_frame : Cert.quiescent_InRkvRefIdeal (hInRkvRefIdeal := Cert.InRkvRefIdeal.Gen.facts) :=
  fun m ρ _ => (θ_run Cert.InRkvRefIdeal.defs _ _).mono
    (fun r h => ⟨fun c => (h c).2, sem_eq_zero_of_no_sems (by decide) r.2⟩) (Cert.InRkvRefIdeal.Value.run (F := Ideal) m ρ)

theorem results : Cert.algebraic_InRkvIdeal_InRkvRefIdeal (hInRkvIdeal := Cert.InRkvIdeal.Gen.facts) (hInRkvRefIdeal := Cert.InRkvRefIdeal.Gen.facts) := by
  intro m g m' g' _ hargs
  refine ⟨_, (θ_run defs _ _).mono (fun r h c => ⟨(h c).1.trans (final m c), (h c).2⟩) (Value.run_blocks m g), ?_⟩
  refine (θ_run Cert.InRkvRefIdeal.defs _ _).mono (fun r h c => ⟨(h c).1.trans ?_, (h c).2⟩) (Cert.InRkvRefIdeal.Value.run (F := Ideal) m' g')
  exact (Cert.InRkvRefIdeal.Read.val_main_v2_eq _ _).trans ((ref_eq _ _).trans (congrArg₂ res (hargs c).1 (hargs c).2))

end Cert.InRkvIdeal.Mm
end
-- ==== Proof.Mm.InSmall.lean ====
/- The columns of the input projection that the narrow inputs of the recurrence come from: those columns of the whole product, tile by tile. -/
module

public import proofs.«01_k».proof.Defs
public import proofs.«01_k».proof.Proof.Gen.InSmallIdeal.Value
public import proofs.«01_k».proof.Proof.Gen.InSmallRefIdeal.Read
public import proofs.«01_k».proof.Proof.Mm.Tiles
public import Idealize.ShloMosaic.Lib.Quiescent
public import Idealize.ShloMosaic.Adequacy
public import Idealize.ShloMosaic.Init

@[expose] public section
set_option maxRecDepth 16384
noncomputable section
namespace Cert.InSmallIdeal.Mm

open Idealize.ShloMosaic Idealize.ShloMosaic.TcCoe Idealize.SL.Sem
open Cert.InSmallIdeal Cert.InSmallIdeal.Gen Cert.Mm

variable (m : (ℓ : Loc nD τ sig) → Buf (Elt Ideal) ℓ)

/-- The result. -/
def res (X : Vec Ideal S9216x2048 .bf16) (W : Vec Ideal S2048x15232 .f32) : Vec Ideal S9216x384 .f32 := fun i =>
  prod (M := 9216) (K := 2048) (N := 15232) X W (shift (N := 384) 8704 (by decide) i)

theorem out_at (a : Vec Ideal S1152x2048 .bf16) (b : Vec Ideal S2048x384 .bf16) (j : S1152x384.Idx) :
    (out0_2 a b j : EReal) = prod (M := 1152) (K := 2048) (N := 384) a b j := by
  have hz : (![0, 0] : Fin 2 → ℕ) = fun _ => 0 := by decide
  have e : shapeCast S2048x384 b shapeCasts_S2048x384_S2048x384 = b := shapeCast_self ..
  unfold out0_2 k0_pay1
  rw [View.canon_unit_zero hz, View.ld_unit_zero hz, View.ld_unit_zero hz, e]
  exact mm_at a b j

/-- The weights reach the launch narrowed and cut. -/
theorem weights (c : Dev nD) : V m c main_v1 = fun i => (m ((c : Thread nD τ).loc main_arg1) (shift (N := 384) (L := 15232) 8704 (by decide) i) : EReal) := by
  simp only [V, hostOps0]
  after_results
  exact slice_eq ..

theorem place : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)
theorem point : ∀ (a : Fin 8) (b : Fin 1), ∃ t : Fin cfg0.N, win0_2.index t (0 : Fin 2) = a.val ∧ win0_2.index t (1 : Fin 2) = b.val :=
  (by decide +kernel : ∀ (a : Fin 8) (b : Fin 1), ∃ t : Fin grid0.N, _)

theorem at_2 (t : Fin cfg0.N) : At (m := 1152) (n := 384) (M := 9216) (N := 384) ((cfg0.win 2).blk t).view.emb (win0_2.index t (0 : Fin 2)) (win0_2.index t (1 : Fin 2)) :=
  ⟨fun _ => rfl, fun _ => rfl⟩

theorem final (c : Dev nD) : (dats m 0 c).arrAt 2 cfg0.N = res (m ((c : Thread nD τ).loc main_arg0)) (m ((c : Thread nD τ).loc main_arg1)) := by
  refine (dats m 0 c).arrAt_eq_of_cover 2 _ (fun t _ => ?_) (fun i => ?_)
  · refine (Value.flushed2 m c t).trans (funext fun j => ?_)
    show (out0_2 (iblk m c 0 t) (iblk m c 1 t) j : EReal) = prod (M := 9216) (K := 2048) (N := 384) (m ((c : Thread nD τ).loc main_arg0))
      (m ((c : Thread nD τ).loc main_arg1) ∘ shift (L := 15232) 8704 (by decide)) (((cfg0.win 2).blk t).view.emb j)
    refine (out_at _ _ j).trans (Eq.trans ?_ (prod_tile _ _ (eA := ((cfg0.win 0).blk t).view.emb)
      (eB := ((cfg0.win 1).blk t).view.emb) ⟨fun _ => rfl, fun _ => rfl⟩ ⟨fun _ => rfl, fun _ => rfl⟩ (at_2 t) (place t) j))
    refine congrArg₂ (fun x y => prod (M := 1152) (K := 2048) (N := 384) x y j) ?_ ?_
    · exact funext fun i => congrFun (V_main_arg0 m c) (((cfg0.win 0).blk t).view.emb i)
    · exact funext fun i => congrFun (weights m c) (((cfg0.win 1).blk t).view.emb i)
  · obtain ⟨t, j, e⟩ := covered (P := 8) (Q := 1) (by decide) (by decide) (fun t => ((cfg0.win 2).blk t).view.emb) _ _ at_2 point i
    exact ⟨t, flush0_2 t, e ▸ ((cfg0.win 2).blk t).view.emb_mem_set j⟩

theorem ref_eq (X : Vec Ideal S9216x2048 .bf16) (W : Vec Ideal S2048x15232 .f32) : Cert.InSmallRefIdeal.Read.val_main_v2 (F := Ideal) X W = res X W := by
  funext i
  refine (Cert.InSmallRefIdeal.Read.val_main_v2_apply X W i).trans ((Cert.InSmallRefIdeal.Read.val_main_v1_apply X W _).trans ?_)
  unfold res prod
  refine Finset.sum_congr rfl fun k _ => ?_
  refine congrArg₂ (fun x y : EReal => x * y) (congrArg X (idx_ext _ _ rfl rfl)) (congrArg W (idx_ext _ _ rfl ?_))
  exact (show 8704 + (i 1).val = 8704 + (i 1).val from rfl)

theorem reference_frame : Cert.quiescent_InSmallRefIdeal (hInSmallRefIdeal := Cert.InSmallRefIdeal.Gen.facts) :=
  fun m ρ _ => (θ_run Cert.InSmallRefIdeal.defs _ _).mono
    (fun r h => ⟨fun c => (h c).2, sem_eq_zero_of_no_sems (by decide) r.2⟩) (Cert.InSmallRefIdeal.Value.run (F := Ideal) m ρ)

theorem results : Cert.algebraic_InSmallIdeal_InSmallRefIdeal (hInSmallIdeal := Cert.InSmallIdeal.Gen.facts) (hInSmallRefIdeal := Cert.InSmallRefIdeal.Gen.facts) := by
  intro m g m' g' _ hargs
  refine ⟨_, (θ_run defs _ _).mono (fun r h c => ⟨(h c).1.trans (final m c), (h c).2⟩) (Value.run_blocks m g), ?_⟩
  refine (θ_run Cert.InSmallRefIdeal.defs _ _).mono (fun r h c => ⟨(h c).1.trans ?_, (h c).2⟩) (Cert.InSmallRefIdeal.Value.run (F := Ideal) m' g')
  exact (Cert.InSmallRefIdeal.Read.val_main_v2_eq _ _).trans ((ref_eq _ _).trans (congrArg₂ res (hargs c).1 (hargs c).2))

end Cert.InSmallIdeal.Mm
end
-- ==== Proof.Mm.InGate.lean ====
/- The columns of the input projection that the gates of the branches are read from: those columns of the whole product, tile by tile. -/
module

public import proofs.«01_k».proof.Defs
public import proofs.«01_k».proof.Proof.Gen.InGateIdeal.Value
public import proofs.«01_k».proof.Proof.Gen.InGateRefIdeal.Read
public import proofs.«01_k».proof.Proof.Mm.Tiles
public import Idealize.ShloMosaic.Lib.Quiescent
public import Idealize.ShloMosaic.Adequacy
public import Idealize.ShloMosaic.Init

@[expose] public section
set_option maxRecDepth 16384
noncomputable section
namespace Cert.InGateIdeal.Mm

open Idealize.ShloMosaic Idealize.ShloMosaic.TcCoe Idealize.SL.Sem
open Cert.InGateIdeal Cert.InGateIdeal.Gen Cert.Mm

variable (m : (ℓ : Loc nD τ sig) → Buf (Elt Ideal) ℓ)

/-- The result. -/
def res (X : Vec Ideal S9216x2048 .bf16) (W : Vec Ideal S2048x15232 .f32) : Vec Ideal S9216x6144 .f32 := fun i =>
  prod (M := 9216) (K := 2048) (N := 15232) X W (shift (N := 6144) 9088 (by decide) i)

theorem out_at (a : Vec Ideal S1152x2048 .bf16) (b : Vec Ideal S2048x1024 .bf16) (j : S1152x1024.Idx) :
    (out0_2 a b j : EReal) = prod (M := 1152) (K := 2048) (N := 1024) a b j := by
  have hz : (![0, 0] : Fin 2 → ℕ) = fun _ => 0 := by decide
  have e : shapeCast S2048x1024 b shapeCasts_S2048x1024_S2048x1024 = b := shapeCast_self ..
  unfold out0_2 k0_pay1
  rw [View.canon_unit_zero hz, View.ld_unit_zero hz, View.ld_unit_zero hz, e]
  exact mm_at a b j

/-- The weights reach the launch narrowed and cut. -/
theorem weights (c : Dev nD) : V m c main_v1 = fun i => (m ((c : Thread nD τ).loc main_arg1) (shift (N := 6144) (L := 15232) 9088 (by decide) i) : EReal) := by
  simp only [V, hostOps0]
  after_results
  exact slice_eq ..

theorem place : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)
theorem point : ∀ (a : Fin 8) (b : Fin 6), ∃ t : Fin cfg0.N, win0_2.index t (0 : Fin 2) = a.val ∧ win0_2.index t (1 : Fin 2) = b.val :=
  (by decide +kernel : ∀ (a : Fin 8) (b : Fin 6), ∃ t : Fin grid0.N, _)

theorem at_2 (t : Fin cfg0.N) : At (m := 1152) (n := 1024) (M := 9216) (N := 6144) ((cfg0.win 2).blk t).view.emb (win0_2.index t (0 : Fin 2)) (win0_2.index t (1 : Fin 2)) :=
  ⟨fun _ => rfl, fun _ => rfl⟩

theorem final (c : Dev nD) : (dats m 0 c).arrAt 2 cfg0.N = res (m ((c : Thread nD τ).loc main_arg0)) (m ((c : Thread nD τ).loc main_arg1)) := by
  refine (dats m 0 c).arrAt_eq_of_cover 2 _ (fun t _ => ?_) (fun i => ?_)
  · refine (Value.flushed2 m c t).trans (funext fun j => ?_)
    show (out0_2 (iblk m c 0 t) (iblk m c 1 t) j : EReal) = prod (M := 9216) (K := 2048) (N := 6144) (m ((c : Thread nD τ).loc main_arg0))
      (m ((c : Thread nD τ).loc main_arg1) ∘ shift (L := 15232) 9088 (by decide)) (((cfg0.win 2).blk t).view.emb j)
    refine (out_at _ _ j).trans (Eq.trans ?_ (prod_tile _ _ (eA := ((cfg0.win 0).blk t).view.emb)
      (eB := ((cfg0.win 1).blk t).view.emb) ⟨fun _ => rfl, fun _ => rfl⟩ ⟨fun _ => rfl, fun _ => rfl⟩ (at_2 t) (place t) j))
    refine congrArg₂ (fun x y => prod (M := 1152) (K := 2048) (N := 1024) x y j) ?_ ?_
    · exact funext fun i => congrFun (V_main_arg0 m c) (((cfg0.win 0).blk t).view.emb i)
    · exact funext fun i => congrFun (weights m c) (((cfg0.win 1).blk t).view.emb i)
  · obtain ⟨t, j, e⟩ := covered (P := 8) (Q := 6) (by decide) (by decide) (fun t => ((cfg0.win 2).blk t).view.emb) _ _ at_2 point i
    exact ⟨t, flush0_2 t, e ▸ ((cfg0.win 2).blk t).view.emb_mem_set j⟩

theorem ref_eq (X : Vec Ideal S9216x2048 .bf16) (W : Vec Ideal S2048x15232 .f32) : Cert.InGateRefIdeal.Read.val_main_v2 (F := Ideal) X W = res X W := by
  funext i
  refine (Cert.InGateRefIdeal.Read.val_main_v2_apply X W i).trans ((Cert.InGateRefIdeal.Read.val_main_v1_apply X W _).trans ?_)
  unfold res prod
  refine Finset.sum_congr rfl fun k _ => ?_
  refine congrArg₂ (fun x y : EReal => x * y) (congrArg X (idx_ext _ _ rfl rfl)) (congrArg W (idx_ext _ _ rfl ?_))
  exact (show 9088 + (i 1).val = 9088 + (i 1).val from rfl)

theorem reference_frame : Cert.quiescent_InGateRefIdeal (hInGateRefIdeal := Cert.InGateRefIdeal.Gen.facts) :=
  fun m ρ _ => (θ_run Cert.InGateRefIdeal.defs _ _).mono
    (fun r h => ⟨fun c => (h c).2, sem_eq_zero_of_no_sems (by decide) r.2⟩) (Cert.InGateRefIdeal.Value.run (F := Ideal) m ρ)

theorem results : Cert.algebraic_InGateIdeal_InGateRefIdeal (hInGateIdeal := Cert.InGateIdeal.Gen.facts) (hInGateRefIdeal := Cert.InGateRefIdeal.Gen.facts) := by
  intro m g m' g' _ hargs
  refine ⟨_, (θ_run defs _ _).mono (fun r h c => ⟨(h c).1.trans (final m c), (h c).2⟩) (Value.run_blocks m g), ?_⟩
  refine (θ_run Cert.InGateRefIdeal.defs _ _).mono (fun r h c => ⟨(h c).1.trans ?_, (h c).2⟩) (Cert.InGateRefIdeal.Value.run (F := Ideal) m' g')
  exact (Cert.InGateRefIdeal.Read.val_main_v2_eq _ _).trans ((ref_eq _ _).trans (congrArg₂ res (hargs c).1 (hargs c).2))

end Cert.InGateIdeal.Mm
end
-- ==== Proof.Mm.Up.lean ====
/- The up projection: the square of the positive part of a product, tile by tile. -/
module

public import proofs.«01_k».proof.Defs
public import proofs.«01_k».proof.Proof.Gen.UpIdeal.Value
public import proofs.«01_k».proof.Proof.Gen.UpRefIdeal.Read
public import proofs.«01_k».proof.Proof.Mm.Tiles
public import Idealize.ShloMosaic.Lib.Quiescent
public import Idealize.ShloMosaic.Adequacy
public import Idealize.ShloMosaic.Init

@[expose] public section
set_option maxRecDepth 16384
noncomputable section
namespace Cert.UpIdeal.Mm

open Idealize.ShloMosaic Idealize.ShloMosaic.TcCoe Idealize.SL.Sem
open Idealize.ShloMosaic.Pipeline (Dat)
open Cert.UpIdeal Cert.UpIdeal.Gen Cert.Mm

variable (m : (ℓ : Loc nD τ sig) → Buf (Elt Ideal) ℓ) (ρ : Dev nD → PrngReg)

/-- The positive part, squared. -/
def act (x : EReal) : EReal := max x (Ideal.ofBits .f32 0x00000000#32) * max x (Ideal.ofBits .f32 0x00000000#32)

/-- The result. -/
def res (X : Vec Ideal S9216x2048 .bf16) (W : Vec Ideal S2048x8192 .f32) : Vec Ideal S9216x8192 .bf16 := fun i => act (prod (M := 9216) (K := 2048) (N := 8192) X W i)

theorem pay_at (a : Vec Ideal S1152x2048 .bf16) (b : Vec Ideal S2048x1024 .bf16) (j : S1152x1024.Idx) :
    (k0_pay1 a b j : EReal) = act (prod (M := 1152) (K := 2048) (N := 1024) a b j) := by
  have e : shapeCast S2048x1024 b shapeCasts_S2048x1024_S2048x1024 = b := shapeCast_self ..
  unfold k0_pay1
  rw [e]
  exact congrArg act (mm_at a b j)

theorem out_eq (a : Vec Ideal S1152x2048 .bf16) (b : Vec Ideal S2048x1024 .bf16) : out0_2 a b = k0_pay1 a b := by
  have hz : (![0, 0] : Fin 2 → ℕ) = fun _ => 0 := by decide
  unfold out0_2
  rw [View.canon_unit_zero hz, View.ld_unit_zero hz, View.ld_unit_zero hz]

/-- The weights reach the launch narrowed. -/
theorem weights (c : Dev nD) : V m c main_v0 = fun i => (m ((c : Thread nD τ).loc main_arg1) i : EReal) := by
  simp only [V, hostOps0]
  after_results
  rfl

theorem place : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)
theorem point : ∀ (a : Fin 8) (b : Fin 8), ∃ t : Fin cfg0.N, win0_2.index t (0 : Fin 2) = a.val ∧ win0_2.index t (1 : Fin 2) = b.val :=
  (by decide +kernel : ∀ (a : Fin 8) (b : Fin 8), ∃ t : Fin grid0.N, _)

theorem at_2 (t : Fin cfg0.N) : At (m := 1152) (n := 1024) (M := 9216) (N := 8192) ((cfg0.win 2).blk t).view.emb (win0_2.index t (0 : Fin 2)) (win0_2.index t (1 : Fin 2)) :=
  ⟨fun _ => rfl, fun _ => rfl⟩

theorem final (c : Dev nD) : (dats m 0 c).arrAt 2 cfg0.N = res (m ((c : Thread nD τ).loc main_arg0)) (m ((c : Thread nD τ).loc main_arg1)) := by
  refine (dats m 0 c).arrAt_eq_of_cover 2 _ (fun t _ => ?_) (fun i => ?_)
  · refine (Value.flushed2 m c t).trans (funext fun j => ?_)
    show (out0_2 (iblk m c 0 t) (iblk m c 1 t) j : EReal) = res _ _ (((cfg0.win 2).blk t).view.emb j)
    rw [out_eq]
    refine (pay_at _ _ j).trans (congrArg act ?_)
    refine Eq.trans ?_ (prod_tile _ _ (eA := ((cfg0.win 0).blk t).view.emb) (eB := ((cfg0.win 1).blk t).view.emb)
      ⟨fun _ => rfl, fun _ => rfl⟩ ⟨fun _ => rfl, fun _ => rfl⟩ (at_2 t) (place t) j)
    refine congrArg₂ (fun x y => prod (M := 1152) (K := 2048) (N := 1024) x y j) ?_ ?_
    · exact funext fun i => congrFun (V_main_arg0 m c) (((cfg0.win 0).blk t).view.emb i)
    · exact funext fun i => congrFun (weights m c) (((cfg0.win 1).blk t).view.emb i)
  · obtain ⟨t, j, e⟩ := covered (P := 8) (Q := 8) (by decide) (by decide) (fun t => ((cfg0.win 2).blk t).view.emb) _ _ at_2 point i
    exact ⟨t, flush0_2 t, e ▸ ((cfg0.win 2).blk t).view.emb_mem_set j⟩

theorem ref_eq (X : Vec Ideal S9216x2048 .bf16) (W : Vec Ideal S2048x8192 .f32) : Cert.UpRefIdeal.Read.val_main_v4 (F := Ideal) X W = res X W := by
  funext i
  refine congrArg act ((Cert.UpRefIdeal.Read.val_main_v1_apply X W i).trans (Finset.sum_congr rfl fun k _ => ?_))
  exact congrArg₂ (fun x y : EReal => x * y) (congrArg X (idx_ext _ _ rfl rfl)) (congrArg W (idx_ext _ _ rfl rfl))

theorem reference_frame : Cert.quiescent_UpRefIdeal (hUpRefIdeal := Cert.UpRefIdeal.Gen.facts) :=
  fun m ρ _ => (θ_run Cert.UpRefIdeal.defs _ _).mono
    (fun r h => ⟨fun c => (h c).2, sem_eq_zero_of_no_sems (by decide) r.2⟩) (Cert.UpRefIdeal.Value.run (F := Ideal) m ρ)

theorem results : Cert.algebraic_UpIdeal_UpRefIdeal (hUpIdeal := Cert.UpIdeal.Gen.facts) (hUpRefIdeal := Cert.UpRefIdeal.Gen.facts) := by
  intro m g m' g' _ hargs
  refine ⟨_, (θ_run defs _ _).mono (fun r h c => ⟨(h c).1.trans (final m c), (h c).2⟩) (Value.run_blocks m g), ?_⟩
  refine (θ_run Cert.UpRefIdeal.defs _ _).mono (fun r h c => ⟨(h c).1.trans ?_, (h c).2⟩) (Cert.UpRefIdeal.Value.run (F := Ideal) m' g')
  exact (Cert.UpRefIdeal.Read.val_main_v4_eq _ _).trans ((ref_eq _ _).trans (congrArg₂ res (hargs c).1 (hargs c).2))

end Cert.UpIdeal.Mm
end
-- ==== Proof.Mm.Gated.lean ====
/- A residual sum with gated rows: each row of a product is weighted by a row of gates and added to the row it updates.
   The rows are four batches of 2304, of which the first 256 are context. A batch has its own row of gates, and the
   context of every batch shares the row after the batches' four. Below, first what a tile of the kernel holds, then what
   the reference holds. -/
module

public import proofs.«01_k».proof.Proof.Mm.Tiles
public import Idealize.ShloMosaic.Lib.Pipeline.ValueKit

@[expose] public section
set_option maxRecDepth 16384
noncomputable section
namespace Cert.Mm

open Idealize.ShloMosaic hiding ix1 ix2 ix3
open Idealize.ShloMosaic.ValueIdx

/-- The rows that are gated, and the gates: six tables of eight rows. -/
abbrev SRows : Shape := ⟨2, ![9216, 2048]⟩
abbrev SGates : Shape := ⟨3, ![6, 8, 2048]⟩

/-- Which row of gates row `r` takes. -/
def gateRow (r : ℕ) : ℕ := if r % 2304 < 256 then 4 else r / 2304

theorem gateRow_lt (i : SRows.Idx) : gateRow (i 0).val < 8 := by
  have h : (i 0).val < 9216 := (i 0).isLt
  unfold gateRow
  split <;> omega

/-- The residual sum, gated by table `g`. -/
def gated (g : Fin 6) (mod : SGates.Idx → EReal) (H P : SRows.Idx → EReal) (i : SRows.Idx) : EReal :=
  H i + mod (ix3 g (⟨gateRow (i 0).val, gateRow_lt i⟩ : Fin 8) (i 1 : Fin 2048)) * P i

/-- An index of the gates is its three coordinates. -/
theorem gate_ext (i j : SGates.Idx) (h0 : (i 0).val = (j 0).val) (h1 : (i 1).val = (j 1).val) (h2 : (i 2).val = (j 2).val) : i = j :=
  funext fun a => Fin.ext (match a with
    | ⟨0, _⟩ => h0
    | ⟨1, _⟩ => h1
    | ⟨2, _⟩ => h2)

/-- `v` is the part of row `r` of table `g` that lies in band `q` of columns. -/
def Reads (mod : SGates.Idx → EReal) (g r q : ℕ) (v : Shape.Idx ⟨2, ![1, 1024]⟩ → EReal) : Prop :=
  ∀ k, ∃ i, v k = mod i ∧ (i 0).val = g ∧ (i 1).val = r ∧ (i 2).val = q * 1024 + (k 1).val

/-- A row of the table's block, loaded. -/
theorem reads {mod : SGates.Idx → EReal} {g q : ℕ} (blk : Vec Ideal ⟨3, ![1, 8, 1024]⟩ .f32)
    (h : ∀ k, ∃ i, (blk k : EReal) = mod i ∧ (i 0).val = g ∧ (i 1).val = (k 1).val ∧ (i 2).val = q * 1024 + (k 2).val)
    (r : ℕ) (off : Fin 3 → ℕ) (ho : off = ![0, r, 0]) (hb) (hs : Shape.ShapeCasts ⟨3, ![1, 1, 1024]⟩ ⟨2, ![1, 1024]⟩) :
    Reads mod g r q (shapeCast ⟨2, ![1, 1024]⟩ (View.ld blk (Rect.unit off ![1, 1, 1024] hb) : Vec Ideal ⟨3, ![1, 1, 1024]⟩ .f32) hs) := by
  subst ho
  intro k
  have h0 : (k 0).val < 1 := (k 0).isLt
  obtain ⟨i, e, e0, e1, e2⟩ := h ((Rect.unit (s := ⟨3, ![1, 8, 1024]⟩) ![0, r, 0] ![1, 1, 1024] hb).idx (ix3 (0 : Fin 1) (0 : Fin 1) (k 1 : Fin 1024)))
  refine ⟨i, (shapeCast_apply _ hs k (ix3 (0 : Fin 1) (0 : Fin 1) (k 1 : Fin 1024)) ?_).trans e, e0, e1.trans ?_, e2.trans ?_⟩
  · rewrite [Shape.rowMajor_val_three, Shape.rowMajor_val_two]
    show (0 * 1 + 0) * 1024 + (k 1).val = (k 0).val * 1024 + (k 1).val
    omega
  · show r + 1 * 0 = r
    omega
  · show q * 1024 + (0 + 1 * (k 1).val) = q * 1024 + (k 1).val
    omega

theorem context_bit : ∀ r : Fin 1152, IntOp.cmpi .slt (BitVec.ofNat 32 r.val) 256#32 = 1#1 ↔ r.val < 256 := by decide +kernel
theorem and_bit : ∀ a b : BitVec 1, IntOp.andi a b = 1#1 ↔ a = 1#1 ∧ b = 1#1 := by decide

/-- The choice between two rows of gates that a tile makes: by a bit, and by whether the row is one of the first 256. -/
theorem picked (b : BitVec 1) (u v : FVec Ideal ⟨2, ![1, 1024]⟩ .f32) (h1 h2 h3 h4 h5 h6 h7) (j : Shape.Idx ⟨2, ![1152, 1024]⟩) :
    select (broadcastTo ⟨2, ![1152, 1024]⟩ (shapeCast ⟨2, ![1152, 1]⟩ (andi (broadcast ⟨2, ![1152, 1]⟩ b)
        (cmpi .slt (iota .tc ⟨2, ![1152, 1]⟩ 32 [0] h1) (broadcast ⟨2, ![1152, 1]⟩ 256#32))) h2) h3)
      (broadcastTo ⟨2, ![1152, 1024]⟩ (shapeCast ⟨2, ![1, 1024]⟩ u h4) h5)
      (broadcastTo ⟨2, ![1152, 1024]⟩ (shapeCast ⟨2, ![1, 1024]⟩ v h6) h7) j
    = if b = 1#1 ∧ (j 0).val < 256 then u (ix2 (0 : Fin 1) (j 1 : Fin 1024)) else v (ix2 (0 : Fin 1) (j 1 : Fin 1024)) := by
  have hj : (j 0).val < 1152 := (j 0).isLt
  rw [shapeCast_self, shapeCast_self, shapeCast_self]
  have eu : broadcastTo ⟨2, ![1152, 1024]⟩ u h5 j = u (ix2 (0 : Fin 1) (j 1 : Fin 1024)) := congrArg u (idx_ext _ _ rfl rfl)
  have ev : broadcastTo ⟨2, ![1152, 1024]⟩ v h7 j = v (ix2 (0 : Fin 1) (j 1 : Fin 1024)) := congrArg v (idx_ext _ _ rfl rfl)
  have eb : broadcastTo ⟨2, ![1152, 1024]⟩ (andi (broadcast ⟨2, ![1152, 1]⟩ b)
      (cmpi .slt (iota .tc ⟨2, ![1152, 1]⟩ 32 [0] h1) (broadcast ⟨2, ![1152, 1]⟩ 256#32))) h3 j
      = IntOp.andi b (IntOp.cmpi .slt (BitVec.ofNat 32 (j 0).val) 256#32) := by
    show IntOp.andi b (IntOp.cmpi .slt (BitVec.ofNat 32 (0 * 1152 + (j 0).val)) 256#32) = _
    rw [Nat.zero_mul, Nat.zero_add]
  show Scalar.select _ _ _ = _
  rw [eu, ev, eb]
  show (if _ = 1#1 then _ else _) = _
  exact if_congr ((and_bit _ _).trans (and_congr_right fun _ => context_bit ⟨_, hj⟩)) rfl rfl

/-- A tile of the gated sum. Tiles are half a batch high, so the context lies in those at even places. -/
theorem gated_tile (g : Fin 6) {mod : SGates.Idx → EReal} {H P : SRows.Idx → EReal} {e : Shape.Idx ⟨2, ![1152, 1024]⟩ → SRows.Idx}
    {p q : ℕ} (he : At e p q) (b : BitVec 1) (hb : b = 1#1 ↔ p % 2 = 0) {u v : Shape.Idx ⟨2, ![1, 1024]⟩ → EReal}
    (hu : Reads mod g 4 q u) (hv : Reads mod g (p / 2) q v) (j : Shape.Idx ⟨2, ![1152, 1024]⟩) :
    H (e j) + (if b = 1#1 ∧ (j 0).val < 256 then u (ix2 (0 : Fin 1) (j 1 : Fin 1024)) else v (ix2 (0 : Fin 1) (j 1 : Fin 1024))) * P (e j)
      = gated g mod H P (e j) := by
  have hj : (j 0).val < 1152 := (j 0).isLt
  have e0 := he.row j
  have e1 := he.col j
  refine congrArg (fun z : EReal => H (e j) + z * P (e j)) ?_
  split
  · rename_i h
    obtain ⟨i, ei, i0, i1, i2⟩ := hu (ix2 (0 : Fin 1) (j 1 : Fin 1024))
    refine ei.trans (congrArg mod (gate_ext _ _ i0 (i1.trans ?_) (i2.trans ?_)))
    · have := hb.mp h.1
      show 4 = gateRow (e j 0).val
      rw [e0, gateRow, if_pos (by omega)]
    · show q * 1024 + (j 1).val = (e j 1).val
      omega
  · rename_i h
    obtain ⟨i, ei, i0, i1, i2⟩ := hv (ix2 (0 : Fin 1) (j 1 : Fin 1024))
    refine ei.trans (congrArg mod (gate_ext _ _ i0 (i1.trans ?_) (i2.trans ?_)))
    · show p / 2 = gateRow (e j 0).val
      rw [hb] at h
      rw [e0, gateRow, if_neg (by omega)]
      omega
    · show q * 1024 + (j 1).val = (e j 1).val
      omega

/-- `C` holds `n` rows of each batch from row `o` on, gated by the rows `r` of table `g`. -/
def Band (g : ℕ) (mod : SGates.Idx → EReal) (H P : SRows.Idx → EReal) {n : ℕ} (o : ℕ) (r : ℕ → ℕ) (C : Shape.Idx ⟨3, ![4, n, 2048]⟩ → EReal) : Prop :=
  ∀ k, ∃ i a b, C k = H a + mod i * P b ∧ ((a 0).val = (k 0).val * 2304 + (o + (k 1).val) ∧ (a 1).val = (k 2).val)
    ∧ ((b 0).val = (k 0).val * 2304 + (o + (k 1).val) ∧ (b 1).val = (k 2).val) ∧ (i 0).val = g ∧ (i 1).val = r (k 0).val ∧ (i 2).val = (k 2).val

theorem Band.at {g : Fin 6} {mod : SGates.Idx → EReal} {H P : SRows.Idx → EReal} {n o : ℕ} {r : ℕ → ℕ} {C : Shape.Idx ⟨3, ![4, n, 2048]⟩ → EReal}
    (h : Band g mod H P o r C) (k) (i : SRows.Idx) (h0 : (i 0).val = (k 0).val * 2304 + (o + (k 1).val)) (h1 : (i 1).val = (k 2).val)
    (hr : r (k 0).val = gateRow (i 0).val) : C k = gated g mod H P i := by
  obtain ⟨l, a, b, e, ⟨a0, a1⟩, ⟨b0, b1⟩, l0, l1, l2⟩ := h k
  rw [e, idx_ext a i (a0.trans h0.symm) (a1.trans h1.symm), idx_ext b i (b0.trans h0.symm) (b1.trans h1.symm)]
  exact congrArg (fun z => H i + mod z * P i) (gate_ext _ _ l0 (l1.trans hr) (l2.trans h1.symm))

/-- Rows of each batch from row `o` on, cut out of a matrix of all rows. -/
theorem cut_at {n : ℕ} (o : ℕ) (X : FVec Ideal SRows .f32) (hr) (hs) (k : Shape.Idx ⟨3, ![4, n, 2048]⟩) (hn : o + n ≤ 2304) :
    ∃ a, extractStridedSlice ⟨3, ![4, n, 2048]⟩ ![0, o, 0] (shapeCast ⟨3, ![4, 2304, 2048]⟩ X hr) hs k = X a
      ∧ (a 0).val = (k 0).val * 2304 + (o + (k 1).val) ∧ (a 1).val = (k 2).val := by
  have h0 : (k 0).val < 4 := (k 0).isLt
  have h1 : (k 1).val < n := (k 1).isLt
  refine ⟨ix2 (⟨(k 0).val * 2304 + (o + (k 1).val), by omega⟩ : Fin 9216) (k 2 : Fin 2048), ?_, rfl, rfl⟩
  refine (extractStridedSlice_apply _ _ hs k (ix3 (k 0 : Fin 4) (⟨o + (k 1).val, by omega⟩ : Fin 2304) (k 2 : Fin 2048)) fun a => match a with
    | ⟨0, _⟩ => (Nat.zero_add _).symm
    | ⟨1, _⟩ => rfl
    | ⟨2, _⟩ => (Nat.zero_add _).symm).trans (shapeCast_apply X hr _ _ ?_)
  rewrite [Shape.rowMajor_val_three, Shape.rowMajor_val_two]
  rfl

/-- Table `g` of the gates, cut out. -/
theorem table_at (g : Fin 6) (mod : FVec Ideal SGates .f32) (hs) (hc) (k : Shape.Idx ⟨2, ![8, 2048]⟩) :
    shapeCast ⟨2, ![8, 2048]⟩ (extractStridedSlice ⟨3, ![1, 8, 2048]⟩ ![g.val, 0, 0] mod hs) hc k = mod (ix3 g (k 0 : Fin 8) (k 1 : Fin 2048)) := by
  refine (shapeCast_apply _ hc k (ix3 (0 : Fin 1) (k 0 : Fin 8) (k 1 : Fin 2048)) ?_).trans (extractStridedSlice_apply _ mod hs _ _ fun a => match a with
    | ⟨0, _⟩ => rfl
    | ⟨1, _⟩ => (Nat.zero_add _).symm
    | ⟨2, _⟩ => (Nat.zero_add _).symm)
  rewrite [Shape.rowMajor_val_three, Shape.rowMajor_val_two]
  show (0 * 8 + (k 0).val) * 2048 + (k 1).val = (k 0).val * 2048 + (k 1).val
  omega

/-- A band from its cuts of the two matrices and its gates. -/
theorem band_of {g n o : ℕ} {r : ℕ → ℕ} {mod : SGates.Idx → EReal} (H P : FVec Ideal SRows .f32) (G : FVec Ideal ⟨3, ![4, n, 2048]⟩ .f32) (hr) (hs)
    (hn : o + n ≤ 2304) (hG : ∀ k, ∃ i, G k = mod i ∧ (i 0).val = g ∧ (i 1).val = r (k 0).val ∧ (i 2).val = (k 2).val) :
    Band g mod H P o r (addf (extractStridedSlice ⟨3, ![4, n, 2048]⟩ ![0, o, 0] (shapeCast ⟨3, ![4, 2304, 2048]⟩ H hr) hs)
      (mulf G (extractStridedSlice ⟨3, ![4, n, 2048]⟩ ![0, o, 0] (shapeCast ⟨3, ![4, 2304, 2048]⟩ P hr) hs))) := by
  intro k
  obtain ⟨a, ea, ha⟩ := cut_at o H hr hs k hn
  obtain ⟨b, eb, hb⟩ := cut_at o P hr hs k hn
  obtain ⟨i, ei, hi⟩ := hG k
  exact ⟨i, a, b, congrArg₂ (fun x y : EReal => x + y) ea (congrArg₂ (fun x y : EReal => x * y) ei eb), ha, hb, hi⟩

/-- The context's rows as the reference has them. -/
theorem context (g : Fin 6) (mod : FVec Ideal SGates .f32) (H P : FVec Ideal SRows .f32) (hr hs h1 h2 h3 h4 h5 h6) :
    Band g mod H P 0 (fun _ => 4) (addf (extractStridedSlice ⟨3, ![4, 256, 2048]⟩ ![0, 0, 0] (shapeCast ⟨3, ![4, 2304, 2048]⟩ H hr) hs)
      (mulf (broadcastInDim ⟨3, ![4, 256, 2048]⟩ ![0, 1, 2] h6 (broadcastInDim ⟨3, ![1, 1, 2048]⟩ ![2] h5
        (shapeCast ⟨1, ![2048]⟩ (extractStridedSlice ⟨2, ![1, 2048]⟩ ![4, 0] (shapeCast ⟨2, ![8, 2048]⟩
          (extractStridedSlice ⟨3, ![1, 8, 2048]⟩ ![g.val, 0, 0] mod h1) h2) h3) h4)))
      (extractStridedSlice ⟨3, ![4, 256, 2048]⟩ ![0, 0, 0] (shapeCast ⟨3, ![4, 2304, 2048]⟩ P hr) hs))) := by
  refine band_of H P _ hr hs (by decide) fun k => ⟨ix3 g (4 : Fin 8) (k 2 : Fin 2048), ?_, rfl, rfl, rfl⟩
  refine (broadcastInDim_apply _ h6 _ k (ix3 (0 : Fin 1) (0 : Fin 1) (k 2 : Fin 2048)) fun a => match a with
    | ⟨0, _⟩ => rfl
    | ⟨1, _⟩ => rfl
    | ⟨2, _⟩ => rfl).trans ?_
  refine (broadcastInDim_apply _ h5 _ _ (ix1 (k 2 : Fin 2048)) fun a => match a with
    | ⟨0, _⟩ => rfl).trans ?_
  refine (shapeCast_apply _ h4 _ (ix2 (0 : Fin 1) (k 2 : Fin 2048)) ?_).trans ?_
  · rewrite [Shape.rowMajor_val_two, Shape.rowMajor_val_one]
    show 0 * 2048 + (k 2).val = (k 2).val
    omega
  exact (extractStridedSlice_apply _ _ h3 _ (ix2 (4 : Fin 8) (k 2 : Fin 2048)) fun a => match a with
    | ⟨0, _⟩ => rfl
    | ⟨1, _⟩ => (Nat.zero_add _).symm).trans (table_at g mod h1 h2 _)

/-- The other rows as the reference has them. -/
theorem others (g : Fin 6) (mod : FVec Ideal SGates .f32) (H P : FVec Ideal SRows .f32) (hr hs h1 h2 h3 h4 h5) :
    Band g mod H P 256 (fun z => z) (addf (extractStridedSlice ⟨3, ![4, 2048, 2048]⟩ ![0, 256, 0] (shapeCast ⟨3, ![4, 2304, 2048]⟩ H hr) hs)
      (mulf (broadcastInDim ⟨3, ![4, 2048, 2048]⟩ ![0, 1, 2] h5 (broadcastInDim ⟨3, ![4, 1, 2048]⟩ ![0, 2] h4
        (extractStridedSlice ⟨2, ![4, 2048]⟩ ![0, 0] (shapeCast ⟨2, ![8, 2048]⟩
          (extractStridedSlice ⟨3, ![1, 8, 2048]⟩ ![g.val, 0, 0] mod h1) h2) h3)))
      (extractStridedSlice ⟨3, ![4, 2048, 2048]⟩ ![0, 256, 0] (shapeCast ⟨3, ![4, 2304, 2048]⟩ P hr) hs))) := by
  refine band_of H P _ hr hs (by decide) fun k => ?_
  have h0 : (k 0).val < 4 := (k 0).isLt
  refine ⟨ix3 g (⟨(k 0).val, by omega⟩ : Fin 8) (k 2 : Fin 2048), ?_, rfl, rfl, rfl⟩
  refine (broadcastInDim_apply _ h5 _ k (ix3 (k 0 : Fin 4) (0 : Fin 1) (k 2 : Fin 2048)) fun a => match a with
    | ⟨0, _⟩ => rfl
    | ⟨1, _⟩ => rfl
    | ⟨2, _⟩ => rfl).trans ?_
  refine (broadcastInDim_apply _ h4 _ _ (ix2 (k 0 : Fin 4) (k 2 : Fin 2048)) fun a => match a with
    | ⟨0, _⟩ => rfl
    | ⟨1, _⟩ => rfl).trans ?_
  exact (extractStridedSlice_apply _ _ h3 _ (ix2 (⟨(k 0).val, by omega⟩ : Fin 8) (k 2 : Fin 2048)) fun a => match a with
    | ⟨0, _⟩ => (Nat.zero_add _).symm
    | ⟨1, _⟩ => (Nat.zero_add _).symm).trans (table_at g mod h1 h2 _)

/-- The context's rows and the others, joined batch by batch and laid out as one matrix. -/
theorem joined {g : Fin 6} {mod : SGates.Idx → EReal} {H P : SRows.Idx → EReal} {C : FVec Ideal ⟨3, ![4, 256, 2048]⟩ .f32}
    {X : FVec Ideal ⟨3, ![4, 2048, 2048]⟩ .f32} (hC : Band g mod H P 0 (fun _ => 4) C) (hX : Band g mod H P 256 (fun z => z) X) (hc hs) :
    shapeCast SRows (concatenate ⟨3, ![4, 2304, 2048]⟩ 1 [⟨⟨3, ![4, 256, 2048]⟩, C⟩, ⟨⟨3, ![4, 2048, 2048]⟩, X⟩] hc) hs
      = gated g mod H P := by
  funext i
  have h0 : (i 0).val < 9216 := (i 0).isLt
  have hd : (i 0).val / 2304 < 4 := by omega
  have hm : (i 0).val % 2304 < 2304 := Nat.mod_lt _ (by decide)
  refine (shapeCast_apply _ hs i (ix3 (⟨(i 0).val / 2304, hd⟩ : Fin 4) (⟨(i 0).val % 2304, hm⟩ : Fin 2304) (i 1 : Fin 2048)) ?_).trans ?_
  · rewrite [Shape.rowMajor_val_three, Shape.rowMajor_val_two]
    show ((i 0).val / 2304 * 2304 + (i 0).val % 2304) * 2048 + (i 1).val = (i 0).val * 2048 + (i 1).val
    rw [Nat.div_add_mod']
  by_cases h : (i 0).val % 2304 < 256
  · refine (concatenate_pair_apply_left 1 C X hc _ rfl (ix3 (⟨(i 0).val / 2304, hd⟩ : Fin 4) (⟨(i 0).val % 2304, h⟩ : Fin 256) (i 1 : Fin 2048))
      fun a => match a with
        | ⟨0, _⟩ => rfl
        | ⟨1, _⟩ => rfl
        | ⟨2, _⟩ => rfl).trans (hC.at _ i ?_ rfl ?_)
    · show (i 0).val = (i 0).val / 2304 * 2304 + (0 + (i 0).val % 2304)
      omega
    · show 4 = gateRow (i 0).val
      rw [gateRow, if_pos h]
  · refine (concatenate_pair_apply_right 1 C X hc _ rfl rfl
      (ix3 (⟨(i 0).val / 2304, hd⟩ : Fin 4) (⟨(i 0).val % 2304 - 256, by omega⟩ : Fin 2048) (i 1 : Fin 2048)) (fun a => match a with
        | ⟨0, _⟩ => fun _ => rfl
        | ⟨1, _⟩ => fun n => absurd rfl n
        | ⟨2, _⟩ => fun _ => rfl) ?_).trans (hX.at _ i ?_ rfl ?_)
    · show (i 0).val % 2304 - 256 + 256 = (i 0).val % 2304
      omega
    · show (i 0).val = (i 0).val / 2304 * 2304 + (256 + ((i 0).val % 2304 - 256))
      omega
    · show (i 0).val / 2304 = gateRow (i 0).val
      rw [gateRow, if_neg h]

end Cert.Mm
end
-- ==== Proof.Mm.Down.lean ====
/- The down projection: a product contracted in four steps, which a buffer sums, and at the last step the gated residual
   sum. -/
module

public import proofs.«01_k».proof.Defs
public import proofs.«01_k».proof.Proof.Gen.DownIdeal.Value
public import proofs.«01_k».proof.Proof.Gen.DownRefIdeal.Read
public import proofs.«01_k».proof.Proof.Mm.Gated
public import Idealize.ShloMosaic.Lib.Quiescent
public import Idealize.ShloMosaic.Adequacy
public import Idealize.ShloMosaic.Init

@[expose] public section
set_option maxRecDepth 16384
noncomputable section
namespace Cert.DownIdeal.Mm

open Idealize.ShloMosaic Idealize.ShloMosaic.TcCoe Idealize.SL.Sem
open Idealize.ShloMosaic.Pipeline (Dat)
open Cert.DownIdeal Cert.DownIdeal.Gen Cert.Mm

variable (m : (ℓ : Loc nD τ sig) → Buf (Elt Ideal) ℓ) (ρ : Dev nD → PrngReg)

/-- The result. -/
def res (X : Vec Ideal S9216x8192 .bf16) (W : Vec Ideal S8192x2048 .f32) (H : Vec Ideal S9216x2048 .f32) (mod : Vec Ideal S6x8x2048 .f32) :
    Vec Ideal S9216x2048 .f32 := gated 5 mod H (prod (M := 9216) (K := 8192) (N := 2048) X W)

/-- Step `s` of tile `u`. -/
def pt (u : Fin 16) (s : Fin 4) : Fin cfg0.N := ⟨4 * u.val + s.val, lt_of_lt_of_eq (by omega) N_0.symm⟩

/-- What a step adds. -/
def part (c : Dev nD) (t : Fin cfg0.N) (j : S1152x1024.Idx) : EReal :=
  prod (M := 1152) (K := 2048) (N := 1024) (iblk m c 0 t) (iblk m c 1 t) j

theorem pay_at (a : Vec Ideal S1152x2048 .bf16) (b : Vec Ideal S2048x1024 .bf16) (j : S1152x1024.Idx) :
    (k0_pay1 a b j : EReal) = prod (M := 1152) (K := 2048) (N := 1024) a b j := by
  have e : shapeCast S2048x1024 b shapeCasts_S2048x1024_S2048x1024 = b := shapeCast_self ..
  unfold k0_pay1
  rw [e]
  exact mm_at a b j

theorem acc_first (c : Dev nD) (t : Fin cfg0.N) (h : t.val % 4 = 0) (j : S1152x1024.Idx) :
    ((outsAt0 m c t.val t.isLt).2 j : EReal) = part m c t j := by
  rw [outsAt0_A m c t h (by omega) (by omega)]
  frame_out
  unfold k0_pay2
  rw [shapeCast_self]
  exact pay_at _ _ j

theorem acc_next (c : Dev nD) (t : Fin cfg0.N) (h : 1 ≤ t.val % 4 ∧ t.val % 4 ≤ 2) (j : S1152x1024.Idx) :
    ((outsAt0 m c t.val t.isLt).2 j : EReal) = (outsAt0 m c (t.val - 1) (Nat.lt_of_le_of_lt (Nat.sub_le _ _) t.isLt)).2 j + part m c t j := by
  rw [outsAt0_B m c t (by omega) h (by omega)]
  frame_out
  unfold k0_pay3
  rw [shapeCast_self]
  refine congrArg₂ (fun x y : EReal => x + y) ?_ (pay_at _ _ j)
  exact congrFun ((Memref.isWhole_whole cc0_scratch0).read_unread (Val := Elt Ideal) _) j

/-- The buffer before the last step. -/
theorem acc (c : Dev nD) (u : Fin 16) (j : S1152x1024.Idx) :
    ((outsAt0 m c ((pt u 3).val - 1) (Nat.lt_of_le_of_lt (Nat.sub_le _ _) (pt u 3).isLt)).2 j : EReal)
      = part m c (pt u 0) j + part m c (pt u 1) j + part m c (pt u 2) j := by
  refine (acc_next m c (pt u 2) (by show 1 ≤ (4 * u.val + 2) % 4 ∧ (4 * u.val + 2) % 4 ≤ 2; omega) j).trans ?_
  refine congrArg (fun x : EReal => x + part m c (pt u 2) j) ?_
  refine (acc_next m c (pt u 1) (by show 1 ≤ (4 * u.val + 1) % 4 ∧ (4 * u.val + 1) % 4 ≤ 2; omega) j).trans ?_
  refine congrArg (fun x : EReal => x + part m c (pt u 1) j) ?_
  exact acc_first m c (pt u 0) (by show (4 * u.val + 0) % 4 = 0; omega) j

/-- The weights reach the launch narrowed. -/
theorem weights (c : Dev nD) : V m c main_v0 = fun i => (m ((c : Thread nD τ).loc main_arg1) i : EReal) := by
  simp only [V, hostOps0]
  after_results
  rfl

theorem place : ∀ t : Fin cfg0.N,
    (win0_0.index t (0 : Fin 2) = t.val / 8 ∧ win0_0.index t (1 : Fin 2) = t.val % 4)
    ∧ (win0_1.index t (0 : Fin 2) = t.val % 4 ∧ win0_1.index t (1 : Fin 2) = t.val / 4 % 2)
    ∧ (win0_2.index t (0 : Fin 2) = t.val / 8 ∧ win0_2.index t (1 : Fin 2) = t.val / 4 % 2)
    ∧ (win0_3.index t (0 : Fin 3) = 5 ∧ win0_3.index t (1 : Fin 3) = 0 ∧ win0_3.index t (2 : Fin 3) = t.val / 4 % 2)
    ∧ (win0_4.index t (0 : Fin 2) = t.val / 8 ∧ win0_4.index t (1 : Fin 2) = t.val / 4 % 2) :=
  (by decide +kernel : ∀ t : Fin grid0.N, _)

theorem at_0 (t : Fin cfg0.N) : At (m := 1152) (n := 2048) (M := 9216) (N := 8192) ((cfg0.win 0).blk t).view.emb (t.val / 8) (t.val % 4) :=
  At.to ⟨fun _ => rfl, fun _ => rfl⟩ (place t).1.1 (place t).1.2
theorem at_1 (t : Fin cfg0.N) : At (m := 2048) (n := 1024) (M := 8192) (N := 2048) ((cfg0.win 1).blk t).view.emb (t.val % 4) (t.val / 4 % 2) :=
  At.to ⟨fun _ => rfl, fun _ => rfl⟩ (place t).2.1.1 (place t).2.1.2
theorem at_2 (t : Fin cfg0.N) : At (m := 1152) (n := 1024) (M := 9216) (N := 2048) ((cfg0.win 2).blk t).view.emb (t.val / 8) (t.val / 4 % 2) :=
  At.to ⟨fun _ => rfl, fun _ => rfl⟩ (place t).2.2.1.1 (place t).2.2.1.2
theorem at_4 (t : Fin cfg0.N) : At (m := 1152) (n := 1024) (M := 9216) (N := 2048) ((cfg0.win 4).blk t).view.emb (t.val / 8) (t.val / 4 % 2) :=
  At.to ⟨fun _ => rfl, fun _ => rfl⟩ (place t).2.2.2.2.1 (place t).2.2.2.2.2

/-- The steps of a tile add up to the product. -/
theorem parts (c : Dev nD) (u : Fin 16) (j : S1152x1024.Idx) :
    part m c (pt u 0) j + part m c (pt u 1) j + part m c (pt u 2) j + part m c (pt u 3) j
      = prod (M := 9216) (K := 8192) (N := 2048) (m ((c : Thread nD τ).loc main_arg0)) (m ((c : Thread nD τ).loc main_arg1))
        (((cfg0.win 4).blk (pt u 3)).view.emb j) := by
  refine Eq.trans (Fin.sum_univ_four (fun s => part m c (pt u s) j)).symm ?_
  refine Eq.trans (Finset.sum_congr rfl fun s _ => ?_) (prod_bands 4 (by decide) _ _
    (eA := fun s => ((cfg0.win 0).blk (pt u s)).view.emb) (eB := fun s => ((cfg0.win 1).blk (pt u s)).view.emb)
    (p := u.val / 2) (q := u.val % 2) (fun s => ?_) (fun s => ?_) ?_ j)
  · refine congrArg₂ (fun x y => prod (M := 1152) (K := 2048) (N := 1024) x y j) ?_ ?_
    · exact funext fun i => congrFun (V_main_arg0 m c) (((cfg0.win 0).blk (pt u s)).view.emb i)
    · exact funext fun i => congrFun (weights m c) (((cfg0.win 1).blk (pt u s)).view.emb i)
  · refine (at_0 (pt u s)).to ?_ ?_
    · show (4 * u.val + s.val) / 8 = u.val / 2
      omega
    · show (4 * u.val + s.val) % 4 = s.val
      omega
  · refine (at_1 (pt u s)).to ?_ ?_
    · show (4 * u.val + s.val) % 4 = s.val
      omega
    · show (4 * u.val + s.val) / 4 % 2 = u.val % 2
      omega
  · refine (at_4 (pt u 3)).to ?_ ?_
    · show (4 * u.val + 3) / 8 = u.val / 2
      omega
    · show (4 * u.val + 3) / 4 % 2 = u.val % 2
      omega

/-- The bit a tile's choice of gates takes, and the row of gates it loads for the rows that aren't context. -/
def bit (t : Fin cfg0.N) : BitVec 1 :=
  Scalar.cmpi .eq (Scalar.select (Scalar.andi (Scalar.xori (Scalar.cmpi .slt (Scalar.remsi (BitVec.ofNat 32 (grid0.coords t 0).val) 2#32) 0#32) 0#1)
    (Scalar.cmpi .ne (Scalar.remsi (BitVec.ofNat 32 (grid0.coords t 0).val) 2#32) 0#32))
    (Scalar.addi (Scalar.remsi (BitVec.ofNat 32 (grid0.coords t 0).val) 2#32) 2#32) (Scalar.remsi (BitVec.ofNat 32 (grid0.coords t 0).val) 2#32)) 0#32
theorem bit_iff : ∀ t : Fin cfg0.N, bit t = 1#1 ↔ t.val / 8 % 2 = 0 := (by decide +kernel : ∀ t : Fin grid0.N, _)
theorem off_eq : ∀ t : Fin cfg0.N, k0_off1 (grid0.coords t) = ![0, t.val / 8 / 2, 0] := (by decide +kernel : ∀ t : Fin grid0.N, _)

theorem off_inb : ∀ (t : Fin cfg0.N) (a : Fin 3), k0_off1 (grid0.coords t) a + (![1, 1, 1024] : Fin 3 → ℕ) a ≤ (![1, 8, 1024] : Fin 3 → ℕ) a :=
  (by decide +kernel : ∀ t : Fin grid0.N, _)

/-- The block of gates a step finds. -/
theorem gates (c : Dev nD) (t : Fin cfg0.N) (k : S1x8x1024.Idx) : ∃ i : SGates.Idx, (iblk m c 3 t k : EReal) = m ((c : Thread nD τ).loc main_arg3) i
    ∧ (i 0).val = 5 ∧ (i 1).val = (k 1).val ∧ (i 2).val = t.val / 4 % 2 * 1024 + (k 2).val := by
  have h0 : (k 0).val < 1 := (k 0).isLt
  obtain ⟨w0, w1, w2⟩ := (place t).2.2.2.1
  refine ⟨((cfg0.win 3).blk t).view.emb k, congrFun (V_main_arg3 m c) (((cfg0.win 3).blk t).view.emb k), ?_, ?_, ?_⟩
  · show win0_3.index t (0 : Fin 3) * 1 + 1 * (k 0).val = 5
    omega
  · show win0_3.index t (1 : Fin 3) * 8 + 1 * (k 1).val = (k 1).val
    omega
  · show win0_3.index t (2 : Fin 3) * 1024 + 1 * (k 2).val = _
    omega

theorem out_last (c : Dev nD) (u : Fin 16) (j : S1152x1024.Idx) : ((outsAt0 m c (pt u 3).val (pt u 3).isLt).1 j : EReal)
    = res (m ((c : Thread nD τ).loc main_arg0)) (m ((c : Thread nD τ).loc main_arg1)) (m ((c : Thread nD τ).loc main_arg2))
      (m ((c : Thread nD τ).loc main_arg3)) (((cfg0.win 4).blk (pt u 3)).view.emb j) := by
  have h : (pt u 3).val % 4 = 3 := by show (4 * u.val + 3) % 4 = 3; omega
  rw [outsAt0_C m c (pt u 3) (by omega) (by omega) h]
  frame_out
  refine Eq.trans ?_ (gated_tile 5 (at_4 (pt u 3)) (bit (pt u 3)) (bit_iff _)
    (reads (iblk m c 3 (pt u 3)) (gates m c (pt u 3)) 4 _ rfl inb_S1x8x1024_S1x1x1024_0_4_0 shapeCasts_S1x1x1024_S1x1024)
    (reads (iblk m c 3 (pt u 3)) (gates m c (pt u 3)) _ _ (off_eq (pt u 3)) (off_inb (pt u 3)) shapeCasts_S1x1x1024_S1x1024) j)
  refine congrArg₂ (fun x y : EReal => x + y) ?_ (congrArg₂ (fun x y : EReal => x * y) (picked (bit (pt u 3)) _ _ _ _ _ _ _ _ _ j) ?_)
  · refine (congrFun (V_main_arg2 m c) (((cfg0.win 2).blk (pt u 3)).view.emb j)).trans (congrArg _ (idx_ext _ _ ?_ ?_))
    · exact ((at_2 (pt u 3)).row j).trans ((at_4 (pt u 3)).row j).symm
    · exact ((at_2 (pt u 3)).col j).trans ((at_4 (pt u 3)).col j).symm
  · refine Eq.trans ?_ (parts m c u j)
    refine congrArg₂ (fun x y : EReal => x + y) (Eq.trans ?_ (acc m c u j)) (pay_at _ _ j)
    exact congrFun ((Memref.isWhole_whole cc0_scratch0).read_unread (Val := Elt Ideal) _) j

theorem point : ∀ (a : Fin 8) (b : Fin 2), ∃ u : Fin 16, (pt u 3).val / 8 = a.val ∧ (pt u 3).val / 4 % 2 = b.val := by decide +kernel

theorem final (c : Dev nD) : (dats m 0 c).arrAt 4 cfg0.N = res (m ((c : Thread nD τ).loc main_arg0)) (m ((c : Thread nD τ).loc main_arg1))
    (m ((c : Thread nD τ).loc main_arg2)) (m ((c : Thread nD τ).loc main_arg3)) := by
  refine (dats m 0 c).arrAt_eq_of_cover 4 _ (fun t hf => ?_) (fun i => ?_)
  · have h := (flush0_4 t).mp hf
    have hN : t.val < 64 := lt_of_lt_of_eq t.isLt N_0
    obtain ⟨u, rfl⟩ : ∃ u : Fin 16, t = pt u 3 := ⟨⟨t.val / 4, by omega⟩, Fin.ext (show t.val = 4 * (t.val / 4) + 3 by omega)⟩
    exact (Value.flushed4 m c (pt u 3)).trans (funext fun j => out_last m c u j)
  · obtain ⟨u, j, e⟩ := covered (P := 8) (Q := 2) (by decide) (by decide) (fun u : Fin 16 => ((cfg0.win 4).blk (pt u 3)).view.emb) _ _
      (fun u => at_4 (pt u 3)) point i
    exact ⟨pt u 3, (flush0_4 _).mpr (by show (4 * u.val + 3) % 4 = 3; omega), e ▸ ((cfg0.win 4).blk (pt u 3)).view.emb_mem_set j⟩

section Reference
open Cert.DownRefIdeal.Read

variable (X : Vec Ideal S9216x8192 .bf16) (W : Vec Ideal S8192x2048 .f32) (H : Vec Ideal S9216x2048 .f32) (mod : Vec Ideal S6x8x2048 .f32)

theorem product_at (i : S9216x2048.Idx) : (val_main_v1 (F := Ideal) X W i : EReal) = prod (M := 9216) (K := 8192) (N := 2048) X W i :=
  (val_main_v1_apply X W i).trans (Finset.sum_congr rfl fun k _ =>
    congrArg₂ (fun x y : EReal => x * y) (congrArg X (idx_ext _ _ rfl rfl)) (congrArg W (idx_ext _ _ rfl rfl)))

theorem ref_eq : val_main_v22 (F := Ideal) X W H mod = res X W H mod := by
  unfold res val_main_v22 val_main_v21
  rw [← funext (product_at X W)]
  exact joined (context 5 mod H _ _ _ _ _ _ _ _ _) (others 5 mod H _ _ _ _ _ _ _ _) _ _

end Reference

theorem reference_frame : Cert.quiescent_DownRefIdeal (hDownRefIdeal := Cert.DownRefIdeal.Gen.facts) :=
  fun m ρ _ => (θ_run Cert.DownRefIdeal.defs _ _).mono
    (fun r h => ⟨fun c => (h c).2, sem_eq_zero_of_no_sems (by decide) r.2⟩) (Cert.DownRefIdeal.Value.run (F := Ideal) m ρ)

theorem results : Cert.algebraic_DownIdeal_DownRefIdeal (hDownIdeal := Cert.DownIdeal.Gen.facts) (hDownRefIdeal := Cert.DownRefIdeal.Gen.facts) := by
  intro m g m' g' _ hargs
  refine ⟨_, (θ_run defs _ _).mono (fun r h c => ⟨(h c).1.trans (final m c), (h c).2⟩) (Value.run_blocks m g), ?_⟩
  refine (θ_run Cert.DownRefIdeal.defs _ _).mono (fun r h c => ⟨(h c).1.trans ?_, (h c).2⟩) (Cert.DownRefIdeal.Value.run (F := Ideal) m' g')
  obtain ⟨h0, h1, h2, h3⟩ := hargs c
  refine (Cert.DownRefIdeal.Read.val_main_v22_eq _ _ _ _).trans ((ref_eq _ _ _ _).trans ?_)
  rw [h0, h1, h2, h3]

end Cert.DownIdeal.Mm
end
-- ==== Proof.Mm.Out.lean ====
/- The output projection: a product and the gated residual sum, tile by tile. -/
module

public import proofs.«01_k».proof.Defs
public import proofs.«01_k».proof.Proof.Gen.OutIdeal.Value
public import proofs.«01_k».proof.Proof.Gen.OutRefIdeal.Read
public import proofs.«01_k».proof.Proof.Mm.Gated
public import Idealize.ShloMosaic.Lib.Quiescent
public import Idealize.ShloMosaic.Adequacy
public import Idealize.ShloMosaic.Init

@[expose] public section
set_option maxRecDepth 16384
noncomputable section
namespace Cert.OutIdeal.Mm

open Idealize.ShloMosaic Idealize.ShloMosaic.TcCoe Idealize.SL.Sem
open Idealize.ShloMosaic.Pipeline (Dat)
open Cert.OutIdeal Cert.OutIdeal.Gen Cert.Mm

variable (m : (ℓ : Loc nD τ sig) → Buf (Elt Ideal) ℓ) (ρ : Dev nD → PrngReg)

/-- The result. -/
def res (X : Vec Ideal S9216x2048 .bf16) (W : Vec Ideal S2048x2048 .f32) (H : Vec Ideal S9216x2048 .f32) (mod : Vec Ideal S6x8x2048 .f32) :
    Vec Ideal S9216x2048 .f32 := gated 2 mod H (prod (M := 9216) (K := 2048) (N := 2048) X W)

theorem pay_at (a : Vec Ideal S1152x2048 .bf16) (b : Vec Ideal S2048x1024 .bf16) (j : S1152x1024.Idx) :
    (k0_pay2 a b j : EReal) = prod (M := 1152) (K := 2048) (N := 1024) a b j := by
  have e : shapeCast S2048x1024 b shapeCasts_S2048x1024_S2048x1024 = b := shapeCast_self ..
  unfold k0_pay2
  rw [e]
  exact mm_at a b j

/-- The weights reach the launch narrowed. -/
theorem weights (c : Dev nD) : V m c main_v0 = fun i => (m ((c : Thread nD τ).loc main_arg1) i : EReal) := by
  simp only [V, hostOps0]
  after_results
  rfl

theorem place : ∀ t : Fin cfg0.N, (win0_0.index t (0 : Fin 2) = win0_4.index t (0 : Fin 2) ∧ win0_0.index t (1 : Fin 2) = 0
    ∧ win0_1.index t (0 : Fin 2) = 0 ∧ win0_1.index t (1 : Fin 2) = win0_4.index t (1 : Fin 2))
    ∧ (win0_2.index t (0 : Fin 2) = win0_4.index t (0 : Fin 2) ∧ win0_2.index t (1 : Fin 2) = win0_4.index t (1 : Fin 2))
    ∧ (win0_3.index t (0 : Fin 3) = 2 ∧ win0_3.index t (1 : Fin 3) = 0 ∧ win0_3.index t (2 : Fin 3) = win0_4.index t (1 : Fin 2)) :=
  (by decide +kernel : ∀ t : Fin grid0.N, _)
theorem point : ∀ (a : Fin 8) (b : Fin 2), ∃ t : Fin cfg0.N, win0_4.index t (0 : Fin 2) = a.val ∧ win0_4.index t (1 : Fin 2) = b.val :=
  (by decide +kernel : ∀ (a : Fin 8) (b : Fin 2), ∃ t : Fin grid0.N, _)

theorem at_2 (t : Fin cfg0.N) : At (m := 1152) (n := 1024) (M := 9216) (N := 2048) ((cfg0.win 2).blk t).view.emb (win0_4.index t (0 : Fin 2)) (win0_4.index t (1 : Fin 2)) :=
  At.to ⟨fun _ => rfl, fun _ => rfl⟩ (place t).2.1.1 (place t).2.1.2
theorem at_4 (t : Fin cfg0.N) : At (m := 1152) (n := 1024) (M := 9216) (N := 2048) ((cfg0.win 4).blk t).view.emb (win0_4.index t (0 : Fin 2)) (win0_4.index t (1 : Fin 2)) :=
  ⟨fun _ => rfl, fun _ => rfl⟩

/-- The bit a tile's choice of gates takes, and the row of gates it loads for the rows that aren't context. -/
def bit (t : Fin cfg0.N) : BitVec 1 :=
  Scalar.cmpi .eq (Scalar.select (Scalar.andi (Scalar.xori (Scalar.cmpi .slt (Scalar.remsi (BitVec.ofNat 32 (grid0.coords t 0).val) 2#32) 0#32) 0#1)
    (Scalar.cmpi .ne (Scalar.remsi (BitVec.ofNat 32 (grid0.coords t 0).val) 2#32) 0#32))
    (Scalar.addi (Scalar.remsi (BitVec.ofNat 32 (grid0.coords t 0).val) 2#32) 2#32) (Scalar.remsi (BitVec.ofNat 32 (grid0.coords t 0).val) 2#32)) 0#32
theorem bit_iff : ∀ t : Fin cfg0.N, bit t = 1#1 ↔ win0_4.index t (0 : Fin 2) % 2 = 0 := (by decide +kernel : ∀ t : Fin grid0.N, _)
theorem off_eq : ∀ t : Fin cfg0.N, k0_off1 (grid0.coords t) = ![0, win0_4.index t (0 : Fin 2) / 2, 0] := (by decide +kernel : ∀ t : Fin grid0.N, _)
theorem off_inb : ∀ (t : Fin cfg0.N) (a : Fin 3), k0_off1 (grid0.coords t) a + (![1, 1, 1024] : Fin 3 → ℕ) a ≤ (![1, 8, 1024] : Fin 3 → ℕ) a :=
  (by decide +kernel : ∀ t : Fin grid0.N, _)

/-- The block of gates a tile finds. -/
theorem gates (c : Dev nD) (t : Fin cfg0.N) (k : S1x8x1024.Idx) : ∃ i : SGates.Idx, (iblk m c 3 t k : EReal) = m ((c : Thread nD τ).loc main_arg3) i
    ∧ (i 0).val = 2 ∧ (i 1).val = (k 1).val ∧ (i 2).val = win0_4.index t (1 : Fin 2) * 1024 + (k 2).val := by
  have h0 : (k 0).val < 1 := (k 0).isLt
  obtain ⟨w0, w1, w2⟩ := (place t).2.2
  refine ⟨((cfg0.win 3).blk t).view.emb k, congrFun (V_main_arg3 m c) (((cfg0.win 3).blk t).view.emb k), ?_, ?_, ?_⟩
  · show win0_3.index t (0 : Fin 3) * 1 + 1 * (k 0).val = 2
    omega
  · show win0_3.index t (1 : Fin 3) * 8 + 1 * (k 1).val = (k 1).val
    omega
  · show win0_3.index t (2 : Fin 3) * 1024 + 1 * (k 2).val = _
    omega

theorem out_at (c : Dev nD) (t : Fin cfg0.N) (j : S1152x1024.Idx) : (outsAt0 m c t j : EReal)
    = res (m ((c : Thread nD τ).loc main_arg0)) (m ((c : Thread nD τ).loc main_arg1)) (m ((c : Thread nD τ).loc main_arg2))
      (m ((c : Thread nD τ).loc main_arg3)) (((cfg0.win 4).blk t).view.emb j) := by
  unfold outsAt0
  frame_out
  refine Eq.trans ?_ (gated_tile 2 (at_4 t) (bit t) (bit_iff _)
    (reads (iblk m c 3 t) (gates m c t) 4 _ rfl inb_S1x8x1024_S1x1x1024_0_4_0 shapeCasts_S1x1x1024_S1x1024)
    (reads (iblk m c 3 t) (gates m c t) _ _ (off_eq t) (off_inb t) shapeCasts_S1x1x1024_S1x1024) j)
  refine congrArg₂ (fun x y : EReal => x + y) ?_ (congrArg₂ (fun x y : EReal => x * y) (picked (bit t) _ _ _ _ _ _ _ _ _ j) ?_)
  · refine (congrFun (V_main_arg2 m c) (((cfg0.win 2).blk t).view.emb j)).trans (congrArg _ (idx_ext _ _ ?_ ?_))
    · exact ((at_2 t).row j).trans ((at_4 t).row j).symm
    · exact ((at_2 t).col j).trans ((at_4 t).col j).symm
  · refine (pay_at _ _ j).trans (Eq.trans ?_ (prod_tile _ _ (eA := ((cfg0.win 0).blk t).view.emb) (eB := ((cfg0.win 1).blk t).view.emb)
      ⟨fun _ => rfl, fun _ => rfl⟩ ⟨fun _ => rfl, fun _ => rfl⟩ (at_4 t) (place t).1 j))
    refine congrArg₂ (fun x y => prod (M := 1152) (K := 2048) (N := 1024) x y j) ?_ ?_
    · exact funext fun i => congrFun (V_main_arg0 m c) (((cfg0.win 0).blk t).view.emb i)
    · exact funext fun i => congrFun (weights m c) (((cfg0.win 1).blk t).view.emb i)

theorem final (c : Dev nD) : (dats m 0 c).arrAt 4 cfg0.N = res (m ((c : Thread nD τ).loc main_arg0)) (m ((c : Thread nD τ).loc main_arg1))
    (m ((c : Thread nD τ).loc main_arg2)) (m ((c : Thread nD τ).loc main_arg3)) := by
  refine (dats m 0 c).arrAt_eq_of_cover 4 _ (fun t _ => ?_) (fun i => ?_)
  · exact (Value.flushed4 m c t).trans (funext fun j => out_at m c t j)
  · obtain ⟨t, j, e⟩ := covered (P := 8) (Q := 2) (by decide) (by decide) (fun t => ((cfg0.win 4).blk t).view.emb) _ _ at_4 point i
    exact ⟨t, flush0_4 t, e ▸ ((cfg0.win 4).blk t).view.emb_mem_set j⟩

section Reference
open Cert.OutRefIdeal.Read

variable (X : Vec Ideal S9216x2048 .bf16) (W : Vec Ideal S2048x2048 .f32) (H : Vec Ideal S9216x2048 .f32) (mod : Vec Ideal S6x8x2048 .f32)

theorem product_at (i : S9216x2048.Idx) : (val_main_v1 (F := Ideal) X W i : EReal) = prod (M := 9216) (K := 2048) (N := 2048) X W i :=
  (val_main_v1_apply X W i).trans (Finset.sum_congr rfl fun k _ =>
    congrArg₂ (fun x y : EReal => x * y) (congrArg X (idx_ext _ _ rfl rfl)) (congrArg W (idx_ext _ _ rfl rfl)))

theorem ref_eq : val_main_v22 (F := Ideal) X W H mod = res X W H mod := by
  unfold res val_main_v22 val_main_v21
  rw [← funext (product_at X W)]
  exact joined (context 2 mod H _ _ _ _ _ _ _ _ _) (others 2 mod H _ _ _ _ _ _ _ _) _ _

end Reference

theorem reference_frame : Cert.quiescent_OutRefIdeal (hOutRefIdeal := Cert.OutRefIdeal.Gen.facts) :=
  fun m ρ _ => (θ_run Cert.OutRefIdeal.defs _ _).mono
    (fun r h => ⟨fun c => (h c).2, sem_eq_zero_of_no_sems (by decide) r.2⟩) (Cert.OutRefIdeal.Value.run (F := Ideal) m ρ)

theorem results : Cert.algebraic_OutIdeal_OutRefIdeal (hOutIdeal := Cert.OutIdeal.Gen.facts) (hOutRefIdeal := Cert.OutRefIdeal.Gen.facts) := by
  intro m g m' g' _ hargs
  refine ⟨_, (θ_run defs _ _).mono (fun r h c => ⟨(h c).1.trans (final m c), (h c).2⟩) (Value.run_blocks m g), ?_⟩
  refine (θ_run Cert.OutRefIdeal.defs _ _).mono (fun r h c => ⟨(h c).1.trans ?_, (h c).2⟩) (Cert.OutRefIdeal.Value.run (F := Ideal) m' g')
  obtain ⟨h0, h1, h2, h3⟩ := hargs c
  refine (Cert.OutRefIdeal.Read.val_main_v22_eq _ _ _ _).trans ((ref_eq _ _ _ _).trans ?_)
  rw [h0, h1, h2, h3]

end Cert.OutIdeal.Mm
end
-- ==== Proof.Mm.Merge.lean ====
/- The merge of the three branches: a product for each, weighed by its gate, and their sum, tile by tile. -/
module

public import proofs.«01_k».proof.Defs
public import proofs.«01_k».proof.Proof.Gen.MergeIdeal.Value
public import proofs.«01_k».proof.Proof.Gen.MergeRefIdeal.Read
public import proofs.«01_k».proof.Proof.Mm.Tiles
public import Idealize.ShloMosaic.Lib.Quiescent
public import Idealize.ShloMosaic.Adequacy
public import Idealize.ShloMosaic.Init

@[expose] public section
set_option maxRecDepth 16384
noncomputable section
namespace Cert.MergeIdeal.Mm

open Idealize.ShloMosaic hiding ix2 ix3
open Idealize.ShloMosaic.ValueIdx
open Idealize.ShloMosaic.TcCoe Idealize.SL.Sem
open Cert.MergeIdeal Cert.MergeIdeal.Gen Cert.Mm

variable (m : (ℓ : Loc nD τ sig) → Buf (Elt Ideal) ℓ)

/-- The columns of the gates that belong to branch `n`. -/
def gateOf (n : Fin 3) (i : S9216x2048.Idx) : S9216x6144.Idx :=
  shift (M := 9216) (N := 2048) (L := 6144) (n.val * 2048) (by omega) i

/-- The weights of branch `n`. -/
def weightsOf (n : Fin 3) (W : Vec Ideal S3x1024x2048 .f32) (l : Shape.Idx ⟨2, ![1024, 2048]⟩) : EReal := W (ix3 n (l 0 : Fin 1024) (l 1 : Fin 2048))

/-- What branch `n`, with rows `Y`, gives to the result. -/
def share (n : Fin 3) (Y : Vec Ideal S9216x1024 .bf16) (P : Vec Ideal S9216x6144 .f32) (W : Vec Ideal S3x1024x2048 .f32) (i : S9216x2048.Idx) : EReal :=
  Ideal.logistic (P (gateOf n i)) * prod (M := 9216) (K := 1024) (N := 2048) Y (weightsOf n W) i

/-- The result. -/
def res (Y : Fin 3 → Vec Ideal S9216x1024 .bf16) (P : Vec Ideal S9216x6144 .f32) (W : Vec Ideal S3x1024x2048 .f32) : Vec Ideal S9216x2048 .bf16 :=
  fun i => ∑ n, share n (Y n) P W i

/-- One branch's part of a tile: its gates' block and its product's. -/
def part (y : FVec Ideal S768x1024 .bf16) (x : FVec Ideal S1x1024x512 .bf16) (g : FVec Ideal S768x512 .f32) : FVec Ideal S768x512 .f32 :=
  mulf (logistic g) (matmul dot_S768x1024_S1024x512_S768x512_1_0_0_1_n_n none y (shapeCast S1024x512 x shapeCasts_S1x1024x512_S1024x512)
    (constant S768x512 .f32 0x00000000#32))

theorem part_at (y : FVec Ideal S768x1024 .bf16) (x : FVec Ideal S1x1024x512 .bf16) (g : FVec Ideal S768x512 .f32) (j : S768x512.Idx) :
    (part y x g j : EReal) = Ideal.logistic (g j) * prod (M := 768) (K := 1024) (N := 512) y (fun l => x (ix3 (0 : Fin 1) (l 0 : Fin 1024) (l 1 : Fin 512))) j := by
  refine congrArg (fun z : EReal => Ideal.logistic (g j) * z) ((mm_at (M := 768) (K := 1024) (N := 512) y _ j).trans ?_)
  refine congrArg (fun z => prod (M := 768) (K := 1024) (N := 512) y z j) (funext fun l => ?_)
  refine shapeCast_apply x shapeCasts_S1x1024x512_S1024x512 l (ix3 (0 : Fin 1) (l 0 : Fin 1024) (l 1 : Fin 512)) ?_
  rewrite [Shape.rowMajor_val_three, Shape.rowMajor_val_two]
  show (0 * 1024 + (l 0).val) * 512 + (l 1).val = (l 0).val * 512 + (l 1).val
  omega

theorem out_eq (y0 y1 y2 : Vec Ideal S768x1024 .bf16) (x : Vec Ideal S3x1024x512 .bf16) (g0 g1 g2 : Vec Ideal S768x512 .f32) (j : S768x512.Idx) :
    (out0_7 y0 y1 y2 x g0 g1 g2 j : EReal) = part y0 (View.ld x r0_1) g0 j + part y1 (View.ld x r0_3) g1 j + part y2 (View.ld x r0_4) g2 j := by
  have hz : (![0, 0] : Fin 2 → ℕ) = fun _ => 0 := by decide
  unfold out0_7
  rw [View.canon_unit_zero hz, View.ld_unit_zero hz, View.ld_unit_zero hz, View.ld_unit_zero hz, View.ld_unit_zero hz,
    View.ld_unit_zero hz, View.ld_unit_zero hz]
  rfl

/-- The weights reach the launch narrowed. -/
theorem weights (c : Dev nD) : V m c main_v0 = fun i => (m ((c : Thread nD τ).loc main_arg4) i : EReal) := by
  simp only [V, hostOps0]
  after_results
  rfl

theorem rows : ∀ t : Fin cfg0.N, (win0_0.index t (0 : Fin 2) = win0_7.index t (0 : Fin 2) ∧ win0_0.index t (1 : Fin 2) = 0)
    ∧ (win0_1.index t (0 : Fin 2) = win0_7.index t (0 : Fin 2) ∧ win0_1.index t (1 : Fin 2) = 0)
    ∧ (win0_2.index t (0 : Fin 2) = win0_7.index t (0 : Fin 2) ∧ win0_2.index t (1 : Fin 2) = 0) :=
  (by decide +kernel : ∀ t : Fin grid0.N, _)
theorem gates : ∀ t : Fin cfg0.N, (win0_4.index t (0 : Fin 2) = win0_7.index t (0 : Fin 2) ∧ win0_4.index t (1 : Fin 2) = 0 * 4 + win0_7.index t (1 : Fin 2))
    ∧ (win0_5.index t (0 : Fin 2) = win0_7.index t (0 : Fin 2) ∧ win0_5.index t (1 : Fin 2) = 1 * 4 + win0_7.index t (1 : Fin 2))
    ∧ (win0_6.index t (0 : Fin 2) = win0_7.index t (0 : Fin 2) ∧ win0_6.index t (1 : Fin 2) = 2 * 4 + win0_7.index t (1 : Fin 2)) :=
  (by decide +kernel : ∀ t : Fin grid0.N, _)
theorem place : ∀ t : Fin cfg0.N, win0_3.index t (0 : Fin 3) = 0 ∧ win0_3.index t (1 : Fin 3) = 0 ∧ win0_3.index t (2 : Fin 3) = win0_7.index t (1 : Fin 2) :=
  (by decide +kernel : ∀ t : Fin grid0.N, _)
theorem point : ∀ (a : Fin 12) (b : Fin 4), ∃ t : Fin cfg0.N, win0_7.index t (0 : Fin 2) = a.val ∧ win0_7.index t (1 : Fin 2) = b.val :=
  (by decide +kernel : ∀ (a : Fin 12) (b : Fin 4), ∃ t : Fin grid0.N, _)

theorem at_7 (t : Fin cfg0.N) : At (m := 768) (n := 512) (M := 9216) (N := 2048) ((cfg0.win 7).blk t).view.emb (win0_7.index t (0 : Fin 2)) (win0_7.index t (1 : Fin 2)) :=
  ⟨fun _ => rfl, fun _ => rfl⟩

/-- The weights of branch `n` that a tile finds: a band of their columns. -/
theorem band (c : Dev nD) (t : Fin cfg0.N) (n : Fin 3) (o : Fin 3 → ℕ) (ho : o = ![n.val, 0, 0]) (inb) :
    ∃ e : Shape.Idx ⟨2, ![1024, 512]⟩ → Shape.Idx ⟨2, ![1024, 2048]⟩, At e 0 (win0_7.index t (1 : Fin 2)) ∧ ∀ l,
      ((View.ld (iblk m c 3 t) (Rect.unit (s := S3x1024x512) o ![1, 1024, 512] inb) : Vec Ideal S1x1024x512 .bf16)
        (ix3 (0 : Fin 1) (l 0 : Fin 1024) (l 1 : Fin 512)) : EReal) = weightsOf n (m ((c : Thread nD τ).loc main_arg4)) (e l) := by
  subst ho
  obtain ⟨w0, w1, w2⟩ := place t
  let k (l : Shape.Idx ⟨2, ![1024, 512]⟩) : S3x1024x512.Idx := (Rect.unit (s := S3x1024x512) ![n.val, 0, 0] ![1, 1024, 512] inb).idx
    (ix3 (0 : Fin 1) (l 0 : Fin 1024) (l 1 : Fin 512))
  let w (l) : S3x1024x2048.Idx := ((cfg0.win 3).blk t).view.emb (k l)
  refine ⟨fun l => ix2 (w l 1 : Fin 1024) (w l 2 : Fin 2048), ⟨fun l => ?_, fun l => ?_⟩, fun l => ?_⟩
  · show win0_3.index t (1 : Fin 3) * 1024 + 1 * (0 + 1 * (l 0).val) = 0 * 1024 + 1 * (l 0).val
    omega
  · show win0_3.index t (2 : Fin 3) * 512 + 1 * (0 + 1 * (l 1).val) = win0_7.index t (1 : Fin 2) * 512 + 1 * (l 1).val
    omega
  · refine (congrFun (weights m c) (w l)).trans (congrArg (m ((c : Thread nD τ).loc main_arg4)) (funext fun a => Fin.ext ?_))
    match a with
    | ⟨0, _⟩ =>
      show win0_3.index t (0 : Fin 3) * 3 + 1 * (n.val + 1 * 0) = n.val
      omega
    | ⟨1, _⟩ => rfl
    | ⟨2, _⟩ => rfl

/-- One branch's part of a tile is its share of the result there. -/
theorem part_eq (c : Dev nD) (t : Fin cfg0.N) (n : Fin 3) (o : Fin 3 → ℕ) (ho : o = ![n.val, 0, 0]) (inb)
    (Y : Vec Ideal S9216x1024 .bf16) (P : Vec Ideal S9216x6144 .f32) (y : Vec Ideal S768x1024 .bf16) (g : Vec Ideal S768x512 .f32)
    (eY : Shape.Idx ⟨2, ![768, 1024]⟩ → Shape.Idx ⟨2, ![9216, 1024]⟩) (eP : Shape.Idx ⟨2, ![768, 512]⟩ → Shape.Idx ⟨2, ![9216, 6144]⟩)
    (hY : At eY (win0_7.index t (0 : Fin 2)) 0) (hP : At eP (win0_7.index t (0 : Fin 2)) (n.val * 4 + win0_7.index t (1 : Fin 2)))
    (hy : ∀ i, (y i : EReal) = Y (eY i)) (hg : ∀ i, (g i : EReal) = P (eP i)) (j : S768x512.Idx) :
    (part y (View.ld (iblk m c 3 t) (Rect.unit (s := S3x1024x512) o ![1, 1024, 512] inb)) g j : EReal)
      = share n Y P (m ((c : Thread nD τ).loc main_arg4)) (((cfg0.win 7).blk t).view.emb j) := by
  obtain ⟨e, he, hw⟩ := band m c t n o ho inb
  refine (part_at _ _ _ j).trans (congrArg₂ (fun u v : EReal => Ideal.logistic u * v) ?_ ?_)
  · refine (hg j).trans (congrArg P (idx_ext _ _ ?_ ?_))
    · exact (hP.row j).trans ((at_7 t).row j).symm
    · refine (hP.col j).trans (Eq.trans ?_ (congrArg (fun z => n.val * 2048 + z) ((at_7 t).col j).symm))
      omega
  · refine Eq.trans ?_ (prod_tile Y (weightsOf n (m ((c : Thread nD τ).loc main_arg4))) hY he (at_7 t) ⟨rfl, rfl, rfl, rfl⟩ j)
    exact congrArg₂ (fun u v => prod (M := 768) (K := 1024) (N := 512) u v j) (funext hy) (funext hw)

/-- The branches' rows, in their order. -/
def rowsOf (c : Dev nD) : Fin 3 → Vec Ideal S9216x1024 .bf16 :=
  ![m ((c : Thread nD τ).loc main_arg0), m ((c : Thread nD τ).loc main_arg1), m ((c : Thread nD τ).loc main_arg2)]

theorem out_at (c : Dev nD) (t : Fin cfg0.N) (j : S768x512.Idx) :
    (out0_7 (iblk m c 0 t) (iblk m c 1 t) (iblk m c 2 t) (iblk m c 3 t) (iblk m c 4 t) (iblk m c 5 t) (iblk m c 6 t) j : EReal)
      = res (rowsOf m c) (m ((c : Thread nD τ).loc main_arg3)) (m ((c : Thread nD τ).loc main_arg4)) (((cfg0.win 7).blk t).view.emb j) := by
  obtain ⟨r0, r1, r2⟩ := rows t
  obtain ⟨g0, g1, g2⟩ := gates t
  refine (out_eq _ _ _ _ _ _ _ j).trans (Eq.trans ?_ (Fin.sum_univ_three _).symm)
  refine congrArg₂ (fun u v : EReal => u + v) (congrArg₂ (fun u v : EReal => u + v) ?_ ?_) ?_
  · exact part_eq m c t 0 _ rfl _ _ _ _ _ ((cfg0.win 0).blk t).view.emb ((cfg0.win 4).blk t).view.emb
      (At.to ⟨fun _ => rfl, fun _ => rfl⟩ r0.1 r0.2) (At.to ⟨fun _ => rfl, fun _ => rfl⟩ g0.1 g0.2)
      (fun i => congrFun (V_main_arg0 m c) (((cfg0.win 0).blk t).view.emb i)) (fun i => congrFun (V_main_arg3 m c) (((cfg0.win 4).blk t).view.emb i)) j
  · exact part_eq m c t 1 _ rfl _ _ _ _ _ ((cfg0.win 1).blk t).view.emb ((cfg0.win 5).blk t).view.emb
      (At.to ⟨fun _ => rfl, fun _ => rfl⟩ r1.1 r1.2) (At.to ⟨fun _ => rfl, fun _ => rfl⟩ g1.1 g1.2)
      (fun i => congrFun (V_main_arg1 m c) (((cfg0.win 1).blk t).view.emb i)) (fun i => congrFun (V_main_arg3 m c) (((cfg0.win 5).blk t).view.emb i)) j
  · exact part_eq m c t 2 _ rfl _ _ _ _ _ ((cfg0.win 2).blk t).view.emb ((cfg0.win 6).blk t).view.emb
      (At.to ⟨fun _ => rfl, fun _ => rfl⟩ r2.1 r2.2) (At.to ⟨fun _ => rfl, fun _ => rfl⟩ g2.1 g2.2)
      (fun i => congrFun (V_main_arg2 m c) (((cfg0.win 2).blk t).view.emb i)) (fun i => congrFun (V_main_arg3 m c) (((cfg0.win 6).blk t).view.emb i)) j

theorem final (c : Dev nD) : (dats m 0 c).arrAt 7 cfg0.N
    = res (rowsOf m c) (m ((c : Thread nD τ).loc main_arg3)) (m ((c : Thread nD τ).loc main_arg4)) := by
  refine (dats m 0 c).arrAt_eq_of_cover 7 _ (fun t _ => ?_) (fun i => ?_)
  · exact (Value.flushed7 m c t).trans (funext fun j => out_at m c t j)
  · obtain ⟨t, j, e⟩ := covered (P := 12) (Q := 4) (by decide) (by decide) (fun t => ((cfg0.win 7).blk t).view.emb) _ _ at_7 point i
    exact ⟨t, flush0_7 t, e ▸ ((cfg0.win 7).blk t).view.emb_mem_set j⟩

section Reference
open Cert.MergeRefIdeal.Read

variable (X0 X1 X2 : Vec Ideal S9216x1024 .bf16) (P : Vec Ideal S9216x6144 .f32) (W : Vec Ideal S3x1024x2048 .f32)

/-- The stack of the branches' rows. -/
theorem stack_at (n : Fin 3) (k : Shape.Idx ⟨3, ![9216, 3, 1024]⟩) (hn : (k 1).val = n.val) :
    (val_main_v13 (F := Ideal) X0 X1 X2 k : EReal) = (![X0, X1, X2] : Fin 3 → Vec Ideal S9216x1024 .bf16) n (ix2 (k 0 : Fin 9216) (k 2 : Fin 1024)) := by
  unfold val_main_v13
  refine concatenate_unit_eq _ _ _ _ _ rfl ⟨fun h _ i _ hb => ?_, fun h _ i _ hb => ?_, fun h _ i _ hb => ?_, trivial⟩
  · obtain rfl : n = 0 := Fin.ext (hn.symm.trans h)
    exact (val_main_v10_apply X0 i).trans (congrArg X0 (idx_ext _ _ (hb 0 (by decide)) (hb 2 (by decide))))
  · obtain rfl : n = 1 := Fin.ext (hn.symm.trans h)
    exact (val_main_v11_apply X1 i).trans (congrArg X1 (idx_ext _ _ (hb 0 (by decide)) (hb 2 (by decide))))
  · obtain rfl : n = 2 := Fin.ext (hn.symm.trans h)
    exact (val_main_v12_apply X2 i).trans (congrArg X2 (idx_ext _ _ (hb 0 (by decide)) (hb 2 (by decide))))

theorem gate_at (n : Fin 3) (i : S9216x2048.Idx) : (val_main_v6 (F := Ideal) P (idx_main_v17 i n) : EReal) = Ideal.logistic (P (gateOf n i)) := by
  have h1 : (i 1).val < 2048 := (i 1).isLt
  have e : idx_main_v0 (idx_main_v17 i n) = gateOf n i := idx_ext _ _
    (show (((i 0).val * 3 + n.val) * 2048 + (i 1).val) / 6144 = (i 0).val by omega)
    (show (((i 0).val * 3 + n.val) * 2048 + (i 1).val) % 6144 = n.val * 2048 + (i 1).val by omega)
  rw [val_main_v6_apply, val_main_v5_apply, val_main_v4_apply, val_main_v3_apply, val_main_v2_apply, val_main_v1_apply, val_main_v0_apply, e]
  show Ideal.div (Ideal.ofBits .f32 0x3F800000#32) (Ideal.ofBits .f32 0x3F800000#32 + Ideal.exp (-(P (gateOf n i) : EReal))) = _
  rw [Ideal.ofBits_one_f32]; rfl

theorem product_at (n : Fin 3) (i : S9216x2048.Idx) : (val_main_v15 (F := Ideal) X0 X1 X2 W (idx_main_v17 i n) : EReal)
    = prod (M := 9216) (K := 1024) (N := 2048) ((![X0, X1, X2] : Fin 3 → Vec Ideal S9216x1024 .bf16) n) (weightsOf n W) i := by
  refine (val_main_v15_apply X0 X1 X2 W _).trans ((val_main_v14_apply X0 X1 X2 W _).trans (Finset.sum_congr rfl fun k _ => ?_))
  refine (mul_comm _ _).trans (congrArg₂ (fun x y : EReal => x * y) ((stack_at X0 X1 X2 n _ rfl).trans (congrArg _ (idx_ext _ _ rfl rfl))) (congrArg W ?_))
  exact funext fun a => Fin.ext (match a with
    | ⟨0, _⟩ => rfl
    | ⟨1, _⟩ => rfl
    | ⟨2, _⟩ => rfl)

theorem ref_eq : val_main_v18 (F := Ideal) X0 X1 X2 P W = res ![X0, X1, X2] P W := by
  funext i
  refine (val_main_v17_apply X0 X1 X2 P W i).trans ?_
  refine (congrArg (fun z : EReal => z + _) Ideal.ofBits_zero_f32).trans ((zero_add _).trans (Finset.sum_congr rfl fun n _ => ?_))
  exact congrArg₂ (fun x y : EReal => x * y) (gate_at P n i) (product_at X0 X1 X2 W n i)

end Reference

theorem reference_frame : Cert.quiescent_MergeRefIdeal (hMergeRefIdeal := Cert.MergeRefIdeal.Gen.facts) :=
  fun m ρ _ => (θ_run Cert.MergeRefIdeal.defs _ _).mono
    (fun r h => ⟨fun c => (h c).2, sem_eq_zero_of_no_sems (by decide) r.2⟩) (Cert.MergeRefIdeal.Value.run (F := Ideal) m ρ)

theorem results : Cert.algebraic_MergeIdeal_MergeRefIdeal (hMergeIdeal := Cert.MergeIdeal.Gen.facts) (hMergeRefIdeal := Cert.MergeRefIdeal.Gen.facts) := by
  intro m g m' g' _ hargs
  refine ⟨_, (θ_run defs _ _).mono (fun r h c => ⟨(h c).1.trans (final m c), (h c).2⟩) (Value.run_blocks m g), ?_⟩
  refine (θ_run Cert.MergeRefIdeal.defs _ _).mono (fun r h c => ⟨(h c).1.trans ?_, (h c).2⟩) (Cert.MergeRefIdeal.Value.run (F := Ideal) m' g')
  obtain ⟨h0, h1, h2, h3, h4⟩ := hargs c
  refine (Cert.MergeRefIdeal.Read.val_main_v18_eq _ _ _ _ _).trans ((ref_eq _ _ _ _ _).trans ?_)
  rw [h0, h1, h2, h3, h4]
  rfl

end Cert.MergeIdeal.Mm
end
-- ==== Proof.lean ====
/- The proof that the kernels and their references compute the same arrays: the frames, and for each kernel the equation of
   the two results. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.Up.Frame
public import proofs.«01_k».proof.Proof.Gen.UpIdeal.Value
public import proofs.«01_k».proof.Proof.Gen.UpRefIdeal.Read
public import proofs.«01_k».proof.Proof.Gen.Down.Frame
public import proofs.«01_k».proof.Proof.Gen.DownIdeal.Value
public import proofs.«01_k».proof.Proof.Gen.DownRefIdeal.Read
public import proofs.«01_k».proof.Proof.Gen.InRet.Frame
public import proofs.«01_k».proof.Proof.Gen.InSwa.Frame
public import proofs.«01_k».proof.Proof.Gen.InRkv.Frame
public import proofs.«01_k».proof.Proof.Gen.InSmall.Frame
public import proofs.«01_k».proof.Proof.Gen.InGate.Frame
public import proofs.«01_k».proof.Proof.Gen.InRetIdeal.Value
public import proofs.«01_k».proof.Proof.Gen.InSwaIdeal.Value
public import proofs.«01_k».proof.Proof.Gen.InRkvIdeal.Value
public import proofs.«01_k».proof.Proof.Gen.InSmallIdeal.Value
public import proofs.«01_k».proof.Proof.Gen.InGateIdeal.Value
public import proofs.«01_k».proof.Proof.Gen.InRetRefIdeal.Read
public import proofs.«01_k».proof.Proof.Gen.InSwaRefIdeal.Read
public import proofs.«01_k».proof.Proof.Gen.InRkvRefIdeal.Read
public import proofs.«01_k».proof.Proof.Gen.InSmallRefIdeal.Read
public import proofs.«01_k».proof.Proof.Gen.InGateRefIdeal.Read
public import proofs.«01_k».proof.Proof.Gen.Out.Frame
public import proofs.«01_k».proof.Proof.Gen.OutIdeal.Value
public import proofs.«01_k».proof.Proof.Gen.OutRefIdeal.Read
public import proofs.«01_k».proof.Proof.Gen.Merge.Frame
public import proofs.«01_k».proof.Proof.Gen.MergeIdeal.Value
public import proofs.«01_k».proof.Proof.Gen.MergeRefIdeal.Read
public import proofs.«01_k».proof.Proof.Ret.Same
public import proofs.«01_k».proof.Proof.Ret.Twin
public import proofs.«01_k».proof.Proof.Mm.InRet
public import proofs.«01_k».proof.Proof.Mm.InSwa
public import proofs.«01_k».proof.Proof.Mm.InRkv
public import proofs.«01_k».proof.Proof.Mm.InSmall
public import proofs.«01_k».proof.Proof.Mm.InGate
public import proofs.«01_k».proof.Proof.Mm.Up
public import proofs.«01_k».proof.Proof.Mm.Down
public import proofs.«01_k».proof.Proof.Mm.Out
public import proofs.«01_k».proof.Proof.Mm.Merge
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged and no semaphore raised. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- Both programs end with the same result. -/
theorem results : Cert.algebraic_KernelIdeal_ReferenceIdeal (hKernelIdeal := Cert.KernelIdeal.Gen.facts)
    (hReferenceIdeal := Cert.ReferenceIdeal.Gen.facts) := by
  intro m g m' g' _ hargs
  refine ⟨_, Cert.KernelIdeal.Ret.run_value m g, ?_⟩
  refine (θ_run Cert.ReferenceIdeal.defs _ _).mono (fun r h c => ⟨(h c).1.trans ?_, (h c).2⟩)
    (Cert.ReferenceIdeal.Value.run (F := Ideal) m' g')
  refine (Cert.ReferenceIdeal.Read.val_main_v245_eq _).trans ?_
  refine (Cert.Ret.same _ _).symm.trans ?_
  exact congrArg₂ Cert.KernelIdeal.Ret.outArr (hargs c).1 (hargs c).2

theorem claim : Cert.Claim := ⟨Cert.Kernel.Gen.facts, Cert.KernelIdeal.Gen.facts, Cert.ReferenceIdeal.Gen.facts,
  Cert.InRet.Gen.facts, Cert.InRetIdeal.Gen.facts, Cert.InRetRefIdeal.Gen.facts,
  Cert.InSwa.Gen.facts, Cert.InSwaIdeal.Gen.facts, Cert.InSwaRefIdeal.Gen.facts,
  Cert.InRkv.Gen.facts, Cert.InRkvIdeal.Gen.facts, Cert.InRkvRefIdeal.Gen.facts,
  Cert.InSmall.Gen.facts, Cert.InSmallIdeal.Gen.facts, Cert.InSmallRefIdeal.Gen.facts,
  Cert.InGate.Gen.facts, Cert.InGateIdeal.Gen.facts, Cert.InGateRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Out.Gen.facts, Cert.OutIdeal.Gen.facts, Cert.OutRefIdeal.Gen.facts,
  Cert.Merge.Gen.facts, Cert.MergeIdeal.Gen.facts, Cert.MergeRefIdeal.Gen.facts,
  fun m ρ _ => Cert.Ret.Twin.frame m ρ, fun m ρ _ => Cert.KernelIdeal.Ret.frame_claim m ρ, reference_frame,
  fun m ρ _ => Cert.InRet.Gen.frame m ρ, fun m ρ _ => Cert.InRetIdeal.Gen.frame m ρ, Cert.InRetIdeal.Mm.reference_frame,
  fun m ρ _ => Cert.InSwa.Gen.frame m ρ, fun m ρ _ => Cert.InSwaIdeal.Gen.frame m ρ, Cert.InSwaIdeal.Mm.reference_frame,
  fun m ρ _ => Cert.InRkv.Gen.frame m ρ, fun m ρ _ => Cert.InRkvIdeal.Gen.frame m ρ, Cert.InRkvIdeal.Mm.reference_frame,
  fun m ρ _ => Cert.InSmall.Gen.frame m ρ, fun m ρ _ => Cert.InSmallIdeal.Gen.frame m ρ, Cert.InSmallIdeal.Mm.reference_frame,
  fun m ρ _ => Cert.InGate.Gen.frame m ρ, fun m ρ _ => Cert.InGateIdeal.Gen.frame m ρ, Cert.InGateIdeal.Mm.reference_frame,
  fun m ρ _ => Cert.Up.Gen.frame m ρ, fun m ρ _ => Cert.UpIdeal.Gen.frame m ρ, Cert.UpIdeal.Mm.reference_frame,
  fun m ρ _ => Cert.Down.Gen.frame m ρ, fun m ρ _ => Cert.DownIdeal.Gen.frame m ρ, Cert.DownIdeal.Mm.reference_frame,
  fun m ρ _ => Cert.Out.Gen.frame m ρ, fun m ρ _ => Cert.OutIdeal.Gen.frame m ρ, Cert.OutIdeal.Mm.reference_frame,
  fun m ρ _ => Cert.Merge.Gen.frame m ρ, fun m ρ _ => Cert.MergeIdeal.Gen.frame m ρ, Cert.MergeIdeal.Mm.reference_frame,
  trivial, results,
  trivial, Cert.InRetIdeal.Mm.results,
  trivial, Cert.InSwaIdeal.Mm.results,
  trivial, Cert.InRkvIdeal.Mm.results,
  trivial, Cert.InSmallIdeal.Mm.results,
  trivial, Cert.InGateIdeal.Mm.results,
  trivial, Cert.UpIdeal.Mm.results,
  trivial, Cert.DownIdeal.Mm.results,
  trivial, Cert.OutIdeal.Mm.results,
  trivial, Cert.MergeIdeal.Mm.results⟩

end Cert.Proof

end
